-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 8192]⟩ ⟨2, ![8192, 8192]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.block ⟨2, ![8192, 128]⟩ ⟨2, ![8192, 4096]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x8192 : Shape := ⟨2, ![256, 8192]⟩
abbrev S8192x4096 : Shape := ⟨2, ![8192, 4096]⟩
abbrev S_ : Shape := ⟨0, ![]⟩
abbrev S8 : Shape := ⟨1, ![8]⟩
abbrev S8192x128 : Shape := ⟨2, ![8192, 128]⟩
abbrev S8192x512 : Shape := ⟨2, ![8192, 512]⟩
abbrev S1 : Shape := ⟨1, ![1]⟩
abbrev S8x256x512 : Shape := ⟨3, ![8, 256, 512]⟩
abbrev S32 : Shape := ⟨1, ![32]⟩
abbrev S256x512 : Shape := ⟨2, ![256, 512]⟩
abbrev S1x256x512 : Shape := ⟨3, ![1, 256, 512]⟩
abbrev S256x128 : Shape := ⟨2, ![256, 128]⟩
abbrev S1x256x128 : Shape := ⟨3, ![1, 256, 128]⟩

abbrev nBuf : Space → Nat
  | .hbm => 48
  | .vmem => 6
  | .smem => 1
  | _ => 0

abbrev bufTy : (tb : Table) → Fin (tcTables nBuf tb) → BufTy
  | .hbm, ⟨0, _⟩ => ⟨S256x8192, .f32⟩
  | .hbm, ⟨1, _⟩ => ⟨S8192x4096, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S8, .i32⟩
  | .hbm, ⟨24, _⟩ => ⟨S8, .i32⟩
  | .hbm, ⟨25, _⟩ => ⟨S8, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i1⟩
  | .hbm, ⟨30, _⟩ => ⟨S_, .i32⟩
  | .hbm, ⟨31, _⟩ => ⟨S_, .i32⟩
  | .hbm, ⟨32, _⟩ => ⟨S8, .i32⟩
  | .hbm, ⟨33, _⟩ => ⟨S8, .i32⟩
  | .hbm, ⟨34, _⟩ => ⟨S_, .i32⟩
  | .hbm, ⟨35, _⟩ => ⟨S8, .i32⟩
  | .hbm, ⟨36, _⟩ => ⟨S8, .i1⟩
  | .hbm, ⟨37, _⟩ => ⟨S_, .i32⟩
  | .hbm, ⟨38, _⟩ => ⟨S8, .i32⟩
  | .hbm, ⟨39, _⟩ => ⟨S8, .i1⟩
  | .hbm, ⟨40, _⟩ => ⟨S_, .i32⟩
  | .hbm, ⟨41, _⟩ => ⟨S_, .i1⟩
  | .hbm, ⟨42, _⟩ => ⟨S8, .i1⟩
  | .hbm, ⟨43, _⟩ => ⟨S8, .i1⟩
  | .hbm, ⟨44, _⟩ => ⟨S8, .i1⟩
  | .hbm, ⟨45, _⟩ => ⟨S8, .i32⟩
  | .hbm, ⟨46, _⟩ => ⟨S8, .i32⟩
  | .hbm, ⟨47, _⟩ => ⟨S8192x128, .f32⟩
  | .local _ .vmem, ⟨0, _⟩ => ⟨S256x8192, .f32⟩
  | .local _ .vmem, ⟨1, _⟩ => ⟨S8192x512, .f32⟩
  | .local _ .vmem, ⟨2, _⟩ => ⟨S8192x512, .f32⟩
  | .local _ .vmem, ⟨3, _⟩ => ⟨S8192x128, .f32⟩
  | .local _ .vmem, ⟨4, _⟩ => ⟨S256x8192, .bf16⟩
  | .local _ .vmem, ⟨5, _⟩ => ⟨S8x256x512, .f32⟩
  | .local _ .smem, ⟨0, _⟩ => ⟨S8, .i32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c : Ref sig .tc := ⟨.hbm, 15, rfl⟩
abbrev main_call0_v6 : Ref sig .tc := ⟨.hbm, 16, rfl⟩
abbrev main_call0_v7 : Ref sig .tc := ⟨.hbm, 17, rfl⟩
abbrev main_call0_c_0 : Ref sig .tc := ⟨.hbm, 18, rfl⟩
abbrev main_call0_v8 : Ref sig .tc := ⟨.hbm, 19, rfl⟩
abbrev main_v5 : Ref sig .tc := ⟨.hbm, 20, rfl⟩
abbrev main_c_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_c_3 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v11 : Ref sig .tc := ⟨.hbm, 47, rfl⟩
abbrev main_v10 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 0

abbrev nD : Nat := 32
abbrev τ : Topo := Topo.v7x

variable {F : FTy → Type} [FloatOps F]

abbrev grid0 : Pipeline.Grid := ⟨1, ![8], ![false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v3 : Index := Scalar.indexCast arg0
  ![v3.toNat]
def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v6 : BitVec 32 := Scalar.extui v5
  let c0_i32_0 : BitVec 32 := 0#32
  let v7 : BitVec 1 := Scalar.cmpi .ne v6 c0_i32_0
  v7

def k0_dev1 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_76 : BitVec 32 := 1#32
  let v154 : BitVec 32 := Scalar.addi v2 c1_i32_76
  let c32_i32_77 : BitVec 32 := 32#32
  let c0_i32_78 : BitVec 32 := 0#32
  let v155 : BitVec 1 := Scalar.cmpi .eq c32_i32_77 c0_i32_78
  let c1_i32_79 : BitVec 32 := 1#32
  let v156 : BitVec 32 := Scalar.select v155 c1_i32_79 c32_i32_77
  let v157 : BitVec 32 := Scalar.remsi v154 v156
  let c0_i32_81 : BitVec 32 := 0#32
  let v159 : BitVec 1 := Scalar.cmpi .slt v157 c0_i32_81
  let c0_i32_82 : BitVec 32 := 0#32
  let v160 : BitVec 1 := Scalar.cmpi .slt v156 c0_i32_82
  let v161 : BitVec 1 := Scalar.xori v159 v160
  let c0_i32_80 : BitVec 32 := 0#32
  let v158 : BitVec 1 := Scalar.cmpi .ne v157 c0_i32_80
  let v162 : BitVec 1 := Scalar.andi v161 v158
  let v163 : BitVec 32 := Scalar.addi v157 v156
  let v164 : BitVec 32 := Scalar.select v162 v163 v157
  let c1_i32_84 : BitVec 32 := 1#32
  let v165 : BitVec 32 := Scalar.muli v164 c1_i32_84
  let v166 : BitVec 32 := Scalar.addi c0_i32_85 v165
  v166.toNat
def k0_dev2 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_86 : BitVec 32 := 2#32
  let v167 : BitVec 32 := Scalar.addi v2 c2_i32_86
  let c32_i32_87 : BitVec 32 := 32#32
  let c0_i32_88 : BitVec 32 := 0#32
  let v168 : BitVec 1 := Scalar.cmpi .eq c32_i32_87 c0_i32_88
  let c1_i32_89 : BitVec 32 := 1#32
  let v169 : BitVec 32 := Scalar.select v168 c1_i32_89 c32_i32_87
  let v170 : BitVec 32 := Scalar.remsi v167 v169
  let c0_i32_91 : BitVec 32 := 0#32
  let v172 : BitVec 1 := Scalar.cmpi .slt v170 c0_i32_91
  let c0_i32_92 : BitVec 32 := 0#32
  let v173 : BitVec 1 := Scalar.cmpi .slt v169 c0_i32_92
  let v174 : BitVec 1 := Scalar.xori v172 v173
  let c0_i32_90 : BitVec 32 := 0#32
  let v171 : BitVec 1 := Scalar.cmpi .ne v170 c0_i32_90
  let v175 : BitVec 1 := Scalar.andi v174 v171
  let v176 : BitVec 32 := Scalar.addi v170 v169
  let v177 : BitVec 32 := Scalar.select v175 v176 v170
  let c1_i32_94 : BitVec 32 := 1#32
  let v178 : BitVec 32 := Scalar.muli v177 c1_i32_94
  let v179 : BitVec 32 := Scalar.addi c0_i32_95 v178
  v179.toNat
def k0_dev3 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_96 : BitVec 32 := 3#32
  let v180 : BitVec 32 := Scalar.addi v2 c3_i32_96
  let c32_i32_97 : BitVec 32 := 32#32
  let c0_i32_98 : BitVec 32 := 0#32
  let v181 : BitVec 1 := Scalar.cmpi .eq c32_i32_97 c0_i32_98
  let c1_i32_99 : BitVec 32 := 1#32
  let v182 : BitVec 32 := Scalar.select v181 c1_i32_99 c32_i32_97
  let v183 : BitVec 32 := Scalar.remsi v180 v182
  let c0_i32_101 : BitVec 32 := 0#32
  let v185 : BitVec 1 := Scalar.cmpi .slt v183 c0_i32_101
  let c0_i32_102 : BitVec 32 := 0#32
  let v186 : BitVec 1 := Scalar.cmpi .slt v182 c0_i32_102
  let v187 : BitVec 1 := Scalar.xori v185 v186
  let c0_i32_100 : BitVec 32 := 0#32
  let v184 : BitVec 1 := Scalar.cmpi .ne v183 c0_i32_100
  let v188 : BitVec 1 := Scalar.andi v187 v184
  let v189 : BitVec 32 := Scalar.addi v183 v182
  let v190 : BitVec 32 := Scalar.select v188 v189 v183
  let c1_i32_104 : BitVec 32 := 1#32
  let v191 : BitVec 32 := Scalar.muli v190 c1_i32_104
  let v192 : BitVec 32 := Scalar.addi c0_i32_105 v191
  v192.toNat
def k0_dev4 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_106 : BitVec 32 := 4#32
  let v193 : BitVec 32 := Scalar.addi v2 c4_i32_106
  let c32_i32_107 : BitVec 32 := 32#32
  let c0_i32_108 : BitVec 32 := 0#32
  let v194 : BitVec 1 := Scalar.cmpi .eq c32_i32_107 c0_i32_108
  let c1_i32_109 : BitVec 32 := 1#32
  let v195 : BitVec 32 := Scalar.select v194 c1_i32_109 c32_i32_107
  let v196 : BitVec 32 := Scalar.remsi v193 v195
  let c0_i32_111 : BitVec 32 := 0#32
  let v198 : BitVec 1 := Scalar.cmpi .slt v196 c0_i32_111
  let c0_i32_112 : BitVec 32 := 0#32
  let v199 : BitVec 1 := Scalar.cmpi .slt v195 c0_i32_112
  let v200 : BitVec 1 := Scalar.xori v198 v199
  let c0_i32_110 : BitVec 32 := 0#32
  let v197 : BitVec 1 := Scalar.cmpi .ne v196 c0_i32_110
  let v201 : BitVec 1 := Scalar.andi v200 v197
  let v202 : BitVec 32 := Scalar.addi v196 v195
  let v203 : BitVec 32 := Scalar.select v201 v202 v196
  let c1_i32_114 : BitVec 32 := 1#32
  let v204 : BitVec 32 := Scalar.muli v203 c1_i32_114
  let v205 : BitVec 32 := Scalar.addi c0_i32_115 v204
  v205.toNat
def k0_dev5 (d0 : Dev nD) : Nat :=
  let c0_i32_124 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v206 : BitVec 32 := Scalar.addi v2 c5_i32
  let c32_i32_116 : BitVec 32 := 32#32
  let c0_i32_117 : BitVec 32 := 0#32
  let v207 : BitVec 1 := Scalar.cmpi .eq c32_i32_116 c0_i32_117
  let c1_i32_118 : BitVec 32 := 1#32
  let v208 : BitVec 32 := Scalar.select v207 c1_i32_118 c32_i32_116
  let v209 : BitVec 32 := Scalar.remsi v206 v208
  let c0_i32_120 : BitVec 32 := 0#32
  let v211 : BitVec 1 := Scalar.cmpi .slt v209 c0_i32_120
  let c0_i32_121 : BitVec 32 := 0#32
  let v212 : BitVec 1 := Scalar.cmpi .slt v208 c0_i32_121
  let v213 : BitVec 1 := Scalar.xori v211 v212
  let c0_i32_119 : BitVec 32 := 0#32
  let v210 : BitVec 1 := Scalar.cmpi .ne v209 c0_i32_119
  let v214 : BitVec 1 := Scalar.andi v213 v210
  let v215 : BitVec 32 := Scalar.addi v209 v208
  let v216 : BitVec 32 := Scalar.select v214 v215 v209
  let c1_i32_123 : BitVec 32 := 1#32
  let v217 : BitVec 32 := Scalar.muli v216 c1_i32_123
  let v218 : BitVec 32 := Scalar.addi c0_i32_124 v217
  v218.toNat
def k0_dev6 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v219 : BitVec 32 := Scalar.addi v2 c6_i32
  let c32_i32_125 : BitVec 32 := 32#32
  let c0_i32_126 : BitVec 32 := 0#32
  let v220 : BitVec 1 := Scalar.cmpi .eq c32_i32_125 c0_i32_126
  let c1_i32_127 : BitVec 32 := 1#32
  let v221 : BitVec 32 := Scalar.select v220 c1_i32_127 c32_i32_125
  let v222 : BitVec 32 := Scalar.remsi v219 v221
  let c0_i32_129 : BitVec 32 := 0#32
  let v224 : BitVec 1 := Scalar.cmpi .slt v222 c0_i32_129
  let c0_i32_130 : BitVec 32 := 0#32
  let v225 : BitVec 1 := Scalar.cmpi .slt v221 c0_i32_130
  let v226 : BitVec 1 := Scalar.xori v224 v225
  let c0_i32_128 : BitVec 32 := 0#32
  let v223 : BitVec 1 := Scalar.cmpi .ne v222 c0_i32_128
  let v227 : BitVec 1 := Scalar.andi v226 v223
  let v228 : BitVec 32 := Scalar.addi v222 v221
  let v229 : BitVec 32 := Scalar.select v227 v228 v222
  let c1_i32_132 : BitVec 32 := 1#32
  let v230 : BitVec 32 := Scalar.muli v229 c1_i32_132
  let v231 : BitVec 32 := Scalar.addi c0_i32_133 v230
  v231.toNat
def k0_dev7 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_134 : BitVec 32 := 7#32
  let v232 : BitVec 32 := Scalar.addi v2 c7_i32_134
  let c32_i32_135 : BitVec 32 := 32#32
  let c0_i32_136 : BitVec 32 := 0#32
  let v233 : BitVec 1 := Scalar.cmpi .eq c32_i32_135 c0_i32_136
  let c1_i32_137 : BitVec 32 := 1#32
  let v234 : BitVec 32 := Scalar.select v233 c1_i32_137 c32_i32_135
  let v235 : BitVec 32 := Scalar.remsi v232 v234
  let c0_i32_139 : BitVec 32 := 0#32
  let v237 : BitVec 1 := Scalar.cmpi .slt v235 c0_i32_139
  let c0_i32_140 : BitVec 32 := 0#32
  let v238 : BitVec 1 := Scalar.cmpi .slt v234 c0_i32_140
  let v239 : BitVec 1 := Scalar.xori v237 v238
  let c0_i32_138 : BitVec 32 := 0#32
  let v236 : BitVec 1 := Scalar.cmpi .ne v235 c0_i32_138
  let v240 : BitVec 1 := Scalar.andi v239 v236
  let v241 : BitVec 32 := Scalar.addi v235 v234
  let v242 : BitVec 32 := Scalar.select v240 v241 v235
  let c1_i32_142 : BitVec 32 := 1#32
  let v243 : BitVec 32 := Scalar.muli v242 c1_i32_142
  let v244 : BitVec 32 := Scalar.addi c0_i32_143 v243
  v244.toNat
def k0_dev8 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v245 : BitVec 32 := Scalar.addi v2 c8_i32
  let c32_i32_144 : BitVec 32 := 32#32
  let c0_i32_145 : BitVec 32 := 0#32
  let v246 : BitVec 1 := Scalar.cmpi .eq c32_i32_144 c0_i32_145
  let c1_i32_146 : BitVec 32 := 1#32
  let v247 : BitVec 32 := Scalar.select v246 c1_i32_146 c32_i32_144
  let v248 : BitVec 32 := Scalar.remsi v245 v247
  let c0_i32_148 : BitVec 32 := 0#32
  let v250 : BitVec 1 := Scalar.cmpi .slt v248 c0_i32_148
  let c0_i32_149 : BitVec 32 := 0#32
  let v251 : BitVec 1 := Scalar.cmpi .slt v247 c0_i32_149
  let v252 : BitVec 1 := Scalar.xori v250 v251
  let c0_i32_147 : BitVec 32 := 0#32
  let v249 : BitVec 1 := Scalar.cmpi .ne v248 c0_i32_147
  let v253 : BitVec 1 := Scalar.andi v252 v249
  let v254 : BitVec 32 := Scalar.addi v248 v247
  let v255 : BitVec 32 := Scalar.select v253 v254 v248
  let c1_i32_151 : BitVec 32 := 1#32
  let v256 : BitVec 32 := Scalar.muli v255 c1_i32_151
  let v257 : BitVec 32 := Scalar.addi c0_i32_152 v256
  v257.toNat
def k0_dev9 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v258 : BitVec 32 := Scalar.addi v2 c9_i32
  let c32_i32_153 : BitVec 32 := 32#32
  let c0_i32_154 : BitVec 32 := 0#32
  let v259 : BitVec 1 := Scalar.cmpi .eq c32_i32_153 c0_i32_154
  let c1_i32_155 : BitVec 32 := 1#32
  let v260 : BitVec 32 := Scalar.select v259 c1_i32_155 c32_i32_153
  let v261 : BitVec 32 := Scalar.remsi v258 v260
  let c0_i32_157 : BitVec 32 := 0#32
  let v263 : BitVec 1 := Scalar.cmpi .slt v261 c0_i32_157
  let c0_i32_158 : BitVec 32 := 0#32
  let v264 : BitVec 1 := Scalar.cmpi .slt v260 c0_i32_158
  let v265 : BitVec 1 := Scalar.xori v263 v264
  let c0_i32_156 : BitVec 32 := 0#32
  let v262 : BitVec 1 := Scalar.cmpi .ne v261 c0_i32_156
  let v266 : BitVec 1 := Scalar.andi v265 v262
  let v267 : BitVec 32 := Scalar.addi v261 v260
  let v268 : BitVec 32 := Scalar.select v266 v267 v261
  let c1_i32_160 : BitVec 32 := 1#32
  let v269 : BitVec 32 := Scalar.muli v268 c1_i32_160
  let v270 : BitVec 32 := Scalar.addi c0_i32_161 v269
  v270.toNat
def k0_dev10 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v271 : BitVec 32 := Scalar.addi v2 c10_i32
  let c32_i32_162 : BitVec 32 := 32#32
  let c0_i32_163 : BitVec 32 := 0#32
  let v272 : BitVec 1 := Scalar.cmpi .eq c32_i32_162 c0_i32_163
  let c1_i32_164 : BitVec 32 := 1#32
  let v273 : BitVec 32 := Scalar.select v272 c1_i32_164 c32_i32_162
  let v274 : BitVec 32 := Scalar.remsi v271 v273
  let c0_i32_166 : BitVec 32 := 0#32
  let v276 : BitVec 1 := Scalar.cmpi .slt v274 c0_i32_166
  let c0_i32_167 : BitVec 32 := 0#32
  let v277 : BitVec 1 := Scalar.cmpi .slt v273 c0_i32_167
  let v278 : BitVec 1 := Scalar.xori v276 v277
  let c0_i32_165 : BitVec 32 := 0#32
  let v275 : BitVec 1 := Scalar.cmpi .ne v274 c0_i32_165
  let v279 : BitVec 1 := Scalar.andi v278 v275
  let v280 : BitVec 32 := Scalar.addi v274 v273
  let v281 : BitVec 32 := Scalar.select v279 v280 v274
  let c1_i32_169 : BitVec 32 := 1#32
  let v282 : BitVec 32 := Scalar.muli v281 c1_i32_169
  let v283 : BitVec 32 := Scalar.addi c0_i32_170 v282
  v283.toNat
def k0_dev11 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v284 : BitVec 32 := Scalar.addi v2 c11_i32
  let c32_i32_171 : BitVec 32 := 32#32
  let c0_i32_172 : BitVec 32 := 0#32
  let v285 : BitVec 1 := Scalar.cmpi .eq c32_i32_171 c0_i32_172
  let c1_i32_173 : BitVec 32 := 1#32
  let v286 : BitVec 32 := Scalar.select v285 c1_i32_173 c32_i32_171
  let v287 : BitVec 32 := Scalar.remsi v284 v286
  let c0_i32_175 : BitVec 32 := 0#32
  let v289 : BitVec 1 := Scalar.cmpi .slt v287 c0_i32_175
  let c0_i32_176 : BitVec 32 := 0#32
  let v290 : BitVec 1 := Scalar.cmpi .slt v286 c0_i32_176
  let v291 : BitVec 1 := Scalar.xori v289 v290
  let c0_i32_174 : BitVec 32 := 0#32
  let v288 : BitVec 1 := Scalar.cmpi .ne v287 c0_i32_174
  let v292 : BitVec 1 := Scalar.andi v291 v288
  let v293 : BitVec 32 := Scalar.addi v287 v286
  let v294 : BitVec 32 := Scalar.select v292 v293 v287
  let c1_i32_178 : BitVec 32 := 1#32
  let v295 : BitVec 32 := Scalar.muli v294 c1_i32_178
  let v296 : BitVec 32 := Scalar.addi c0_i32_179 v295
  v296.toNat
def k0_dev12 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v297 : BitVec 32 := Scalar.addi v2 c12_i32
  let c32_i32_180 : BitVec 32 := 32#32
  let c0_i32_181 : BitVec 32 := 0#32
  let v298 : BitVec 1 := Scalar.cmpi .eq c32_i32_180 c0_i32_181
  let c1_i32_182 : BitVec 32 := 1#32
  let v299 : BitVec 32 := Scalar.select v298 c1_i32_182 c32_i32_180
  let v300 : BitVec 32 := Scalar.remsi v297 v299
  let c0_i32_184 : BitVec 32 := 0#32
  let v302 : BitVec 1 := Scalar.cmpi .slt v300 c0_i32_184
  let c0_i32_185 : BitVec 32 := 0#32
  let v303 : BitVec 1 := Scalar.cmpi .slt v299 c0_i32_185
  let v304 : BitVec 1 := Scalar.xori v302 v303
  let c0_i32_183 : BitVec 32 := 0#32
  let v301 : BitVec 1 := Scalar.cmpi .ne v300 c0_i32_183
  let v305 : BitVec 1 := Scalar.andi v304 v301
  let v306 : BitVec 32 := Scalar.addi v300 v299
  let v307 : BitVec 32 := Scalar.select v305 v306 v300
  let c1_i32_187 : BitVec 32 := 1#32
  let v308 : BitVec 32 := Scalar.muli v307 c1_i32_187
  let v309 : BitVec 32 := Scalar.addi c0_i32_188 v308
  v309.toNat
def k0_dev13 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v310 : BitVec 32 := Scalar.addi v2 c13_i32
  let c32_i32_189 : BitVec 32 := 32#32
  let c0_i32_190 : BitVec 32 := 0#32
  let v311 : BitVec 1 := Scalar.cmpi .eq c32_i32_189 c0_i32_190
  let c1_i32_191 : BitVec 32 := 1#32
  let v312 : BitVec 32 := Scalar.select v311 c1_i32_191 c32_i32_189
  let v313 : BitVec 32 := Scalar.remsi v310 v312
  let c0_i32_193 : BitVec 32 := 0#32
  let v315 : BitVec 1 := Scalar.cmpi .slt v313 c0_i32_193
  let c0_i32_194 : BitVec 32 := 0#32
  let v316 : BitVec 1 := Scalar.cmpi .slt v312 c0_i32_194
  let v317 : BitVec 1 := Scalar.xori v315 v316
  let c0_i32_192 : BitVec 32 := 0#32
  let v314 : BitVec 1 := Scalar.cmpi .ne v313 c0_i32_192
  let v318 : BitVec 1 := Scalar.andi v317 v314
  let v319 : BitVec 32 := Scalar.addi v313 v312
  let v320 : BitVec 32 := Scalar.select v318 v319 v313
  let c1_i32_196 : BitVec 32 := 1#32
  let v321 : BitVec 32 := Scalar.muli v320 c1_i32_196
  let v322 : BitVec 32 := Scalar.addi c0_i32_197 v321
  v322.toNat
def k0_dev14 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v323 : BitVec 32 := Scalar.addi v2 c14_i32
  let c32_i32_198 : BitVec 32 := 32#32
  let c0_i32_199 : BitVec 32 := 0#32
  let v324 : BitVec 1 := Scalar.cmpi .eq c32_i32_198 c0_i32_199
  let c1_i32_200 : BitVec 32 := 1#32
  let v325 : BitVec 32 := Scalar.select v324 c1_i32_200 c32_i32_198
  let v326 : BitVec 32 := Scalar.remsi v323 v325
  let c0_i32_202 : BitVec 32 := 0#32
  let v328 : BitVec 1 := Scalar.cmpi .slt v326 c0_i32_202
  let c0_i32_203 : BitVec 32 := 0#32
  let v329 : BitVec 1 := Scalar.cmpi .slt v325 c0_i32_203
  let v330 : BitVec 1 := Scalar.xori v328 v329
  let c0_i32_201 : BitVec 32 := 0#32
  let v327 : BitVec 1 := Scalar.cmpi .ne v326 c0_i32_201
  let v331 : BitVec 1 := Scalar.andi v330 v327
  let v332 : BitVec 32 := Scalar.addi v326 v325
  let v333 : BitVec 32 := Scalar.select v331 v332 v326
  let c1_i32_205 : BitVec 32 := 1#32
  let v334 : BitVec 32 := Scalar.muli v333 c1_i32_205
  let v335 : BitVec 32 := Scalar.addi c0_i32_206 v334
  v335.toNat
def k0_dev15 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v336 : BitVec 32 := Scalar.addi v2 c15_i32
  let c32_i32_207 : BitVec 32 := 32#32
  let c0_i32_208 : BitVec 32 := 0#32
  let v337 : BitVec 1 := Scalar.cmpi .eq c32_i32_207 c0_i32_208
  let c1_i32_209 : BitVec 32 := 1#32
  let v338 : BitVec 32 := Scalar.select v337 c1_i32_209 c32_i32_207
  let v339 : BitVec 32 := Scalar.remsi v336 v338
  let c0_i32_211 : BitVec 32 := 0#32
  let v341 : BitVec 1 := Scalar.cmpi .slt v339 c0_i32_211
  let c0_i32_212 : BitVec 32 := 0#32
  let v342 : BitVec 1 := Scalar.cmpi .slt v338 c0_i32_212
  let v343 : BitVec 1 := Scalar.xori v341 v342
  let c0_i32_210 : BitVec 32 := 0#32
  let v340 : BitVec 1 := Scalar.cmpi .ne v339 c0_i32_210
  let v344 : BitVec 1 := Scalar.andi v343 v340
  let v345 : BitVec 32 := Scalar.addi v339 v338
  let v346 : BitVec 32 := Scalar.select v344 v345 v339
  let c1_i32_214 : BitVec 32 := 1#32
  let v347 : BitVec 32 := Scalar.muli v346 c1_i32_214
  let v348 : BitVec 32 := Scalar.addi c0_i32_215 v347
  v348.toNat
def k0_dev16 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v349 : BitVec 32 := Scalar.addi v2 c16_i32
  let c32_i32_216 : BitVec 32 := 32#32
  let c0_i32_217 : BitVec 32 := 0#32
  let v350 : BitVec 1 := Scalar.cmpi .eq c32_i32_216 c0_i32_217
  let c1_i32_218 : BitVec 32 := 1#32
  let v351 : BitVec 32 := Scalar.select v350 c1_i32_218 c32_i32_216
  let v352 : BitVec 32 := Scalar.remsi v349 v351
  let c0_i32_220 : BitVec 32 := 0#32
  let v354 : BitVec 1 := Scalar.cmpi .slt v352 c0_i32_220
  let c0_i32_221 : BitVec 32 := 0#32
  let v355 : BitVec 1 := Scalar.cmpi .slt v351 c0_i32_221
  let v356 : BitVec 1 := Scalar.xori v354 v355
  let c0_i32_219 : BitVec 32 := 0#32
  let v353 : BitVec 1 := Scalar.cmpi .ne v352 c0_i32_219
  let v357 : BitVec 1 := Scalar.andi v356 v353
  let v358 : BitVec 32 := Scalar.addi v352 v351
  let v359 : BitVec 32 := Scalar.select v357 v358 v352
  let c1_i32_223 : BitVec 32 := 1#32
  let v360 : BitVec 32 := Scalar.muli v359 c1_i32_223
  let v361 : BitVec 32 := Scalar.addi c0_i32_224 v360
  v361.toNat
def k0_dev17 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v362 : BitVec 32 := Scalar.addi v2 c17_i32
  let c32_i32_225 : BitVec 32 := 32#32
  let c0_i32_226 : BitVec 32 := 0#32
  let v363 : BitVec 1 := Scalar.cmpi .eq c32_i32_225 c0_i32_226
  let c1_i32_227 : BitVec 32 := 1#32
  let v364 : BitVec 32 := Scalar.select v363 c1_i32_227 c32_i32_225
  let v365 : BitVec 32 := Scalar.remsi v362 v364
  let c0_i32_229 : BitVec 32 := 0#32
  let v367 : BitVec 1 := Scalar.cmpi .slt v365 c0_i32_229
  let c0_i32_230 : BitVec 32 := 0#32
  let v368 : BitVec 1 := Scalar.cmpi .slt v364 c0_i32_230
  let v369 : BitVec 1 := Scalar.xori v367 v368
  let c0_i32_228 : BitVec 32 := 0#32
  let v366 : BitVec 1 := Scalar.cmpi .ne v365 c0_i32_228
  let v370 : BitVec 1 := Scalar.andi v369 v366
  let v371 : BitVec 32 := Scalar.addi v365 v364
  let v372 : BitVec 32 := Scalar.select v370 v371 v365
  let c1_i32_232 : BitVec 32 := 1#32
  let v373 : BitVec 32 := Scalar.muli v372 c1_i32_232
  let v374 : BitVec 32 := Scalar.addi c0_i32_233 v373
  v374.toNat
def k0_dev18 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v375 : BitVec 32 := Scalar.addi v2 c18_i32
  let c32_i32_234 : BitVec 32 := 32#32
  let c0_i32_235 : BitVec 32 := 0#32
  let v376 : BitVec 1 := Scalar.cmpi .eq c32_i32_234 c0_i32_235
  let c1_i32_236 : BitVec 32 := 1#32
  let v377 : BitVec 32 := Scalar.select v376 c1_i32_236 c32_i32_234
  let v378 : BitVec 32 := Scalar.remsi v375 v377
  let c0_i32_238 : BitVec 32 := 0#32
  let v380 : BitVec 1 := Scalar.cmpi .slt v378 c0_i32_238
  let c0_i32_239 : BitVec 32 := 0#32
  let v381 : BitVec 1 := Scalar.cmpi .slt v377 c0_i32_239
  let v382 : BitVec 1 := Scalar.xori v380 v381
  let c0_i32_237 : BitVec 32 := 0#32
  let v379 : BitVec 1 := Scalar.cmpi .ne v378 c0_i32_237
  let v383 : BitVec 1 := Scalar.andi v382 v379
  let v384 : BitVec 32 := Scalar.addi v378 v377
  let v385 : BitVec 32 := Scalar.select v383 v384 v378
  let c1_i32_241 : BitVec 32 := 1#32
  let v386 : BitVec 32 := Scalar.muli v385 c1_i32_241
  let v387 : BitVec 32 := Scalar.addi c0_i32_242 v386
  v387.toNat
def k0_dev19 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v388 : BitVec 32 := Scalar.addi v2 c19_i32
  let c32_i32_243 : BitVec 32 := 32#32
  let c0_i32_244 : BitVec 32 := 0#32
  let v389 : BitVec 1 := Scalar.cmpi .eq c32_i32_243 c0_i32_244
  let c1_i32_245 : BitVec 32 := 1#32
  let v390 : BitVec 32 := Scalar.select v389 c1_i32_245 c32_i32_243
  let v391 : BitVec 32 := Scalar.remsi v388 v390
  let c0_i32_247 : BitVec 32 := 0#32
  let v393 : BitVec 1 := Scalar.cmpi .slt v391 c0_i32_247
  let c0_i32_248 : BitVec 32 := 0#32
  let v394 : BitVec 1 := Scalar.cmpi .slt v390 c0_i32_248
  let v395 : BitVec 1 := Scalar.xori v393 v394
  let c0_i32_246 : BitVec 32 := 0#32
  let v392 : BitVec 1 := Scalar.cmpi .ne v391 c0_i32_246
  let v396 : BitVec 1 := Scalar.andi v395 v392
  let v397 : BitVec 32 := Scalar.addi v391 v390
  let v398 : BitVec 32 := Scalar.select v396 v397 v391
  let c1_i32_250 : BitVec 32 := 1#32
  let v399 : BitVec 32 := Scalar.muli v398 c1_i32_250
  let v400 : BitVec 32 := Scalar.addi c0_i32_251 v399
  v400.toNat
def k0_dev20 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v401 : BitVec 32 := Scalar.addi v2 c20_i32
  let c32_i32_252 : BitVec 32 := 32#32
  let c0_i32_253 : BitVec 32 := 0#32
  let v402 : BitVec 1 := Scalar.cmpi .eq c32_i32_252 c0_i32_253
  let c1_i32_254 : BitVec 32 := 1#32
  let v403 : BitVec 32 := Scalar.select v402 c1_i32_254 c32_i32_252
  let v404 : BitVec 32 := Scalar.remsi v401 v403
  let c0_i32_256 : BitVec 32 := 0#32
  let v406 : BitVec 1 := Scalar.cmpi .slt v404 c0_i32_256
  let c0_i32_257 : BitVec 32 := 0#32
  let v407 : BitVec 1 := Scalar.cmpi .slt v403 c0_i32_257
  let v408 : BitVec 1 := Scalar.xori v406 v407
  let c0_i32_255 : BitVec 32 := 0#32
  let v405 : BitVec 1 := Scalar.cmpi .ne v404 c0_i32_255
  let v409 : BitVec 1 := Scalar.andi v408 v405
  let v410 : BitVec 32 := Scalar.addi v404 v403
  let v411 : BitVec 32 := Scalar.select v409 v410 v404
  let c1_i32_259 : BitVec 32 := 1#32
  let v412 : BitVec 32 := Scalar.muli v411 c1_i32_259
  let v413 : BitVec 32 := Scalar.addi c0_i32_260 v412
  v413.toNat
def k0_dev21 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v414 : BitVec 32 := Scalar.addi v2 c21_i32
  let c32_i32_261 : BitVec 32 := 32#32
  let c0_i32_262 : BitVec 32 := 0#32
  let v415 : BitVec 1 := Scalar.cmpi .eq c32_i32_261 c0_i32_262
  let c1_i32_263 : BitVec 32 := 1#32
  let v416 : BitVec 32 := Scalar.select v415 c1_i32_263 c32_i32_261
  let v417 : BitVec 32 := Scalar.remsi v414 v416
  let c0_i32_265 : BitVec 32 := 0#32
  let v419 : BitVec 1 := Scalar.cmpi .slt v417 c0_i32_265
  let c0_i32_266 : BitVec 32 := 0#32
  let v420 : BitVec 1 := Scalar.cmpi .slt v416 c0_i32_266
  let v421 : BitVec 1 := Scalar.xori v419 v420
  let c0_i32_264 : BitVec 32 := 0#32
  let v418 : BitVec 1 := Scalar.cmpi .ne v417 c0_i32_264
  let v422 : BitVec 1 := Scalar.andi v421 v418
  let v423 : BitVec 32 := Scalar.addi v417 v416
  let v424 : BitVec 32 := Scalar.select v422 v423 v417
  let c1_i32_268 : BitVec 32 := 1#32
  let v425 : BitVec 32 := Scalar.muli v424 c1_i32_268
  let v426 : BitVec 32 := Scalar.addi c0_i32_269 v425
  v426.toNat
def k0_dev22 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v427 : BitVec 32 := Scalar.addi v2 c22_i32
  let c32_i32_270 : BitVec 32 := 32#32
  let c0_i32_271 : BitVec 32 := 0#32
  let v428 : BitVec 1 := Scalar.cmpi .eq c32_i32_270 c0_i32_271
  let c1_i32_272 : BitVec 32 := 1#32
  let v429 : BitVec 32 := Scalar.select v428 c1_i32_272 c32_i32_270
  let v430 : BitVec 32 := Scalar.remsi v427 v429
  let c0_i32_274 : BitVec 32 := 0#32
  let v432 : BitVec 1 := Scalar.cmpi .slt v430 c0_i32_274
  let c0_i32_275 : BitVec 32 := 0#32
  let v433 : BitVec 1 := Scalar.cmpi .slt v429 c0_i32_275
  let v434 : BitVec 1 := Scalar.xori v432 v433
  let c0_i32_273 : BitVec 32 := 0#32
  let v431 : BitVec 1 := Scalar.cmpi .ne v430 c0_i32_273
  let v435 : BitVec 1 := Scalar.andi v434 v431
  let v436 : BitVec 32 := Scalar.addi v430 v429
  let v437 : BitVec 32 := Scalar.select v435 v436 v430
  let c1_i32_277 : BitVec 32 := 1#32
  let v438 : BitVec 32 := Scalar.muli v437 c1_i32_277
  let v439 : BitVec 32 := Scalar.addi c0_i32_278 v438
  v439.toNat
def k0_dev23 (d0 : Dev nD) : Nat :=
  let c0_i32_287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v440 : BitVec 32 := Scalar.addi v2 c23_i32
  let c32_i32_279 : BitVec 32 := 32#32
  let c0_i32_280 : BitVec 32 := 0#32
  let v441 : BitVec 1 := Scalar.cmpi .eq c32_i32_279 c0_i32_280
  let c1_i32_281 : BitVec 32 := 1#32
  let v442 : BitVec 32 := Scalar.select v441 c1_i32_281 c32_i32_279
  let v443 : BitVec 32 := Scalar.remsi v440 v442
  let c0_i32_283 : BitVec 32 := 0#32
  let v445 : BitVec 1 := Scalar.cmpi .slt v443 c0_i32_283
  let c0_i32_284 : BitVec 32 := 0#32
  let v446 : BitVec 1 := Scalar.cmpi .slt v442 c0_i32_284
  let v447 : BitVec 1 := Scalar.xori v445 v446
  let c0_i32_282 : BitVec 32 := 0#32
  let v444 : BitVec 1 := Scalar.cmpi .ne v443 c0_i32_282
  let v448 : BitVec 1 := Scalar.andi v447 v444
  let v449 : BitVec 32 := Scalar.addi v443 v442
  let v450 : BitVec 32 := Scalar.select v448 v449 v443
  let c1_i32_286 : BitVec 32 := 1#32
  let v451 : BitVec 32 := Scalar.muli v450 c1_i32_286
  let v452 : BitVec 32 := Scalar.addi c0_i32_287 v451
  v452.toNat
def k0_dev24 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v453 : BitVec 32 := Scalar.addi v2 c24_i32
  let c32_i32_288 : BitVec 32 := 32#32
  let c0_i32_289 : BitVec 32 := 0#32
  let v454 : BitVec 1 := Scalar.cmpi .eq c32_i32_288 c0_i32_289
  let c1_i32_290 : BitVec 32 := 1#32
  let v455 : BitVec 32 := Scalar.select v454 c1_i32_290 c32_i32_288
  let v456 : BitVec 32 := Scalar.remsi v453 v455
  let c0_i32_292 : BitVec 32 := 0#32
  let v458 : BitVec 1 := Scalar.cmpi .slt v456 c0_i32_292
  let c0_i32_293 : BitVec 32 := 0#32
  let v459 : BitVec 1 := Scalar.cmpi .slt v455 c0_i32_293
  let v460 : BitVec 1 := Scalar.xori v458 v459
  let c0_i32_291 : BitVec 32 := 0#32
  let v457 : BitVec 1 := Scalar.cmpi .ne v456 c0_i32_291
  let v461 : BitVec 1 := Scalar.andi v460 v457
  let v462 : BitVec 32 := Scalar.addi v456 v455
  let v463 : BitVec 32 := Scalar.select v461 v462 v456
  let c1_i32_295 : BitVec 32 := 1#32
  let v464 : BitVec 32 := Scalar.muli v463 c1_i32_295
  let v465 : BitVec 32 := Scalar.addi c0_i32_296 v464
  v465.toNat
def k0_dev25 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v466 : BitVec 32 := Scalar.addi v2 c25_i32
  let c32_i32_297 : BitVec 32 := 32#32
  let c0_i32_298 : BitVec 32 := 0#32
  let v467 : BitVec 1 := Scalar.cmpi .eq c32_i32_297 c0_i32_298
  let c1_i32_299 : BitVec 32 := 1#32
  let v468 : BitVec 32 := Scalar.select v467 c1_i32_299 c32_i32_297
  let v469 : BitVec 32 := Scalar.remsi v466 v468
  let c0_i32_301 : BitVec 32 := 0#32
  let v471 : BitVec 1 := Scalar.cmpi .slt v469 c0_i32_301
  let c0_i32_302 : BitVec 32 := 0#32
  let v472 : BitVec 1 := Scalar.cmpi .slt v468 c0_i32_302
  let v473 : BitVec 1 := Scalar.xori v471 v472
  let c0_i32_300 : BitVec 32 := 0#32
  let v470 : BitVec 1 := Scalar.cmpi .ne v469 c0_i32_300
  let v474 : BitVec 1 := Scalar.andi v473 v470
  let v475 : BitVec 32 := Scalar.addi v469 v468
  let v476 : BitVec 32 := Scalar.select v474 v475 v469
  let c1_i32_304 : BitVec 32 := 1#32
  let v477 : BitVec 32 := Scalar.muli v476 c1_i32_304
  let v478 : BitVec 32 := Scalar.addi c0_i32_305 v477
  v478.toNat
def k0_dev26 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v479 : BitVec 32 := Scalar.addi v2 c26_i32
  let c32_i32_306 : BitVec 32 := 32#32
  let c0_i32_307 : BitVec 32 := 0#32
  let v480 : BitVec 1 := Scalar.cmpi .eq c32_i32_306 c0_i32_307
  let c1_i32_308 : BitVec 32 := 1#32
  let v481 : BitVec 32 := Scalar.select v480 c1_i32_308 c32_i32_306
  let v482 : BitVec 32 := Scalar.remsi v479 v481
  let c0_i32_310 : BitVec 32 := 0#32
  let v484 : BitVec 1 := Scalar.cmpi .slt v482 c0_i32_310
  let c0_i32_311 : BitVec 32 := 0#32
  let v485 : BitVec 1 := Scalar.cmpi .slt v481 c0_i32_311
  let v486 : BitVec 1 := Scalar.xori v484 v485
  let c0_i32_309 : BitVec 32 := 0#32
  let v483 : BitVec 1 := Scalar.cmpi .ne v482 c0_i32_309
  let v487 : BitVec 1 := Scalar.andi v486 v483
  let v488 : BitVec 32 := Scalar.addi v482 v481
  let v489 : BitVec 32 := Scalar.select v487 v488 v482
  let c1_i32_313 : BitVec 32 := 1#32
  let v490 : BitVec 32 := Scalar.muli v489 c1_i32_313
  let v491 : BitVec 32 := Scalar.addi c0_i32_314 v490
  v491.toNat
def k0_dev27 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v492 : BitVec 32 := Scalar.addi v2 c27_i32
  let c32_i32_315 : BitVec 32 := 32#32
  let c0_i32_316 : BitVec 32 := 0#32
  let v493 : BitVec 1 := Scalar.cmpi .eq c32_i32_315 c0_i32_316
  let c1_i32_317 : BitVec 32 := 1#32
  let v494 : BitVec 32 := Scalar.select v493 c1_i32_317 c32_i32_315
  let v495 : BitVec 32 := Scalar.remsi v492 v494
  let c0_i32_319 : BitVec 32 := 0#32
  let v497 : BitVec 1 := Scalar.cmpi .slt v495 c0_i32_319
  let c0_i32_320 : BitVec 32 := 0#32
  let v498 : BitVec 1 := Scalar.cmpi .slt v494 c0_i32_320
  let v499 : BitVec 1 := Scalar.xori v497 v498
  let c0_i32_318 : BitVec 32 := 0#32
  let v496 : BitVec 1 := Scalar.cmpi .ne v495 c0_i32_318
  let v500 : BitVec 1 := Scalar.andi v499 v496
  let v501 : BitVec 32 := Scalar.addi v495 v494
  let v502 : BitVec 32 := Scalar.select v500 v501 v495
  let c1_i32_322 : BitVec 32 := 1#32
  let v503 : BitVec 32 := Scalar.muli v502 c1_i32_322
  let v504 : BitVec 32 := Scalar.addi c0_i32_323 v503
  v504.toNat
def k0_dev28 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v505 : BitVec 32 := Scalar.addi v2 c28_i32
  let c32_i32_324 : BitVec 32 := 32#32
  let c0_i32_325 : BitVec 32 := 0#32
  let v506 : BitVec 1 := Scalar.cmpi .eq c32_i32_324 c0_i32_325
  let c1_i32_326 : BitVec 32 := 1#32
  let v507 : BitVec 32 := Scalar.select v506 c1_i32_326 c32_i32_324
  let v508 : BitVec 32 := Scalar.remsi v505 v507
  let c0_i32_328 : BitVec 32 := 0#32
  let v510 : BitVec 1 := Scalar.cmpi .slt v508 c0_i32_328
  let c0_i32_329 : BitVec 32 := 0#32
  let v511 : BitVec 1 := Scalar.cmpi .slt v507 c0_i32_329
  let v512 : BitVec 1 := Scalar.xori v510 v511
  let c0_i32_327 : BitVec 32 := 0#32
  let v509 : BitVec 1 := Scalar.cmpi .ne v508 c0_i32_327
  let v513 : BitVec 1 := Scalar.andi v512 v509
  let v514 : BitVec 32 := Scalar.addi v508 v507
  let v515 : BitVec 32 := Scalar.select v513 v514 v508
  let c1_i32_331 : BitVec 32 := 1#32
  let v516 : BitVec 32 := Scalar.muli v515 c1_i32_331
  let v517 : BitVec 32 := Scalar.addi c0_i32_332 v516
  v517.toNat
def k0_dev29 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v518 : BitVec 32 := Scalar.addi v2 c29_i32
  let c32_i32_333 : BitVec 32 := 32#32
  let c0_i32_334 : BitVec 32 := 0#32
  let v519 : BitVec 1 := Scalar.cmpi .eq c32_i32_333 c0_i32_334
  let c1_i32_335 : BitVec 32 := 1#32
  let v520 : BitVec 32 := Scalar.select v519 c1_i32_335 c32_i32_333
  let v521 : BitVec 32 := Scalar.remsi v518 v520
  let c0_i32_337 : BitVec 32 := 0#32
  let v523 : BitVec 1 := Scalar.cmpi .slt v521 c0_i32_337
  let c0_i32_338 : BitVec 32 := 0#32
  let v524 : BitVec 1 := Scalar.cmpi .slt v520 c0_i32_338
  let v525 : BitVec 1 := Scalar.xori v523 v524
  let c0_i32_336 : BitVec 32 := 0#32
  let v522 : BitVec 1 := Scalar.cmpi .ne v521 c0_i32_336
  let v526 : BitVec 1 := Scalar.andi v525 v522
  let v527 : BitVec 32 := Scalar.addi v521 v520
  let v528 : BitVec 32 := Scalar.select v526 v527 v521
  let c1_i32_340 : BitVec 32 := 1#32
  let v529 : BitVec 32 := Scalar.muli v528 c1_i32_340
  let v530 : BitVec 32 := Scalar.addi c0_i32_341 v529
  v530.toNat
def k0_dev30 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v531 : BitVec 32 := Scalar.addi v2 c30_i32
  let c32_i32_342 : BitVec 32 := 32#32
  let c0_i32_343 : BitVec 32 := 0#32
  let v532 : BitVec 1 := Scalar.cmpi .eq c32_i32_342 c0_i32_343
  let c1_i32_344 : BitVec 32 := 1#32
  let v533 : BitVec 32 := Scalar.select v532 c1_i32_344 c32_i32_342
  let v534 : BitVec 32 := Scalar.remsi v531 v533
  let c0_i32_346 : BitVec 32 := 0#32
  let v536 : BitVec 1 := Scalar.cmpi .slt v534 c0_i32_346
  let c0_i32_347 : BitVec 32 := 0#32
  let v537 : BitVec 1 := Scalar.cmpi .slt v533 c0_i32_347
  let v538 : BitVec 1 := Scalar.xori v536 v537
  let c0_i32_345 : BitVec 32 := 0#32
  let v535 : BitVec 1 := Scalar.cmpi .ne v534 c0_i32_345
  let v539 : BitVec 1 := Scalar.andi v538 v535
  let v540 : BitVec 32 := Scalar.addi v534 v533
  let v541 : BitVec 32 := Scalar.select v539 v540 v534
  let c1_i32_349 : BitVec 32 := 1#32
  let v542 : BitVec 32 := Scalar.muli v541 c1_i32_349
  let v543 : BitVec 32 := Scalar.addi c0_i32_350 v542
  v543.toNat
def k0_dev31 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v544 : BitVec 32 := Scalar.addi v2 c31_i32
  let c32_i32_351 : BitVec 32 := 32#32
  let c0_i32_352 : BitVec 32 := 0#32
  let v545 : BitVec 1 := Scalar.cmpi .eq c32_i32_351 c0_i32_352
  let c1_i32_353 : BitVec 32 := 1#32
  let v546 : BitVec 32 := Scalar.select v545 c1_i32_353 c32_i32_351
  let v547 : BitVec 32 := Scalar.remsi v544 v546
  let c0_i32_355 : BitVec 32 := 0#32
  let v549 : BitVec 1 := Scalar.cmpi .slt v547 c0_i32_355
  let c0_i32_356 : BitVec 32 := 0#32
  let v550 : BitVec 1 := Scalar.cmpi .slt v546 c0_i32_356
  let v551 : BitVec 1 := Scalar.xori v549 v550
  let c0_i32_354 : BitVec 32 := 0#32
  let v548 : BitVec 1 := Scalar.cmpi .ne v547 c0_i32_354
  let v552 : BitVec 1 := Scalar.andi v551 v548
  let v553 : BitVec 32 := Scalar.addi v547 v546
  let v554 : BitVec 32 := Scalar.select v552 v553 v547
  let c1_i32_358 : BitVec 32 := 1#32
  let v555 : BitVec 32 := Scalar.muli v554 c1_i32_358
  let v556 : BitVec 32 := Scalar.addi c0_i32_359 v555
  v556.toNat
def k0_off3 (i : grid0.Coords) : Fin 3 → Nat :=
  let arg0 : BitVec 32 := BitVec.ofNat 32 (i 0).val
  let v26 : Index := Scalar.indexCast arg0
  let c0_8 : Index := 0#32
  let c0_9 : Index := 0#32
  ![v26.toNat, 0, 0]
def k0_off4 (d0 : Dev nD) (v4 : BitVec 32) : Fin 1 → Nat :=
  let c4_i32_23 : BitVec 32 := 4#32
  let v52 : BitVec 32 := Scalar.muli v4 c4_i32_23
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let c0_i32_10 : BitVec 32 := 0#32
  let v30 : BitVec 1 := Scalar.cmpi .eq c4_i32 c0_i32_10
  let c1_i32_11 : BitVec 32 := 1#32
  let v31 : BitVec 32 := Scalar.select v30 c1_i32_11 c4_i32
  let v32 : BitVec 32 := Scalar.remsi v2 v31
  let c0_i32_13 : BitVec 32 := 0#32
  let v34 : BitVec 1 := Scalar.cmpi .slt v32 c0_i32_13
  let c0_i32_14 : BitVec 32 := 0#32
  let v35 : BitVec 1 := Scalar.cmpi .slt v31 c0_i32_14
  let v36 : BitVec 1 := Scalar.xori v34 v35
  let c0_i32_12 : BitVec 32 := 0#32
  let v33 : BitVec 1 := Scalar.cmpi .ne v32 c0_i32_12
  let v37 : BitVec 1 := Scalar.andi v36 v33
  let v38 : BitVec 32 := Scalar.addi v32 v31
  let v39 : BitVec 32 := Scalar.select v37 v38 v32
  let c1_i32_15 : BitVec 32 := 1#32
  let v40 : BitVec 32 := Scalar.addi v39 c1_i32_15
  let c0_i32_16 : BitVec 32 := 0#32
  let v41 : BitVec 32 := Scalar.addi v40 c0_i32_16
  let c4_i32_17 : BitVec 32 := 4#32
  let c0_i32_18 : BitVec 32 := 0#32
  let v42 : BitVec 1 := Scalar.cmpi .eq c4_i32_17 c0_i32_18
  let c1_i32_19 : BitVec 32 := 1#32
  let v43 : BitVec 32 := Scalar.select v42 c1_i32_19 c4_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v53 : BitVec 32 := Scalar.addi v52 v51
  ![v53.toNat]
def k0_cond2 (d0 : Dev nD) (v4 : BitVec 32) : BitVec 1 :=
  let c4_i32_23 : BitVec 32 := 4#32
  let v52 : BitVec 32 := Scalar.muli v4 c4_i32_23
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let c0_i32_10 : BitVec 32 := 0#32
  let v30 : BitVec 1 := Scalar.cmpi .eq c4_i32 c0_i32_10
  let c1_i32_11 : BitVec 32 := 1#32
  let v31 : BitVec 32 := Scalar.select v30 c1_i32_11 c4_i32
  let v32 : BitVec 32 := Scalar.remsi v2 v31
  let c0_i32_13 : BitVec 32 := 0#32
  let v34 : BitVec 1 := Scalar.cmpi .slt v32 c0_i32_13
  let c0_i32_14 : BitVec 32 := 0#32
  let v35 : BitVec 1 := Scalar.cmpi .slt v31 c0_i32_14
  let v36 : BitVec 1 := Scalar.xori v34 v35
  let c0_i32_12 : BitVec 32 := 0#32
  let v33 : BitVec 1 := Scalar.cmpi .ne v32 c0_i32_12
  let v37 : BitVec 1 := Scalar.andi v36 v33
  let v38 : BitVec 32 := Scalar.addi v32 v31
  let v39 : BitVec 32 := Scalar.select v37 v38 v32
  let c1_i32_15 : BitVec 32 := 1#32
  let v40 : BitVec 32 := Scalar.addi v39 c1_i32_15
  let c0_i32_16 : BitVec 32 := 0#32
  let v41 : BitVec 32 := Scalar.addi v40 c0_i32_16
  let c4_i32_17 : BitVec 32 := 4#32
  let c0_i32_18 : BitVec 32 := 0#32
  let v42 : BitVec 1 := Scalar.cmpi .eq c4_i32_17 c0_i32_18
  let c1_i32_19 : BitVec 32 := 1#32
  let v43 : BitVec 32 := Scalar.select v42 c1_i32_19 c4_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v53 : BitVec 32 := Scalar.addi v52 v51
  let v54 : BitVec 1 := Scalar.cmpi .ne v53 v2
  let v55 : BitVec 32 := Scalar.extui v54
  let c0_i32_24 : BitVec 32 := 0#32
  let v56 : BitVec 1 := Scalar.cmpi .ne v55 c0_i32_24
  v56

def k0_off5 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off6 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v154 : BitVec 32 := Scalar.muli v2 c256_i32
  let c0_i32_78 : BitVec 32 := 0#32
  ![v154.toNat, 0]
def k0_off7 (i : grid0.Coords) (d0 : Dev nD) : Fin 3 → Nat :=
  let arg0 : BitVec 32 := BitVec.ofNat 32 (i 0).val
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let c0_i32_10 : BitVec 32 := 0#32
  let v30 : BitVec 1 := Scalar.cmpi .eq c4_i32 c0_i32_10
  let c1_i32_11 : BitVec 32 := 1#32
  let v31 : BitVec 32 := Scalar.select v30 c1_i32_11 c4_i32
  let v32 : BitVec 32 := Scalar.remsi v2 v31
  let c0_i32_13 : BitVec 32 := 0#32
  let v34 : BitVec 1 := Scalar.cmpi .slt v32 c0_i32_13
  let c0_i32_14 : BitVec 32 := 0#32
  let v35 : BitVec 1 := Scalar.cmpi .slt v31 c0_i32_14
  let v36 : BitVec 1 := Scalar.xori v34 v35
  let c0_i32_12 : BitVec 32 := 0#32
  let v33 : BitVec 1 := Scalar.cmpi .ne v32 c0_i32_12
  let v37 : BitVec 1 := Scalar.andi v36 v33
  let v38 : BitVec 32 := Scalar.addi v32 v31
  let v39 : BitVec 32 := Scalar.select v37 v38 v32
  let c1_i32_15 : BitVec 32 := 1#32
  let v40 : BitVec 32 := Scalar.addi v39 c1_i32_15
  let c0_i32_16 : BitVec 32 := 0#32
  let v41 : BitVec 32 := Scalar.addi v40 c0_i32_16
  let c4_i32_17 : BitVec 32 := 4#32
  let c0_i32_18 : BitVec 32 := 0#32
  let v42 : BitVec 1 := Scalar.cmpi .eq c4_i32_17 c0_i32_18
  let c1_i32_19 : BitVec 32 := 1#32
  let v43 : BitVec 32 := Scalar.select v42 c1_i32_19 c4_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let c128_i32 : BitVec 32 := 128#32
  let v153 : BitVec 32 := Scalar.muli v51 c128_i32
  ![arg0.toNat, 0, v153.toNat]
def k0_dev32 (d0 : Dev nD) (v4 : BitVec 32) : Nat :=
  let c0_i32_77 : BitVec 32 := 0#32
  let c4_i32_23 : BitVec 32 := 4#32
  let v52 : BitVec 32 := Scalar.muli v4 c4_i32_23
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let c0_i32_10 : BitVec 32 := 0#32
  let v30 : BitVec 1 := Scalar.cmpi .eq c4_i32 c0_i32_10
  let c1_i32_11 : BitVec 32 := 1#32
  let v31 : BitVec 32 := Scalar.select v30 c1_i32_11 c4_i32
  let v32 : BitVec 32 := Scalar.remsi v2 v31
  let c0_i32_13 : BitVec 32 := 0#32
  let v34 : BitVec 1 := Scalar.cmpi .slt v32 c0_i32_13
  let c0_i32_14 : BitVec 32 := 0#32
  let v35 : BitVec 1 := Scalar.cmpi .slt v31 c0_i32_14
  let v36 : BitVec 1 := Scalar.xori v34 v35
  let c0_i32_12 : BitVec 32 := 0#32
  let v33 : BitVec 1 := Scalar.cmpi .ne v32 c0_i32_12
  let v37 : BitVec 1 := Scalar.andi v36 v33
  let v38 : BitVec 32 := Scalar.addi v32 v31
  let v39 : BitVec 32 := Scalar.select v37 v38 v32
  let c1_i32_15 : BitVec 32 := 1#32
  let v40 : BitVec 32 := Scalar.addi v39 c1_i32_15
  let c0_i32_16 : BitVec 32 := 0#32
  let v41 : BitVec 32 := Scalar.addi v40 c0_i32_16
  let c4_i32_17 : BitVec 32 := 4#32
  let c0_i32_18 : BitVec 32 := 0#32
  let v42 : BitVec 1 := Scalar.cmpi .eq c4_i32_17 c0_i32_18
  let c1_i32_19 : BitVec 32 := 1#32
  let v43 : BitVec 32 := Scalar.select v42 c1_i32_19 c4_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v53 : BitVec 32 := Scalar.addi v52 v51
  let c1_i32_76 : BitVec 32 := 1#32
  let v155 : BitVec 32 := Scalar.muli v53 c1_i32_76
  let v156 : BitVec 32 := Scalar.addi c0_i32_77 v155
  v156.toNat
def k0_off8 (i : grid0.Coords) (d0 : Dev nD) : Fin 3 → Nat :=
  let arg0 : BitVec 32 := BitVec.ofNat 32 (i 0).val
  let v154 : Index := Scalar.indexCast arg0
  let c0_76 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let c0_i32_10 : BitVec 32 := 0#32
  let v30 : BitVec 1 := Scalar.cmpi .eq c4_i32 c0_i32_10
  let c1_i32_11 : BitVec 32 := 1#32
  let v31 : BitVec 32 := Scalar.select v30 c1_i32_11 c4_i32
  let v32 : BitVec 32 := Scalar.remsi v2 v31
  let c0_i32_13 : BitVec 32 := 0#32
  let v34 : BitVec 1 := Scalar.cmpi .slt v32 c0_i32_13
  let c0_i32_14 : BitVec 32 := 0#32
  let v35 : BitVec 1 := Scalar.cmpi .slt v31 c0_i32_14
  let v36 : BitVec 1 := Scalar.xori v34 v35
  let c0_i32_12 : BitVec 32 := 0#32
  let v33 : BitVec 1 := Scalar.cmpi .ne v32 c0_i32_12
  let v37 : BitVec 1 := Scalar.andi v36 v33
  let v38 : BitVec 32 := Scalar.addi v32 v31
  let v39 : BitVec 32 := Scalar.select v37 v38 v32
  let c1_i32_15 : BitVec 32 := 1#32
  let v40 : BitVec 32 := Scalar.addi v39 c1_i32_15
  let c0_i32_16 : BitVec 32 := 0#32
  let v41 : BitVec 32 := Scalar.addi v40 c0_i32_16
  let c4_i32_17 : BitVec 32 := 4#32
  let c0_i32_18 : BitVec 32 := 0#32
  let v42 : BitVec 1 := Scalar.cmpi .eq c4_i32_17 c0_i32_18
  let c1_i32_19 : BitVec 32 := 1#32
  let v43 : BitVec 32 := Scalar.select v42 c1_i32_19 c4_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let c128_i32 : BitVec 32 := 128#32
  let v153 : BitVec 32 := Scalar.muli v51 c128_i32
  let v155 : Index := Scalar.indexCast v153
  ![v154.toNat, 0, v155.toNat]
def k0_off9 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v158 : BitVec 32 := Scalar.muli v2 c256_i32
  let v159 : Index := Scalar.indexCast v158
  let c0_77 : Index := 0#32
  ![v159.toNat, 0]
def k0_off10 (d0 : Dev nD) (v4 : BitVec 32) : Fin 1 → Nat :=
  let c4_i32_40 : BitVec 32 := 4#32
  let v82 : BitVec 32 := Scalar.muli v4 c4_i32_40
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_26 : BitVec 32 := 4#32
  let c0_i32_27 : BitVec 32 := 0#32
  let v60 : BitVec 1 := Scalar.cmpi .eq c4_i32_26 c0_i32_27
  let c1_i32_28 : BitVec 32 := 1#32
  let v61 : BitVec 32 := Scalar.select v60 c1_i32_28 c4_i32_26
  let v62 : BitVec 32 := Scalar.remsi v2 v61
  let c0_i32_30 : BitVec 32 := 0#32
  let v64 : BitVec 1 := Scalar.cmpi .slt v62 c0_i32_30
  let c0_i32_31 : BitVec 32 := 0#32
  let v65 : BitVec 1 := Scalar.cmpi .slt v61 c0_i32_31
  let v66 : BitVec 1 := Scalar.xori v64 v65
  let c0_i32_29 : BitVec 32 := 0#32
  let v63 : BitVec 1 := Scalar.cmpi .ne v62 c0_i32_29
  let v67 : BitVec 1 := Scalar.andi v66 v63
  let v68 : BitVec 32 := Scalar.addi v62 v61
  let v69 : BitVec 32 := Scalar.select v67 v68 v62
  let c1_i32_32 : BitVec 32 := 1#32
  let v70 : BitVec 32 := Scalar.addi v69 c1_i32_32
  let c1_i32_33 : BitVec 32 := 1#32
  let v71 : BitVec 32 := Scalar.addi v70 c1_i32_33
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let v83 : BitVec 32 := Scalar.addi v82 v81
  ![v83.toNat]
def k0_cond4 (d0 : Dev nD) (v4 : BitVec 32) : BitVec 1 :=
  let c4_i32_40 : BitVec 32 := 4#32
  let v82 : BitVec 32 := Scalar.muli v4 c4_i32_40
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_26 : BitVec 32 := 4#32
  let c0_i32_27 : BitVec 32 := 0#32
  let v60 : BitVec 1 := Scalar.cmpi .eq c4_i32_26 c0_i32_27
  let c1_i32_28 : BitVec 32 := 1#32
  let v61 : BitVec 32 := Scalar.select v60 c1_i32_28 c4_i32_26
  let v62 : BitVec 32 := Scalar.remsi v2 v61
  let c0_i32_30 : BitVec 32 := 0#32
  let v64 : BitVec 1 := Scalar.cmpi .slt v62 c0_i32_30
  let c0_i32_31 : BitVec 32 := 0#32
  let v65 : BitVec 1 := Scalar.cmpi .slt v61 c0_i32_31
  let v66 : BitVec 1 := Scalar.xori v64 v65
  let c0_i32_29 : BitVec 32 := 0#32
  let v63 : BitVec 1 := Scalar.cmpi .ne v62 c0_i32_29
  let v67 : BitVec 1 := Scalar.andi v66 v63
  let v68 : BitVec 32 := Scalar.addi v62 v61
  let v69 : BitVec 32 := Scalar.select v67 v68 v62
  let c1_i32_32 : BitVec 32 := 1#32
  let v70 : BitVec 32 := Scalar.addi v69 c1_i32_32
  let c1_i32_33 : BitVec 32 := 1#32
  let v71 : BitVec 32 := Scalar.addi v70 c1_i32_33
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let v83 : BitVec 32 := Scalar.addi v82 v81
  let v84 : BitVec 1 := Scalar.cmpi .ne v83 v2
  let v85 : BitVec 32 := Scalar.extui v84
  let c0_i32_41 : BitVec 32 := 0#32
  let v86 : BitVec 1 := Scalar.cmpi .ne v85 c0_i32_41
  v86

def k0_off11 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off12 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v154 : BitVec 32 := Scalar.muli v2 c256_i32
  let c0_i32_78 : BitVec 32 := 0#32
  ![v154.toNat, 0]
def k0_off13 (i : grid0.Coords) (d0 : Dev nD) : Fin 3 → Nat :=
  let arg0 : BitVec 32 := BitVec.ofNat 32 (i 0).val
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_26 : BitVec 32 := 4#32
  let c0_i32_27 : BitVec 32 := 0#32
  let v60 : BitVec 1 := Scalar.cmpi .eq c4_i32_26 c0_i32_27
  let c1_i32_28 : BitVec 32 := 1#32
  let v61 : BitVec 32 := Scalar.select v60 c1_i32_28 c4_i32_26
  let v62 : BitVec 32 := Scalar.remsi v2 v61
  let c0_i32_30 : BitVec 32 := 0#32
  let v64 : BitVec 1 := Scalar.cmpi .slt v62 c0_i32_30
  let c0_i32_31 : BitVec 32 := 0#32
  let v65 : BitVec 1 := Scalar.cmpi .slt v61 c0_i32_31
  let v66 : BitVec 1 := Scalar.xori v64 v65
  let c0_i32_29 : BitVec 32 := 0#32
  let v63 : BitVec 1 := Scalar.cmpi .ne v62 c0_i32_29
  let v67 : BitVec 1 := Scalar.andi v66 v63
  let v68 : BitVec 32 := Scalar.addi v62 v61
  let v69 : BitVec 32 := Scalar.select v67 v68 v62
  let c1_i32_32 : BitVec 32 := 1#32
  let v70 : BitVec 32 := Scalar.addi v69 c1_i32_32
  let c1_i32_33 : BitVec 32 := 1#32
  let v71 : BitVec 32 := Scalar.addi v70 c1_i32_33
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c128_i32 : BitVec 32 := 128#32
  let v153 : BitVec 32 := Scalar.muli v81 c128_i32
  ![arg0.toNat, 0, v153.toNat]
def k0_dev33 (d0 : Dev nD) (v4 : BitVec 32) : Nat :=
  let c0_i32_77 : BitVec 32 := 0#32
  let c4_i32_40 : BitVec 32 := 4#32
  let v82 : BitVec 32 := Scalar.muli v4 c4_i32_40
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_26 : BitVec 32 := 4#32
  let c0_i32_27 : BitVec 32 := 0#32
  let v60 : BitVec 1 := Scalar.cmpi .eq c4_i32_26 c0_i32_27
  let c1_i32_28 : BitVec 32 := 1#32
  let v61 : BitVec 32 := Scalar.select v60 c1_i32_28 c4_i32_26
  let v62 : BitVec 32 := Scalar.remsi v2 v61
  let c0_i32_30 : BitVec 32 := 0#32
  let v64 : BitVec 1 := Scalar.cmpi .slt v62 c0_i32_30
  let c0_i32_31 : BitVec 32 := 0#32
  let v65 : BitVec 1 := Scalar.cmpi .slt v61 c0_i32_31
  let v66 : BitVec 1 := Scalar.xori v64 v65
  let c0_i32_29 : BitVec 32 := 0#32
  let v63 : BitVec 1 := Scalar.cmpi .ne v62 c0_i32_29
  let v67 : BitVec 1 := Scalar.andi v66 v63
  let v68 : BitVec 32 := Scalar.addi v62 v61
  let v69 : BitVec 32 := Scalar.select v67 v68 v62
  let c1_i32_32 : BitVec 32 := 1#32
  let v70 : BitVec 32 := Scalar.addi v69 c1_i32_32
  let c1_i32_33 : BitVec 32 := 1#32
  let v71 : BitVec 32 := Scalar.addi v70 c1_i32_33
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let v83 : BitVec 32 := Scalar.addi v82 v81
  let c1_i32_76 : BitVec 32 := 1#32
  let v155 : BitVec 32 := Scalar.muli v83 c1_i32_76
  let v156 : BitVec 32 := Scalar.addi c0_i32_77 v155
  v156.toNat
def k0_off14 (i : grid0.Coords) (d0 : Dev nD) : Fin 3 → Nat :=
  let arg0 : BitVec 32 := BitVec.ofNat 32 (i 0).val
  let v154 : Index := Scalar.indexCast arg0
  let c0_76 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_26 : BitVec 32 := 4#32
  let c0_i32_27 : BitVec 32 := 0#32
  let v60 : BitVec 1 := Scalar.cmpi .eq c4_i32_26 c0_i32_27
  let c1_i32_28 : BitVec 32 := 1#32
  let v61 : BitVec 32 := Scalar.select v60 c1_i32_28 c4_i32_26
  let v62 : BitVec 32 := Scalar.remsi v2 v61
  let c0_i32_30 : BitVec 32 := 0#32
  let v64 : BitVec 1 := Scalar.cmpi .slt v62 c0_i32_30
  let c0_i32_31 : BitVec 32 := 0#32
  let v65 : BitVec 1 := Scalar.cmpi .slt v61 c0_i32_31
  let v66 : BitVec 1 := Scalar.xori v64 v65
  let c0_i32_29 : BitVec 32 := 0#32
  let v63 : BitVec 1 := Scalar.cmpi .ne v62 c0_i32_29
  let v67 : BitVec 1 := Scalar.andi v66 v63
  let v68 : BitVec 32 := Scalar.addi v62 v61
  let v69 : BitVec 32 := Scalar.select v67 v68 v62
  let c1_i32_32 : BitVec 32 := 1#32
  let v70 : BitVec 32 := Scalar.addi v69 c1_i32_32
  let c1_i32_33 : BitVec 32 := 1#32
  let v71 : BitVec 32 := Scalar.addi v70 c1_i32_33
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let c128_i32 : BitVec 32 := 128#32
  let v153 : BitVec 32 := Scalar.muli v81 c128_i32
  let v155 : Index := Scalar.indexCast v153
  ![v154.toNat, 0, v155.toNat]
def k0_off15 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v158 : BitVec 32 := Scalar.muli v2 c256_i32
  let v159 : Index := Scalar.indexCast v158
  let c0_77 : Index := 0#32
  ![v159.toNat, 0]
def k0_off16 (d0 : Dev nD) (v4 : BitVec 32) : Fin 1 → Nat :=
  let c4_i32_56 : BitVec 32 := 4#32
  let v112 : BitVec 32 := Scalar.muli v4 c4_i32_56
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v2 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_49 : BitVec 32 := 1#32
  let v100 : BitVec 32 := Scalar.addi v99 c1_i32_49
  let c2_i32 : BitVec 32 := 2#32
  let v101 : BitVec 32 := Scalar.addi v100 c2_i32
  let c4_i32_50 : BitVec 32 := 4#32
  let c0_i32_51 : BitVec 32 := 0#32
  let v102 : BitVec 1 := Scalar.cmpi .eq c4_i32_50 c0_i32_51
  let c1_i32_52 : BitVec 32 := 1#32
  let v103 : BitVec 32 := Scalar.select v102 c1_i32_52 c4_i32_50
  let v104 : BitVec 32 := Scalar.remsi v101 v103
  let c0_i32_54 : BitVec 32 := 0#32
  let v106 : BitVec 1 := Scalar.cmpi .slt v104 c0_i32_54
  let c0_i32_55 : BitVec 32 := 0#32
  let v107 : BitVec 1 := Scalar.cmpi .slt v103 c0_i32_55
  let v108 : BitVec 1 := Scalar.xori v106 v107
  let c0_i32_53 : BitVec 32 := 0#32
  let v105 : BitVec 1 := Scalar.cmpi .ne v104 c0_i32_53
  let v109 : BitVec 1 := Scalar.andi v108 v105
  let v110 : BitVec 32 := Scalar.addi v104 v103
  let v111 : BitVec 32 := Scalar.select v109 v110 v104
  let v113 : BitVec 32 := Scalar.addi v112 v111
  ![v113.toNat]
def k0_cond6 (d0 : Dev nD) (v4 : BitVec 32) : BitVec 1 :=
  let c4_i32_56 : BitVec 32 := 4#32
  let v112 : BitVec 32 := Scalar.muli v4 c4_i32_56
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v2 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_49 : BitVec 32 := 1#32
  let v100 : BitVec 32 := Scalar.addi v99 c1_i32_49
  let c2_i32 : BitVec 32 := 2#32
  let v101 : BitVec 32 := Scalar.addi v100 c2_i32
  let c4_i32_50 : BitVec 32 := 4#32
  let c0_i32_51 : BitVec 32 := 0#32
  let v102 : BitVec 1 := Scalar.cmpi .eq c4_i32_50 c0_i32_51
  let c1_i32_52 : BitVec 32 := 1#32
  let v103 : BitVec 32 := Scalar.select v102 c1_i32_52 c4_i32_50
  let v104 : BitVec 32 := Scalar.remsi v101 v103
  let c0_i32_54 : BitVec 32 := 0#32
  let v106 : BitVec 1 := Scalar.cmpi .slt v104 c0_i32_54
  let c0_i32_55 : BitVec 32 := 0#32
  let v107 : BitVec 1 := Scalar.cmpi .slt v103 c0_i32_55
  let v108 : BitVec 1 := Scalar.xori v106 v107
  let c0_i32_53 : BitVec 32 := 0#32
  let v105 : BitVec 1 := Scalar.cmpi .ne v104 c0_i32_53
  let v109 : BitVec 1 := Scalar.andi v108 v105
  let v110 : BitVec 32 := Scalar.addi v104 v103
  let v111 : BitVec 32 := Scalar.select v109 v110 v104
  let v113 : BitVec 32 := Scalar.addi v112 v111
  let v114 : BitVec 1 := Scalar.cmpi .ne v113 v2
  let v115 : BitVec 32 := Scalar.extui v114
  let c0_i32_57 : BitVec 32 := 0#32
  let v116 : BitVec 1 := Scalar.cmpi .ne v115 c0_i32_57
  v116

def k0_off17 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off18 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v154 : BitVec 32 := Scalar.muli v2 c256_i32
  let c0_i32_78 : BitVec 32 := 0#32
  ![v154.toNat, 0]
def k0_off19 (i : grid0.Coords) (d0 : Dev nD) : Fin 3 → Nat :=
  let arg0 : BitVec 32 := BitVec.ofNat 32 (i 0).val
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v2 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_49 : BitVec 32 := 1#32
  let v100 : BitVec 32 := Scalar.addi v99 c1_i32_49
  let c2_i32 : BitVec 32 := 2#32
  let v101 : BitVec 32 := Scalar.addi v100 c2_i32
  let c4_i32_50 : BitVec 32 := 4#32
  let c0_i32_51 : BitVec 32 := 0#32
  let v102 : BitVec 1 := Scalar.cmpi .eq c4_i32_50 c0_i32_51
  let c1_i32_52 : BitVec 32 := 1#32
  let v103 : BitVec 32 := Scalar.select v102 c1_i32_52 c4_i32_50
  let v104 : BitVec 32 := Scalar.remsi v101 v103
  let c0_i32_54 : BitVec 32 := 0#32
  let v106 : BitVec 1 := Scalar.cmpi .slt v104 c0_i32_54
  let c0_i32_55 : BitVec 32 := 0#32
  let v107 : BitVec 1 := Scalar.cmpi .slt v103 c0_i32_55
  let v108 : BitVec 1 := Scalar.xori v106 v107
  let c0_i32_53 : BitVec 32 := 0#32
  let v105 : BitVec 1 := Scalar.cmpi .ne v104 c0_i32_53
  let v109 : BitVec 1 := Scalar.andi v108 v105
  let v110 : BitVec 32 := Scalar.addi v104 v103
  let v111 : BitVec 32 := Scalar.select v109 v110 v104
  let c128_i32 : BitVec 32 := 128#32
  let v153 : BitVec 32 := Scalar.muli v111 c128_i32
  ![arg0.toNat, 0, v153.toNat]
def k0_dev34 (d0 : Dev nD) (v4 : BitVec 32) : Nat :=
  let c0_i32_77 : BitVec 32 := 0#32
  let c4_i32_56 : BitVec 32 := 4#32
  let v112 : BitVec 32 := Scalar.muli v4 c4_i32_56
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v2 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_49 : BitVec 32 := 1#32
  let v100 : BitVec 32 := Scalar.addi v99 c1_i32_49
  let c2_i32 : BitVec 32 := 2#32
  let v101 : BitVec 32 := Scalar.addi v100 c2_i32
  let c4_i32_50 : BitVec 32 := 4#32
  let c0_i32_51 : BitVec 32 := 0#32
  let v102 : BitVec 1 := Scalar.cmpi .eq c4_i32_50 c0_i32_51
  let c1_i32_52 : BitVec 32 := 1#32
  let v103 : BitVec 32 := Scalar.select v102 c1_i32_52 c4_i32_50
  let v104 : BitVec 32 := Scalar.remsi v101 v103
  let c0_i32_54 : BitVec 32 := 0#32
  let v106 : BitVec 1 := Scalar.cmpi .slt v104 c0_i32_54
  let c0_i32_55 : BitVec 32 := 0#32
  let v107 : BitVec 1 := Scalar.cmpi .slt v103 c0_i32_55
  let v108 : BitVec 1 := Scalar.xori v106 v107
  let c0_i32_53 : BitVec 32 := 0#32
  let v105 : BitVec 1 := Scalar.cmpi .ne v104 c0_i32_53
  let v109 : BitVec 1 := Scalar.andi v108 v105
  let v110 : BitVec 32 := Scalar.addi v104 v103
  let v111 : BitVec 32 := Scalar.select v109 v110 v104
  let v113 : BitVec 32 := Scalar.addi v112 v111
  let c1_i32_76 : BitVec 32 := 1#32
  let v155 : BitVec 32 := Scalar.muli v113 c1_i32_76
  let v156 : BitVec 32 := Scalar.addi c0_i32_77 v155
  v156.toNat
def k0_off20 (i : grid0.Coords) (d0 : Dev nD) : Fin 3 → Nat :=
  let arg0 : BitVec 32 := BitVec.ofNat 32 (i 0).val
  let v154 : Index := Scalar.indexCast arg0
  let c0_76 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v2 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_49 : BitVec 32 := 1#32
  let v100 : BitVec 32 := Scalar.addi v99 c1_i32_49
  let c2_i32 : BitVec 32 := 2#32
  let v101 : BitVec 32 := Scalar.addi v100 c2_i32
  let c4_i32_50 : BitVec 32 := 4#32
  let c0_i32_51 : BitVec 32 := 0#32
  let v102 : BitVec 1 := Scalar.cmpi .eq c4_i32_50 c0_i32_51
  let c1_i32_52 : BitVec 32 := 1#32
  let v103 : BitVec 32 := Scalar.select v102 c1_i32_52 c4_i32_50
  let v104 : BitVec 32 := Scalar.remsi v101 v103
  let c0_i32_54 : BitVec 32 := 0#32
  let v106 : BitVec 1 := Scalar.cmpi .slt v104 c0_i32_54
  let c0_i32_55 : BitVec 32 := 0#32
  let v107 : BitVec 1 := Scalar.cmpi .slt v103 c0_i32_55
  let v108 : BitVec 1 := Scalar.xori v106 v107
  let c0_i32_53 : BitVec 32 := 0#32
  let v105 : BitVec 1 := Scalar.cmpi .ne v104 c0_i32_53
  let v109 : BitVec 1 := Scalar.andi v108 v105
  let v110 : BitVec 32 := Scalar.addi v104 v103
  let v111 : BitVec 32 := Scalar.select v109 v110 v104
  let c128_i32 : BitVec 32 := 128#32
  let v153 : BitVec 32 := Scalar.muli v111 c128_i32
  let v155 : Index := Scalar.indexCast v153
  ![v154.toNat, 0, v155.toNat]
def k0_off21 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v158 : BitVec 32 := Scalar.muli v2 c256_i32
  let v159 : Index := Scalar.indexCast v158
  let c0_77 : Index := 0#32
  ![v159.toNat, 0]
def k0_off22 (d0 : Dev nD) (v4 : BitVec 32) : Fin 1 → Nat :=
  let c4_i32_72 : BitVec 32 := 4#32
  let v142 : BitVec 32 := Scalar.muli v4 c4_i32_72
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_59 : BitVec 32 := 4#32
  let c0_i32_60 : BitVec 32 := 0#32
  let v120 : BitVec 1 := Scalar.cmpi .eq c4_i32_59 c0_i32_60
  let c1_i32_61 : BitVec 32 := 1#32
  let v121 : BitVec 32 := Scalar.select v120 c1_i32_61 c4_i32_59
  let v122 : BitVec 32 := Scalar.remsi v2 v121
  let c0_i32_63 : BitVec 32 := 0#32
  let v124 : BitVec 1 := Scalar.cmpi .slt v122 c0_i32_63
  let c0_i32_64 : BitVec 32 := 0#32
  let v125 : BitVec 1 := Scalar.cmpi .slt v121 c0_i32_64
  let v126 : BitVec 1 := Scalar.xori v124 v125
  let c0_i32_62 : BitVec 32 := 0#32
  let v123 : BitVec 1 := Scalar.cmpi .ne v122 c0_i32_62
  let v127 : BitVec 1 := Scalar.andi v126 v123
  let v128 : BitVec 32 := Scalar.addi v122 v121
  let v129 : BitVec 32 := Scalar.select v127 v128 v122
  let c1_i32_65 : BitVec 32 := 1#32
  let v130 : BitVec 32 := Scalar.addi v129 c1_i32_65
  let c3_i32 : BitVec 32 := 3#32
  let v131 : BitVec 32 := Scalar.addi v130 c3_i32
  let c4_i32_66 : BitVec 32 := 4#32
  let c0_i32_67 : BitVec 32 := 0#32
  let v132 : BitVec 1 := Scalar.cmpi .eq c4_i32_66 c0_i32_67
  let c1_i32_68 : BitVec 32 := 1#32
  let v133 : BitVec 32 := Scalar.select v132 c1_i32_68 c4_i32_66
  let v134 : BitVec 32 := Scalar.remsi v131 v133
  let c0_i32_70 : BitVec 32 := 0#32
  let v136 : BitVec 1 := Scalar.cmpi .slt v134 c0_i32_70
  let c0_i32_71 : BitVec 32 := 0#32
  let v137 : BitVec 1 := Scalar.cmpi .slt v133 c0_i32_71
  let v138 : BitVec 1 := Scalar.xori v136 v137
  let c0_i32_69 : BitVec 32 := 0#32
  let v135 : BitVec 1 := Scalar.cmpi .ne v134 c0_i32_69
  let v139 : BitVec 1 := Scalar.andi v138 v135
  let v140 : BitVec 32 := Scalar.addi v134 v133
  let v141 : BitVec 32 := Scalar.select v139 v140 v134
  let v143 : BitVec 32 := Scalar.addi v142 v141
  ![v143.toNat]
def k0_cond8 (d0 : Dev nD) (v4 : BitVec 32) : BitVec 1 :=
  let c4_i32_72 : BitVec 32 := 4#32
  let v142 : BitVec 32 := Scalar.muli v4 c4_i32_72
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_59 : BitVec 32 := 4#32
  let c0_i32_60 : BitVec 32 := 0#32
  let v120 : BitVec 1 := Scalar.cmpi .eq c4_i32_59 c0_i32_60
  let c1_i32_61 : BitVec 32 := 1#32
  let v121 : BitVec 32 := Scalar.select v120 c1_i32_61 c4_i32_59
  let v122 : BitVec 32 := Scalar.remsi v2 v121
  let c0_i32_63 : BitVec 32 := 0#32
  let v124 : BitVec 1 := Scalar.cmpi .slt v122 c0_i32_63
  let c0_i32_64 : BitVec 32 := 0#32
  let v125 : BitVec 1 := Scalar.cmpi .slt v121 c0_i32_64
  let v126 : BitVec 1 := Scalar.xori v124 v125
  let c0_i32_62 : BitVec 32 := 0#32
  let v123 : BitVec 1 := Scalar.cmpi .ne v122 c0_i32_62
  let v127 : BitVec 1 := Scalar.andi v126 v123
  let v128 : BitVec 32 := Scalar.addi v122 v121
  let v129 : BitVec 32 := Scalar.select v127 v128 v122
  let c1_i32_65 : BitVec 32 := 1#32
  let v130 : BitVec 32 := Scalar.addi v129 c1_i32_65
  let c3_i32 : BitVec 32 := 3#32
  let v131 : BitVec 32 := Scalar.addi v130 c3_i32
  let c4_i32_66 : BitVec 32 := 4#32
  let c0_i32_67 : BitVec 32 := 0#32
  let v132 : BitVec 1 := Scalar.cmpi .eq c4_i32_66 c0_i32_67
  let c1_i32_68 : BitVec 32 := 1#32
  let v133 : BitVec 32 := Scalar.select v132 c1_i32_68 c4_i32_66
  let v134 : BitVec 32 := Scalar.remsi v131 v133
  let c0_i32_70 : BitVec 32 := 0#32
  let v136 : BitVec 1 := Scalar.cmpi .slt v134 c0_i32_70
  let c0_i32_71 : BitVec 32 := 0#32
  let v137 : BitVec 1 := Scalar.cmpi .slt v133 c0_i32_71
  let v138 : BitVec 1 := Scalar.xori v136 v137
  let c0_i32_69 : BitVec 32 := 0#32
  let v135 : BitVec 1 := Scalar.cmpi .ne v134 c0_i32_69
  let v139 : BitVec 1 := Scalar.andi v138 v135
  let v140 : BitVec 32 := Scalar.addi v134 v133
  let v141 : BitVec 32 := Scalar.select v139 v140 v134
  let v143 : BitVec 32 := Scalar.addi v142 v141
  let v144 : BitVec 1 := Scalar.cmpi .ne v143 v2
  let v145 : BitVec 32 := Scalar.extui v144
  let c0_i32_73 : BitVec 32 := 0#32
  let v146 : BitVec 1 := Scalar.cmpi .ne v145 c0_i32_73
  v146

def k0_off23 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off24 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v154 : BitVec 32 := Scalar.muli v2 c256_i32
  let c0_i32_78 : BitVec 32 := 0#32
  ![v154.toNat, 0]
def k0_off25 (i : grid0.Coords) (d0 : Dev nD) : Fin 3 → Nat :=
  let arg0 : BitVec 32 := BitVec.ofNat 32 (i 0).val
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_59 : BitVec 32 := 4#32
  let c0_i32_60 : BitVec 32 := 0#32
  let v120 : BitVec 1 := Scalar.cmpi .eq c4_i32_59 c0_i32_60
  let c1_i32_61 : BitVec 32 := 1#32
  let v121 : BitVec 32 := Scalar.select v120 c1_i32_61 c4_i32_59
  let v122 : BitVec 32 := Scalar.remsi v2 v121
  let c0_i32_63 : BitVec 32 := 0#32
  let v124 : BitVec 1 := Scalar.cmpi .slt v122 c0_i32_63
  let c0_i32_64 : BitVec 32 := 0#32
  let v125 : BitVec 1 := Scalar.cmpi .slt v121 c0_i32_64
  let v126 : BitVec 1 := Scalar.xori v124 v125
  let c0_i32_62 : BitVec 32 := 0#32
  let v123 : BitVec 1 := Scalar.cmpi .ne v122 c0_i32_62
  let v127 : BitVec 1 := Scalar.andi v126 v123
  let v128 : BitVec 32 := Scalar.addi v122 v121
  let v129 : BitVec 32 := Scalar.select v127 v128 v122
  let c1_i32_65 : BitVec 32 := 1#32
  let v130 : BitVec 32 := Scalar.addi v129 c1_i32_65
  let c3_i32 : BitVec 32 := 3#32
  let v131 : BitVec 32 := Scalar.addi v130 c3_i32
  let c4_i32_66 : BitVec 32 := 4#32
  let c0_i32_67 : BitVec 32 := 0#32
  let v132 : BitVec 1 := Scalar.cmpi .eq c4_i32_66 c0_i32_67
  let c1_i32_68 : BitVec 32 := 1#32
  let v133 : BitVec 32 := Scalar.select v132 c1_i32_68 c4_i32_66
  let v134 : BitVec 32 := Scalar.remsi v131 v133
  let c0_i32_70 : BitVec 32 := 0#32
  let v136 : BitVec 1 := Scalar.cmpi .slt v134 c0_i32_70
  let c0_i32_71 : BitVec 32 := 0#32
  let v137 : BitVec 1 := Scalar.cmpi .slt v133 c0_i32_71
  let v138 : BitVec 1 := Scalar.xori v136 v137
  let c0_i32_69 : BitVec 32 := 0#32
  let v135 : BitVec 1 := Scalar.cmpi .ne v134 c0_i32_69
  let v139 : BitVec 1 := Scalar.andi v138 v135
  let v140 : BitVec 32 := Scalar.addi v134 v133
  let v141 : BitVec 32 := Scalar.select v139 v140 v134
  let c128_i32 : BitVec 32 := 128#32
  let v153 : BitVec 32 := Scalar.muli v141 c128_i32
  ![arg0.toNat, 0, v153.toNat]
def k0_dev35 (d0 : Dev nD) (v4 : BitVec 32) : Nat :=
  let c0_i32_77 : BitVec 32 := 0#32
  let c4_i32_72 : BitVec 32 := 4#32
  let v142 : BitVec 32 := Scalar.muli v4 c4_i32_72
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_59 : BitVec 32 := 4#32
  let c0_i32_60 : BitVec 32 := 0#32
  let v120 : BitVec 1 := Scalar.cmpi .eq c4_i32_59 c0_i32_60
  let c1_i32_61 : BitVec 32 := 1#32
  let v121 : BitVec 32 := Scalar.select v120 c1_i32_61 c4_i32_59
  let v122 : BitVec 32 := Scalar.remsi v2 v121
  let c0_i32_63 : BitVec 32 := 0#32
  let v124 : BitVec 1 := Scalar.cmpi .slt v122 c0_i32_63
  let c0_i32_64 : BitVec 32 := 0#32
  let v125 : BitVec 1 := Scalar.cmpi .slt v121 c0_i32_64
  let v126 : BitVec 1 := Scalar.xori v124 v125
  let c0_i32_62 : BitVec 32 := 0#32
  let v123 : BitVec 1 := Scalar.cmpi .ne v122 c0_i32_62
  let v127 : BitVec 1 := Scalar.andi v126 v123
  let v128 : BitVec 32 := Scalar.addi v122 v121
  let v129 : BitVec 32 := Scalar.select v127 v128 v122
  let c1_i32_65 : BitVec 32 := 1#32
  let v130 : BitVec 32 := Scalar.addi v129 c1_i32_65
  let c3_i32 : BitVec 32 := 3#32
  let v131 : BitVec 32 := Scalar.addi v130 c3_i32
  let c4_i32_66 : BitVec 32 := 4#32
  let c0_i32_67 : BitVec 32 := 0#32
  let v132 : BitVec 1 := Scalar.cmpi .eq c4_i32_66 c0_i32_67
  let c1_i32_68 : BitVec 32 := 1#32
  let v133 : BitVec 32 := Scalar.select v132 c1_i32_68 c4_i32_66
  let v134 : BitVec 32 := Scalar.remsi v131 v133
  let c0_i32_70 : BitVec 32 := 0#32
  let v136 : BitVec 1 := Scalar.cmpi .slt v134 c0_i32_70
  let c0_i32_71 : BitVec 32 := 0#32
  let v137 : BitVec 1 := Scalar.cmpi .slt v133 c0_i32_71
  let v138 : BitVec 1 := Scalar.xori v136 v137
  let c0_i32_69 : BitVec 32 := 0#32
  let v135 : BitVec 1 := Scalar.cmpi .ne v134 c0_i32_69
  let v139 : BitVec 1 := Scalar.andi v138 v135
  let v140 : BitVec 32 := Scalar.addi v134 v133
  let v141 : BitVec 32 := Scalar.select v139 v140 v134
  let v143 : BitVec 32 := Scalar.addi v142 v141
  let c1_i32_76 : BitVec 32 := 1#32
  let v155 : BitVec 32 := Scalar.muli v143 c1_i32_76
  let v156 : BitVec 32 := Scalar.addi c0_i32_77 v155
  v156.toNat

def k0_chk1 (d0 : Dev nD) (v4 : BitVec 32) : Prop :=
  (∀ (k0_h2 : k0_cond2 d0 v4 = 1#1), ∀ a, (k0_off4 d0 v4) a + S1.size a ≤ S32.size a) ∧
  (∀ (k0_h2 : k0_cond2 d0 v4 = 1#1), (k0_dev32 d0 v4) < nD) ∧
  (∀ (k0_h4 : k0_cond4 d0 v4 = 1#1), ∀ a, (k0_off10 d0 v4) a + S1.size a ≤ S32.size a) ∧
  (∀ (k0_h4 : k0_cond4 d0 v4 = 1#1), (k0_dev33 d0 v4) < nD) ∧
  (∀ (k0_h6 : k0_cond6 d0 v4 = 1#1), ∀ a, (k0_off16 d0 v4) a + S1.size a ≤ S32.size a) ∧
  (∀ (k0_h6 : k0_cond6 d0 v4 = 1#1), (k0_dev34 d0 v4) < nD) ∧
  (∀ (k0_h8 : k0_cond8 d0 v4 = 1#1), ∀ a, (k0_off22 d0 v4) a + S1.size a ≤ S32.size a) ∧
  (∀ (k0_h8 : k0_cond8 d0 v4 = 1#1), (k0_dev35 d0 v4) < nD)
theorem k0_off4_inb : ∀ (d0 : Dev nD) (v4 : BitVec 32) (k0_hw1 : k0_chk1 d0 v4), ∀ (k0_h2 : k0_cond2 d0 v4 = 1#1), ∀ a, (k0_off4 d0 v4) a + S1.size a ≤ S32.size a := fun d0 v4 k0_hw1 k0_h2 => k0_hw1.1 k0_h2
theorem k0_dev32_lt : ∀ (d0 : Dev nD) (v4 : BitVec 32) (k0_hw1 : k0_chk1 d0 v4), ∀ (k0_h2 : k0_cond2 d0 v4 = 1#1), (k0_dev32 d0 v4) < nD := fun d0 v4 k0_hw1 k0_h2 => k0_hw1.2.1 k0_h2
theorem k0_off10_inb : ∀ (d0 : Dev nD) (v4 : BitVec 32) (k0_hw1 : k0_chk1 d0 v4), ∀ (k0_h4 : k0_cond4 d0 v4 = 1#1), ∀ a, (k0_off10 d0 v4) a + S1.size a ≤ S32.size a := fun d0 v4 k0_hw1 k0_h4 => k0_hw1.2.2.1 k0_h4
theorem k0_dev33_lt : ∀ (d0 : Dev nD) (v4 : BitVec 32) (k0_hw1 : k0_chk1 d0 v4), ∀ (k0_h4 : k0_cond4 d0 v4 = 1#1), (k0_dev33 d0 v4) < nD := fun d0 v4 k0_hw1 k0_h4 => k0_hw1.2.2.2.1 k0_h4
theorem k0_off16_inb : ∀ (d0 : Dev nD) (v4 : BitVec 32) (k0_hw1 : k0_chk1 d0 v4), ∀ (k0_h6 : k0_cond6 d0 v4 = 1#1), ∀ a, (k0_off16 d0 v4) a + S1.size a ≤ S32.size a := fun d0 v4 k0_hw1 k0_h6 => k0_hw1.2.2.2.2.1 k0_h6
theorem k0_dev34_lt : ∀ (d0 : Dev nD) (v4 : BitVec 32) (k0_hw1 : k0_chk1 d0 v4), ∀ (k0_h6 : k0_cond6 d0 v4 = 1#1), (k0_dev34 d0 v4) < nD := fun d0 v4 k0_hw1 k0_h6 => k0_hw1.2.2.2.2.2.1 k0_h6
theorem k0_off22_inb : ∀ (d0 : Dev nD) (v4 : BitVec 32) (k0_hw1 : k0_chk1 d0 v4), ∀ (k0_h8 : k0_cond8 d0 v4 = 1#1), ∀ a, (k0_off22 d0 v4) a + S1.size a ≤ S32.size a := fun d0 v4 k0_hw1 k0_h8 => k0_hw1.2.2.2.2.2.2.1 k0_h8
theorem k0_dev35_lt : ∀ (d0 : Dev nD) (v4 : BitVec 32) (k0_hw1 : k0_chk1 d0 v4), ∀ (k0_h8 : k0_cond8 d0 v4 = 1#1), (k0_dev35 d0 v4) < nD := fun d0 v4 k0_hw1 k0_h8 => k0_hw1.2.2.2.2.2.2.2 k0_h8

def k0_off26 (i : grid0.Coords) (d0 : Dev nD) : Fin 3 → Nat :=
  let arg0 : BitVec 32 := BitVec.ofNat 32 (i 0).val
  let v154 : Index := Scalar.indexCast arg0
  let c0_76 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_59 : BitVec 32 := 4#32
  let c0_i32_60 : BitVec 32 := 0#32
  let v120 : BitVec 1 := Scalar.cmpi .eq c4_i32_59 c0_i32_60
  let c1_i32_61 : BitVec 32 := 1#32
  let v121 : BitVec 32 := Scalar.select v120 c1_i32_61 c4_i32_59
  let v122 : BitVec 32 := Scalar.remsi v2 v121
  let c0_i32_63 : BitVec 32 := 0#32
  let v124 : BitVec 1 := Scalar.cmpi .slt v122 c0_i32_63
  let c0_i32_64 : BitVec 32 := 0#32
  let v125 : BitVec 1 := Scalar.cmpi .slt v121 c0_i32_64
  let v126 : BitVec 1 := Scalar.xori v124 v125
  let c0_i32_62 : BitVec 32 := 0#32
  let v123 : BitVec 1 := Scalar.cmpi .ne v122 c0_i32_62
  let v127 : BitVec 1 := Scalar.andi v126 v123
  let v128 : BitVec 32 := Scalar.addi v122 v121
  let v129 : BitVec 32 := Scalar.select v127 v128 v122
  let c1_i32_65 : BitVec 32 := 1#32
  let v130 : BitVec 32 := Scalar.addi v129 c1_i32_65
  let c3_i32 : BitVec 32 := 3#32
  let v131 : BitVec 32 := Scalar.addi v130 c3_i32
  let c4_i32_66 : BitVec 32 := 4#32
  let c0_i32_67 : BitVec 32 := 0#32
  let v132 : BitVec 1 := Scalar.cmpi .eq c4_i32_66 c0_i32_67
  let c1_i32_68 : BitVec 32 := 1#32
  let v133 : BitVec 32 := Scalar.select v132 c1_i32_68 c4_i32_66
  let v134 : BitVec 32 := Scalar.remsi v131 v133
  let c0_i32_70 : BitVec 32 := 0#32
  let v136 : BitVec 1 := Scalar.cmpi .slt v134 c0_i32_70
  let c0_i32_71 : BitVec 32 := 0#32
  let v137 : BitVec 1 := Scalar.cmpi .slt v133 c0_i32_71
  let v138 : BitVec 1 := Scalar.xori v136 v137
  let c0_i32_69 : BitVec 32 := 0#32
  let v135 : BitVec 1 := Scalar.cmpi .ne v134 c0_i32_69
  let v139 : BitVec 1 := Scalar.andi v138 v135
  let v140 : BitVec 32 := Scalar.addi v134 v133
  let v141 : BitVec 32 := Scalar.select v139 v140 v134
  let c128_i32 : BitVec 32 := 128#32
  let v153 : BitVec 32 := Scalar.muli v141 c128_i32
  let v155 : Index := Scalar.indexCast v153
  ![v154.toNat, 0, v155.toNat]
def k0_off27 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c256_i32 : BitVec 32 := 256#32
  let v158 : BitVec 32 := Scalar.muli v2 c256_i32
  let v159 : Index := Scalar.indexCast v158
  let c0_77 : Index := 0#32
  ![v159.toNat, 0]
def k0_cond10 (i : grid0.Coords) : BitVec 1 :=
  let arg0 : BitVec 32 := BitVec.ofNat 32 (i 0).val
  let c7_i32 : BitVec 32 := 7#32
  let v150 : BitVec 1 := Scalar.cmpi .eq arg0 c7_i32
  let v151 : BitVec 32 := Scalar.extui v150
  let c0_i32_75 : BitVec 32 := 0#32
  let v152 : BitVec 1 := Scalar.cmpi .ne v151 c0_i32_75
  v152

def k0_off28 (d0 : Dev nD) (c1_i32_76 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v153 : BitVec 32 := Scalar.addi v2 c1_i32_76
  let c32_i32_77 : BitVec 32 := 32#32
  let c0_i32_78 : BitVec 32 := 0#32
  let v154 : BitVec 1 := Scalar.cmpi .eq c32_i32_77 c0_i32_78
  let c1_i32_79 : BitVec 32 := 1#32
  let v155 : BitVec 32 := Scalar.select v154 c1_i32_79 c32_i32_77
  let v156 : BitVec 32 := Scalar.remsi v153 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  ![v163.toNat]
def k0_off29 (d0 : Dev nD) (c1_i32_76 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v153 : BitVec 32 := Scalar.addi v2 c1_i32_76
  let c32_i32_77 : BitVec 32 := 32#32
  let c0_i32_78 : BitVec 32 := 0#32
  let v154 : BitVec 1 := Scalar.cmpi .eq c32_i32_77 c0_i32_78
  let c1_i32_79 : BitVec 32 := 1#32
  let v155 : BitVec 32 := Scalar.select v154 c1_i32_79 c32_i32_77
  let v156 : BitVec 32 := Scalar.remsi v153 v155
  let c0_i32_81 : BitVec 32 := 0#32
  let v158 : BitVec 1 := Scalar.cmpi .slt v156 c0_i32_81
  let c0_i32_82 : BitVec 32 := 0#32
  let v159 : BitVec 1 := Scalar.cmpi .slt v155 c0_i32_82
  let v160 : BitVec 1 := Scalar.xori v158 v159
  let c0_i32_80 : BitVec 32 := 0#32
  let v157 : BitVec 1 := Scalar.cmpi .ne v156 c0_i32_80
  let v161 : BitVec 1 := Scalar.andi v160 v157
  let v162 : BitVec 32 := Scalar.addi v156 v155
  let v163 : BitVec 32 := Scalar.select v161 v162 v156
  let c256_i32 : BitVec 32 := 256#32
  let v164 : BitVec 32 := Scalar.muli v163 c256_i32
  let c0_i32_86 : BitVec 32 := 0#32
  ![v164.toNat, 0]
def k0_cond3 (d0 : Dev nD) (v4 : BitVec 32) : BitVec 1 :=
  let c4_i32_23 : BitVec 32 := 4#32
  let v52 : BitVec 32 := Scalar.muli v4 c4_i32_23
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let c0_i32_10 : BitVec 32 := 0#32
  let v30 : BitVec 1 := Scalar.cmpi .eq c4_i32 c0_i32_10
  let c1_i32_11 : BitVec 32 := 1#32
  let v31 : BitVec 32 := Scalar.select v30 c1_i32_11 c4_i32
  let v32 : BitVec 32 := Scalar.remsi v2 v31
  let c0_i32_13 : BitVec 32 := 0#32
  let v34 : BitVec 1 := Scalar.cmpi .slt v32 c0_i32_13
  let c0_i32_14 : BitVec 32 := 0#32
  let v35 : BitVec 1 := Scalar.cmpi .slt v31 c0_i32_14
  let v36 : BitVec 1 := Scalar.xori v34 v35
  let c0_i32_12 : BitVec 32 := 0#32
  let v33 : BitVec 1 := Scalar.cmpi .ne v32 c0_i32_12
  let v37 : BitVec 1 := Scalar.andi v36 v33
  let v38 : BitVec 32 := Scalar.addi v32 v31
  let v39 : BitVec 32 := Scalar.select v37 v38 v32
  let c1_i32_15 : BitVec 32 := 1#32
  let v40 : BitVec 32 := Scalar.addi v39 c1_i32_15
  let c0_i32_16 : BitVec 32 := 0#32
  let v41 : BitVec 32 := Scalar.addi v40 c0_i32_16
  let c4_i32_17 : BitVec 32 := 4#32
  let c0_i32_18 : BitVec 32 := 0#32
  let v42 : BitVec 1 := Scalar.cmpi .eq c4_i32_17 c0_i32_18
  let c1_i32_19 : BitVec 32 := 1#32
  let v43 : BitVec 32 := Scalar.select v42 c1_i32_19 c4_i32_17
  let v44 : BitVec 32 := Scalar.remsi v41 v43
  let c0_i32_21 : BitVec 32 := 0#32
  let v46 : BitVec 1 := Scalar.cmpi .slt v44 c0_i32_21
  let c0_i32_22 : BitVec 32 := 0#32
  let v47 : BitVec 1 := Scalar.cmpi .slt v43 c0_i32_22
  let v48 : BitVec 1 := Scalar.xori v46 v47
  let c0_i32_20 : BitVec 32 := 0#32
  let v45 : BitVec 1 := Scalar.cmpi .ne v44 c0_i32_20
  let v49 : BitVec 1 := Scalar.andi v48 v45
  let v50 : BitVec 32 := Scalar.addi v44 v43
  let v51 : BitVec 32 := Scalar.select v49 v50 v44
  let v53 : BitVec 32 := Scalar.addi v52 v51
  let v57 : BitVec 1 := Scalar.cmpi .eq v53 v2
  let v58 : BitVec 32 := Scalar.extui v57
  let c0_i32_25 : BitVec 32 := 0#32
  let v59 : BitVec 1 := Scalar.cmpi .ne v58 c0_i32_25
  v59

def k0_cond5 (d0 : Dev nD) (v4 : BitVec 32) : BitVec 1 :=
  let c4_i32_40 : BitVec 32 := 4#32
  let v82 : BitVec 32 := Scalar.muli v4 c4_i32_40
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_26 : BitVec 32 := 4#32
  let c0_i32_27 : BitVec 32 := 0#32
  let v60 : BitVec 1 := Scalar.cmpi .eq c4_i32_26 c0_i32_27
  let c1_i32_28 : BitVec 32 := 1#32
  let v61 : BitVec 32 := Scalar.select v60 c1_i32_28 c4_i32_26
  let v62 : BitVec 32 := Scalar.remsi v2 v61
  let c0_i32_30 : BitVec 32 := 0#32
  let v64 : BitVec 1 := Scalar.cmpi .slt v62 c0_i32_30
  let c0_i32_31 : BitVec 32 := 0#32
  let v65 : BitVec 1 := Scalar.cmpi .slt v61 c0_i32_31
  let v66 : BitVec 1 := Scalar.xori v64 v65
  let c0_i32_29 : BitVec 32 := 0#32
  let v63 : BitVec 1 := Scalar.cmpi .ne v62 c0_i32_29
  let v67 : BitVec 1 := Scalar.andi v66 v63
  let v68 : BitVec 32 := Scalar.addi v62 v61
  let v69 : BitVec 32 := Scalar.select v67 v68 v62
  let c1_i32_32 : BitVec 32 := 1#32
  let v70 : BitVec 32 := Scalar.addi v69 c1_i32_32
  let c1_i32_33 : BitVec 32 := 1#32
  let v71 : BitVec 32 := Scalar.addi v70 c1_i32_33
  let c4_i32_34 : BitVec 32 := 4#32
  let c0_i32_35 : BitVec 32 := 0#32
  let v72 : BitVec 1 := Scalar.cmpi .eq c4_i32_34 c0_i32_35
  let c1_i32_36 : BitVec 32 := 1#32
  let v73 : BitVec 32 := Scalar.select v72 c1_i32_36 c4_i32_34
  let v74 : BitVec 32 := Scalar.remsi v71 v73
  let c0_i32_38 : BitVec 32 := 0#32
  let v76 : BitVec 1 := Scalar.cmpi .slt v74 c0_i32_38
  let c0_i32_39 : BitVec 32 := 0#32
  let v77 : BitVec 1 := Scalar.cmpi .slt v73 c0_i32_39
  let v78 : BitVec 1 := Scalar.xori v76 v77
  let c0_i32_37 : BitVec 32 := 0#32
  let v75 : BitVec 1 := Scalar.cmpi .ne v74 c0_i32_37
  let v79 : BitVec 1 := Scalar.andi v78 v75
  let v80 : BitVec 32 := Scalar.addi v74 v73
  let v81 : BitVec 32 := Scalar.select v79 v80 v74
  let v83 : BitVec 32 := Scalar.addi v82 v81
  let v87 : BitVec 1 := Scalar.cmpi .eq v83 v2
  let v88 : BitVec 32 := Scalar.extui v87
  let c0_i32_42 : BitVec 32 := 0#32
  let v89 : BitVec 1 := Scalar.cmpi .ne v88 c0_i32_42
  v89

def k0_cond7 (d0 : Dev nD) (v4 : BitVec 32) : BitVec 1 :=
  let c4_i32_56 : BitVec 32 := 4#32
  let v112 : BitVec 32 := Scalar.muli v4 c4_i32_56
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_43 : BitVec 32 := 4#32
  let c0_i32_44 : BitVec 32 := 0#32
  let v90 : BitVec 1 := Scalar.cmpi .eq c4_i32_43 c0_i32_44
  let c1_i32_45 : BitVec 32 := 1#32
  let v91 : BitVec 32 := Scalar.select v90 c1_i32_45 c4_i32_43
  let v92 : BitVec 32 := Scalar.remsi v2 v91
  let c0_i32_47 : BitVec 32 := 0#32
  let v94 : BitVec 1 := Scalar.cmpi .slt v92 c0_i32_47
  let c0_i32_48 : BitVec 32 := 0#32
  let v95 : BitVec 1 := Scalar.cmpi .slt v91 c0_i32_48
  let v96 : BitVec 1 := Scalar.xori v94 v95
  let c0_i32_46 : BitVec 32 := 0#32
  let v93 : BitVec 1 := Scalar.cmpi .ne v92 c0_i32_46
  let v97 : BitVec 1 := Scalar.andi v96 v93
  let v98 : BitVec 32 := Scalar.addi v92 v91
  let v99 : BitVec 32 := Scalar.select v97 v98 v92
  let c1_i32_49 : BitVec 32 := 1#32
  let v100 : BitVec 32 := Scalar.addi v99 c1_i32_49
  let c2_i32 : BitVec 32 := 2#32
  let v101 : BitVec 32 := Scalar.addi v100 c2_i32
  let c4_i32_50 : BitVec 32 := 4#32
  let c0_i32_51 : BitVec 32 := 0#32
  let v102 : BitVec 1 := Scalar.cmpi .eq c4_i32_50 c0_i32_51
  let c1_i32_52 : BitVec 32 := 1#32
  let v103 : BitVec 32 := Scalar.select v102 c1_i32_52 c4_i32_50
  let v104 : BitVec 32 := Scalar.remsi v101 v103
  let c0_i32_54 : BitVec 32 := 0#32
  let v106 : BitVec 1 := Scalar.cmpi .slt v104 c0_i32_54
  let c0_i32_55 : BitVec 32 := 0#32
  let v107 : BitVec 1 := Scalar.cmpi .slt v103 c0_i32_55
  let v108 : BitVec 1 := Scalar.xori v106 v107
  let c0_i32_53 : BitVec 32 := 0#32
  let v105 : BitVec 1 := Scalar.cmpi .ne v104 c0_i32_53
  let v109 : BitVec 1 := Scalar.andi v108 v105
  let v110 : BitVec 32 := Scalar.addi v104 v103
  let v111 : BitVec 32 := Scalar.select v109 v110 v104
  let v113 : BitVec 32 := Scalar.addi v112 v111
  let v117 : BitVec 1 := Scalar.cmpi .eq v113 v2
  let v118 : BitVec 32 := Scalar.extui v117
  let c0_i32_58 : BitVec 32 := 0#32
  let v119 : BitVec 1 := Scalar.cmpi .ne v118 c0_i32_58
  v119

def k0_cond9 (d0 : Dev nD) (v4 : BitVec 32) : BitVec 1 :=
  let c4_i32_72 : BitVec 32 := 4#32
  let v142 : BitVec 32 := Scalar.muli v4 c4_i32_72
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_59 : BitVec 32 := 4#32
  let c0_i32_60 : BitVec 32 := 0#32
  let v120 : BitVec 1 := Scalar.cmpi .eq c4_i32_59 c0_i32_60
  let c1_i32_61 : BitVec 32 := 1#32
  let v121 : BitVec 32 := Scalar.select v120 c1_i32_61 c4_i32_59
  let v122 : BitVec 32 := Scalar.remsi v2 v121
  let c0_i32_63 : BitVec 32 := 0#32
  let v124 : BitVec 1 := Scalar.cmpi .slt v122 c0_i32_63
  let c0_i32_64 : BitVec 32 := 0#32
  let v125 : BitVec 1 := Scalar.cmpi .slt v121 c0_i32_64
  let v126 : BitVec 1 := Scalar.xori v124 v125
  let c0_i32_62 : BitVec 32 := 0#32
  let v123 : BitVec 1 := Scalar.cmpi .ne v122 c0_i32_62
  let v127 : BitVec 1 := Scalar.andi v126 v123
  let v128 : BitVec 32 := Scalar.addi v122 v121
  let v129 : BitVec 32 := Scalar.select v127 v128 v122
  let c1_i32_65 : BitVec 32 := 1#32
  let v130 : BitVec 32 := Scalar.addi v129 c1_i32_65
  let c3_i32 : BitVec 32 := 3#32
  let v131 : BitVec 32 := Scalar.addi v130 c3_i32
  let c4_i32_66 : BitVec 32 := 4#32
  let c0_i32_67 : BitVec 32 := 0#32
  let v132 : BitVec 1 := Scalar.cmpi .eq c4_i32_66 c0_i32_67
  let c1_i32_68 : BitVec 32 := 1#32
  let v133 : BitVec 32 := Scalar.select v132 c1_i32_68 c4_i32_66
  let v134 : BitVec 32 := Scalar.remsi v131 v133
  let c0_i32_70 : BitVec 32 := 0#32
  let v136 : BitVec 1 := Scalar.cmpi .slt v134 c0_i32_70
  let c0_i32_71 : BitVec 32 := 0#32
  let v137 : BitVec 1 := Scalar.cmpi .slt v133 c0_i32_71
  let v138 : BitVec 1 := Scalar.xori v136 v137
  let c0_i32_69 : BitVec 32 := 0#32
  let v135 : BitVec 1 := Scalar.cmpi .ne v134 c0_i32_69
  let v139 : BitVec 1 := Scalar.andi v138 v135
  let v140 : BitVec 32 := Scalar.addi v134 v133
  let v141 : BitVec 32 := Scalar.select v139 v140 v134
  let v143 : BitVec 32 := Scalar.addi v142 v141
  let v147 : BitVec 1 := Scalar.cmpi .eq v143 v2
  let v148 : BitVec 32 := Scalar.extui v147
  let c0_i32_74 : BitVec 32 := 0#32
  let v149 : BitVec 1 := Scalar.cmpi .ne v148 c0_i32_74
  v149

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S8.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Table.lean ====
/-
  The arithmetic of the exchange: which column group a device computes at each grid point, which device its k-th
  transfer addresses, and that the kernel's own integer chains come to just these.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import Idealize.ShloMosaic.Lib.Pipeline.Regions
public import Idealize.ShloMosaic.Lib.Pipeline.Kit
public import Idealize.ShloMosaic.Lib.Tactic

@[expose] public section

noncomputable section

namespace Cert.A2A

open Cert.KernelIdeal Cert.KernelIdeal.Gen
open Idealize.ShloMosaic

/-- The column group (of 8, each 512 columns wide) device `c` multiplies at grid point `s`: it starts at the group
    after its own and goes round. -/
def grp (c : Dev nD) (s : ℕ) : Fin 8 := ⟨(c.val / 4 + 1 + s) % 8, Nat.mod_lt _ (by decide)⟩

/-- The table entry the kernel reads for it. -/
def gw (c : Dev nD) (s : ℕ) : BitVec 32 := BitVec.ofNat 32 (grp c s).val

/-- The quarter (128 columns) of a 512-column tile that device `c`'s transfer number `n` of a point takes. -/
def qtr (c : Dev nD) (n : ℕ) : Fin 4 := ⟨(c.val % 4 + 1 + n) % 4, Nat.mod_lt _ (by decide)⟩

/-- The device that transfer `k` (the `k % 4`-th of point `k / 4`) of device `c` addresses. -/
def tgt (c : Dev nD) (k : ℕ) : Dev nD :=
  ⟨(grp c (k / 4)).val * 4 + (qtr c (k % 4)).val, by have := (grp c (k / 4)).isLt; have := (qtr c (k % 4)).isLt; show _ < 32; omega⟩

/-- The `k`-th other device in the order of the entry barrier and of the final waits. -/
def nth (c : Dev nD) (k : ℕ) : Dev nD := ⟨(c.val + 1 + k) % 32, Nat.mod_lt _ (by decide)⟩

theorem tgt_self (c : Dev nD) : tgt c 31 = c := by revert c; decide +kernel

theorem image_tgt (c : Dev nD) : (Finset.range 31).image (tgt c) = Finset.univ.erase c := by revert c; decide +kernel
theorem image_nth (c : Dev nD) : (Finset.range 31).image (nth c) = Finset.univ.erase c := by revert c; decide +kernel

theorem inj_tgt (c : Dev nD) : Set.InjOn (tgt c) (Finset.range 31) := by
  have h : ∀ (c : Dev nD), ∀ a ∈ Finset.range 31, ∀ b ∈ Finset.range 31, tgt c a = tgt c b → a = b := by decide +kernel
  exact fun a ha b hb e => h c a ha b hb e
theorem inj_nth (c : Dev nD) : Set.InjOn (nth c) (Finset.range 31) := by
  have h : ∀ (c : Dev nD), ∀ a ∈ Finset.range 31, ∀ b ∈ Finset.range 31, nth c a = nth c b → a = b := by decide +kernel
  exact fun a ha b hb e => h c a ha b hb e

theorem tgt_ne (c : Dev nD) {k : ℕ} (hk : k < 31) : tgt c k ≠ c := by
  have := Finset.mem_image_of_mem (tgt c) (Finset.mem_range.mpr hk)
  rw [image_tgt] at this; exact Finset.ne_of_mem_erase this
theorem nth_ne (c : Dev nD) {k : ℕ} (hk : k < 31) : nth c k ≠ c := by
  have := Finset.mem_image_of_mem (nth c) (Finset.mem_range.mpr hk)
  rw [image_nth] at this; exact Finset.ne_of_mem_erase this

/-! ## The kernel's conditions -/

theorem cond1_iff : ∀ i : grid0.Coords, k0_cond1 i = 1#1 ↔ (i 0).val = 0 := by decide +kernel
theorem cond10_iff : ∀ i : grid0.Coords, k0_cond10 i = 1#1 ↔ (i 0).val = 7 := by decide +kernel

theorem cond2 : ∀ (c : Dev nD), ∀ s < 8, k0_cond2 c (gw c s) = 1#1 := by decide +kernel
theorem cond3 : ∀ (c : Dev nD), ∀ s < 8, ¬ k0_cond3 c (gw c s) = 1#1 := by decide +kernel
theorem cond4 : ∀ (c : Dev nD), ∀ s < 8, k0_cond4 c (gw c s) = 1#1 := by decide +kernel
theorem cond5 : ∀ (c : Dev nD), ∀ s < 8, ¬ k0_cond5 c (gw c s) = 1#1 := by decide +kernel
theorem cond6 : ∀ (c : Dev nD), ∀ s < 8, k0_cond6 c (gw c s) = 1#1 := by decide +kernel
theorem cond7 : ∀ (c : Dev nD), ∀ s < 8, ¬ k0_cond7 c (gw c s) = 1#1 := by decide +kernel
theorem cond8 : ∀ (c : Dev nD), ∀ s < 7, k0_cond8 c (gw c s) = 1#1 := by decide +kernel
theorem cond9 : ∀ (c : Dev nD), ∀ s < 7, ¬ k0_cond9 c (gw c s) = 1#1 := by decide +kernel
theorem cond8_last : ∀ (c : Dev nD), ¬ k0_cond8 c (gw c 7) = 1#1 := by decide +kernel
theorem cond9_last : ∀ (c : Dev nD), k0_cond9 c (gw c 7) = 1#1 := by decide +kernel

theorem chk1 : ∀ (c : Dev nD), ∀ s < 8, k0_chk1 c (gw c s) := by decide +kernel

/-! ## The devices and offsets of the transfers -/

theorem dev32 : ∀ (c : Dev nD), ∀ s < 8, k0_dev32 c (gw c s) = (tgt c (4 * s)).val := by decide +kernel
theorem dev33 : ∀ (c : Dev nD), ∀ s < 8, k0_dev33 c (gw c s) = (tgt c (4 * s + 1)).val := by decide +kernel
theorem dev34 : ∀ (c : Dev nD), ∀ s < 8, k0_dev34 c (gw c s) = (tgt c (4 * s + 2)).val := by decide +kernel
theorem dev35 : ∀ (c : Dev nD), ∀ s < 7, k0_dev35 c (gw c s) = (tgt c (4 * s + 3)).val := by decide +kernel

theorem off4 : ∀ (c : Dev nD), ∀ s < 8, k0_off4 c (gw c s) = ![(tgt c (4 * s)).val] := by decide +kernel
theorem off10 : ∀ (c : Dev nD), ∀ s < 8, k0_off10 c (gw c s) = ![(tgt c (4 * s + 1)).val] := by decide +kernel
theorem off16 : ∀ (c : Dev nD), ∀ s < 8, k0_off16 c (gw c s) = ![(tgt c (4 * s + 2)).val] := by decide +kernel
theorem off22 : ∀ (c : Dev nD), ∀ s < 7, k0_off22 c (gw c s) = ![(tgt c (4 * s + 3)).val] := by decide +kernel

theorem off7 : ∀ (i : grid0.Coords) (c : Dev nD), k0_off7 i c = ![(i 0).val, 0, 128 * (qtr c 0).val] := by decide +kernel
theorem off13 : ∀ (i : grid0.Coords) (c : Dev nD), k0_off13 i c = ![(i 0).val, 0, 128 * (qtr c 1).val] := by decide +kernel
theorem off19 : ∀ (i : grid0.Coords) (c : Dev nD), k0_off19 i c = ![(i 0).val, 0, 128 * (qtr c 2).val] := by decide +kernel
theorem off25 : ∀ (i : grid0.Coords) (c : Dev nD), k0_off25 i c = ![(i 0).val, 0, 128 * (qtr c 3).val] := by decide +kernel
theorem off26 : ∀ (i : grid0.Coords) (c : Dev nD), k0_off26 i c = ![(i 0).val, 0, 128 * (qtr c 3).val] := by decide +kernel

theorem off28 : ∀ (c : Dev nD), ∀ k < 31, k0_off28 c (BitVec.ofNat 32 (k + 1)) = ![(nth c k).val] := by decide +kernel
theorem off29 : ∀ (c : Dev nD), ∀ k < 31, k0_off29 c (BitVec.ofNat 32 (k + 1)) = ![256 * (nth c k).val, 0] := by decide +kernel

end Cert.A2A

end
-- ==== Proof.Protocol.lean ====
/-
  The exchange as a protocol of semaphore cells: per device one barrier cell, 32 send cells and 32 receive cells, each
  of one round; what each unit hands over; what each device owes at launch, and the levels that make its waits safe.
-/
module

public import proofs.«01_k».proof.Proof.Table
public import Idealize.ShloMosaic.Lib.ValueIdxCore

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-- The user algebra: the pipeline library's rounds, this exchange's rounds (a duty named by the device that pays it),
    and counters for the staging transfers in flight. -/
abbrev UU : Type := UR sig nD τ × (URounds (GSem nD τ sig) (Dev nD) × Counters)

local notation "𝕄" => MT nD τ sig Unit (Elt F) ℕ UU ℕ

abbrev EP : Emb (UR sig nD τ) (MT nD τ sig Unit (Elt F) ℕ UU ℕ) := embL
abbrev ER : Emb (URounds (GSem nD τ sig) (Dev nD)) (MT nD τ sig Unit (Elt F) ℕ UU ℕ) :=
  (Emb.inl : Emb (URounds (GSem nD τ sig) (Dev nD)) (URounds (GSem nD τ sig) (Dev nD) × Counters)).trans embR

variable (m : (ℓ : Loc nD τ sig) → Buf (Elt F) ℓ)

/-! ## Buffers and their blocks -/

abbrev outM : Memref sig .tc .vmem S8192x128 .f32 := Memref.whole cc0_stg2_0
abbrev yM : Memref sig .tc .vmem S8x256x512 .f32 := Memref.whole cc0_scratch1
abbrev xbM : Memref sig .tc .vmem S256x8192 .bf16 := Memref.whole cc0_scratch0
abbrev xM : Memref sig .tc .vmem S256x8192 .f32 := Memref.whole cc0_stg0_0
abbrev wM : Memref sig .tc .hbm S8192x4096 .f32 := Memref.whole main_arg1

theorem orow_inb (r : Dev nD) : ∀ a, (![256 * r.val, 0] : Fin 2 → ℕ) a + S256x128.size a ≤ S8192x128.size a := by
  revert r; decide
theorem yblk_inb (s : Fin 8) (q : Fin 4) : ∀ a, (![s.val, 0, 128 * q.val] : Fin 3 → ℕ) a + S1x256x128.size a ≤ S8x256x512.size a := by
  revert s q; decide
theorem wblk_inb (g : Fin 8) : ∀ a, (![0, 512 * g.val] : Fin 2 → ℕ) a + S8192x512.size a ≤ S8192x4096.size a := by
  revert g; decide
theorem sem_inb (j : Dev nD) : ∀ a, (![j.val] : Fin 1 → ℕ) a + S1.size a ≤ S32.size a := by revert j; decide

/-- The rows of the output block that hold what device `r` computed, -/
abbrev outBlk (r : Dev nD) : Memref sig .tc .vmem S256x128 .f32 :=
  outM.slice (Rect.unit (s := S8192x128) ![256 * r.val, 0] S256x128.size (orow_inb r)) (fun _ => rfl)
/-- the 128 columns of tile `s` of the computed tiles that one transfer takes, -/
abbrev yBlk (s : Fin 8) (q : Fin 4) : Memref sig .tc .vmem S256x128 .f32 :=
  (yM.slice (Rect.unit (s := S8x256x512) ![s.val, 0, 128 * q.val] S1x256x128.size (yblk_inb s q)) (fun _ => rfl)).squeeze S256x128
    squeezes_S1x256x128_S256x128
/-- and the 512 columns of the weights of group `g`. -/
abbrev wBlk (g : Fin 8) : Memref sig .tc .hbm S8192x512 .f32 :=
  wM.slice (Rect.unit (s := S8192x4096) ![0, 512 * g.val] S8192x512.size (wblk_inb g)) (fun _ => rfl)

/-! ## Cells -/

abbrev barS : Sem sig := (SemArray.scalar (sig.barrier 0 rfl) : Sems sig S_).sem
abbrev sendS (j : Dev nD) : DmaSem sig :=
  ((cc0_scratch2.slice (Rect.unit (s := S32) ![j.val] S1.size (sem_inb j))).squeeze S_ squeezes_S1_S_ : DmaSems sig S_).sem
abbrev recvS (j : Dev nD) : DmaSem sig :=
  ((cc0_scratch3.slice (Rect.unit (s := S32) ![j.val] S1.size (sem_inb j))).squeeze S_ squeezes_S1_S_ : DmaSems sig S_).sem

abbrev barCell (c : Dev nD) : GSem nD τ sig := ((c : Thread nD τ), .reg barS)
/-- Device `c`'s own counter for its transfer to `j`; -/
abbrev sendCell (c j : Dev nD) : GSem nD τ sig := ((c : Thread nD τ), .dma (sendS j))
/-- device `c`'s counter for what `j` sends it. -/
abbrev recvCell (c j : Dev nD) : GSem nD τ sig := ((c : Thread nD τ), .dma (recvS j))

theorem send_val : ∀ j : Dev nD, (sendS j).val = 4 + j.val := by decide +kernel
theorem recv_val : ∀ j : Dev nD, (recvS j).val = 36 + j.val := by decide +kernel

theorem send_inj {i j : Dev nD} (h : sendS i = sendS j) : i = j := by
  have := congrArg Fin.val h; rw [send_val, send_val] at this; exact Fin.ext (by omega)
theorem recv_inj {i j : Dev nD} (h : recvS i = recvS j) : i = j := by
  have := congrArg Fin.val h; rw [recv_val, recv_val] at this; exact Fin.ext (by omega)
theorem send_ne_recv (i j : Dev nD) : sendS i ≠ recvS j := by
  intro h; have := congrArg Fin.val h; rw [send_val, recv_val] at this; have := i.isLt; have : i.val < 32 := i.isLt; omega

/-- What a transfer of a block credits. -/
abbrev N : ℕ := (outBlk 0).view.dmaCredit
theorem N_pos : 0 < N := View.dmaCredit_pos _ (by decide)
theorem credit_out (r : Dev nD) : (outBlk r).view.dmaCredit = N := rfl
theorem credit_y (s : Fin 8) (q : Fin 4) : (yBlk s q).view.dmaCredit = N := rfl

/-! ## Contents -/

/-- Device `c`'s rows of `x` and its copy of the weights, at launch. -/
abbrev xv (c : Dev nD) : Vec F S256x8192 .f32 := m ((c : Thread nD τ).loc main_arg0)
abbrev wv (c : Dev nD) : Vec F S8192x4096 .f32 := m ((c : Thread nD τ).loc main_arg1)

/-- The weights' columns of group `g`. -/
def wtile (c : Dev nD) (g : Fin 8) : Vec F S8192x512 .f32 := (wBlk g).view.read (Elt F) (wv m c)

/-- The tile device `c` computes for column group `g`: its rows of `x` times those columns, through the activation. -/
def ytile (c : Dev nD) (g : Fin 8) : Vec F S1x256x512 .f32 := k0_pay3 (k0_pay2 (xv m c)) (wtile m c g)

/-- The tiles buffer of device `c` once every tile is computed: tile `s` is group `grp c s`'s. -/
def yv (c : Dev nD) : Vec F S8x256x512 .f32 :=
  fun i => ytile m c (grp c (i 0).val) (ix3 (0 : Fin 1) (i 1 : Fin 256) (i 2 : Fin 512))

/-- The output block of device `d` once every transfer has landed: rows `256 r ..` are device `r`'s rows of the tile
    whose columns hold `d`'s 128. -/
def ov (d : Dev nD) : Vec F S8192x128 .f32 :=
  fun i => ytile m (⟨(i 0).val / 256, by have h : (i 0).val < 8192 := (i 0).isLt; show _ < 32; omega⟩ : Dev nD)
    (⟨d.val / 4, by have h : d.val < 32 := d.isLt; omega⟩ : Fin 8)
    (ix3 (0 : Fin 1) (⟨(i 0).val % 256, Nat.mod_lt _ (by decide)⟩ : Fin 256)
      (⟨128 * (d.val % 4) + (i 1).val, by have h : (i 1).val < 128 := (i 1).isLt; omega⟩ : Fin 512))

/-! ## The schedule -/

/-- Rows `r` of device `d`'s output block, at `f`; -/
abbrev oPts (d r : Dev nD) (f : Vec F S8192x128 .f32) : sProp 𝕄 :=
  (outBlk r).view.loc (d : Thread nD τ) ↦[(outBlk r).view.set]{fullShare} f
/-- quarter `q` of tile `s` of device `c`'s computed tiles, at `f`. -/
abbrev yPts (c : Dev nD) (s : Fin 8) (q : Fin 4) (f : Vec F S8x256x512 .f32) : sProp 𝕄 :=
  (yBlk s q).view.loc (c : Thread nD τ) ↦[(yBlk s q).view.set]{fullShare} f

/-- The tile and quarter that device `c` sends to device `j`. -/
def srcS (c j : Dev nD) : Fin 8 := ⟨(j.val / 4 + 15 - c.val / 4) % 8, Nat.mod_lt _ (by decide)⟩
def srcQ (j : Dev nD) : Fin 4 := ⟨j.val % 4, Nat.mod_lt _ (by decide)⟩

theorem srcS_tgt : ∀ (c : Dev nD), ∀ k < 32, (srcS c (tgt c k)).val = k / 4 := by decide +kernel
theorem srcQ_tgt : ∀ (c : Dev nD), ∀ k < 32, srcQ (tgt c k) = qtr c (k % 4) := by decide +kernel
theorem grp_srcS : ∀ (c j : Dev nD), (grp c (srcS c j).val).val = j.val / 4 := by decide +kernel

/-- A barrier unit from `d` hands its receiver `c` the rows of `d`'s output block that `c` will fill, and says `d`'s
    counter for them is at its round. -/
def barPay (c d : Dev nD) : sProp 𝕄 := iprop((∃ f, oPts d c f) ∗ reached ER (recvCell d c) 0)
/-- A receive credit hands the receiver its rows filled; -/
def recvPay (c d : Dev nD) : sProp 𝕄 := oPts c d (ov m c)
/-- a send credit hands the sender back the quarter tile it sent. -/
def sendPay (c j : Dev nD) : sProp 𝕄 := yPts c (srcS c j) (srcQ j) (yv m c)

/-- One round per cell: a barrier cell has a one-unit duty per other device, a send or receive cell one duty of a
    block's credit, named by the other device. -/
def sched : Rounds.Schedule (GSem nD τ sig) (Dev nD) 𝕄 where
  duties g r := if r = 0 ∧ g.1.2 = .tc then
      (if g.2 = .reg barS then Finset.univ.erase g.1.1
        else Finset.univ.filter fun d => d ≠ g.1.1 ∧ (g.2 = .dma (sendS d) ∨ g.2 = .dma (recvS d)))
    else ∅
  unitless _ := False
  amount g _ _ := if g.2 = .reg barS then 1 else N
  payload g _ d :=
    if g.2 = .reg barS then barPay g.1.1 d
    else if g.2 = .dma (recvS d) then recvPay m g.1.1 d
    else if g.2 = .dma (sendS d) then sendPay m g.1.1 d
    else iprop(emp)
  amount_pos g _ _ _ := by
    by_cases h : g.2 = .reg barS
    · rw [if_pos h]; exact Nat.one_pos
    · rw [if_neg h]; exact N_pos

instance sched_storable (g : GSem nD τ sig) (r : ℕ) (d : Dev nD) :
    BI.Storable (upEmb : UEmb _ 𝕄) ((sched (F := F) m).payload g r d) := by
  show BI.Storable upEmb (if g.2 = .reg barS then barPay g.1.1 d else if g.2 = .dma (recvS d) then recvPay m g.1.1 d
    else if g.2 = .dma (sendS d) then sendPay m g.1.1 d else iprop(emp))
  unfold barPay recvPay sendPay
  (repeat' split) <;> infer_instance

section Sched

theorem dma_ne_bar (s : DmaSem sig) : (SemLoc.dma s : SemLoc sig) ≠ .reg barS := fun h => by cases h

theorem duties_bar (c : Dev nD) : (sched (F := F) m).duties (barCell c) 0 = Finset.univ.erase c := by
  dsimp only [sched]; rw [if_pos ⟨rfl, rfl⟩, if_pos rfl]
theorem duties_send {c j : Dev nD} (h : j ≠ c) : (sched (F := F) m).duties (sendCell c j) 0 = {j} := by
  dsimp only [sched]; rw [if_pos ⟨rfl, rfl⟩, if_neg (dma_ne_bar _)]
  ext d
  simp only [Finset.mem_filter, Finset.mem_univ, true_and, Finset.mem_singleton, SemLoc.dma.injEq]
  constructor
  · rintro ⟨_, h' | h'⟩
    · exact (send_inj h').symm
    · exact absurd h' (send_ne_recv _ _)
  · rintro rfl; exact ⟨h, .inl rfl⟩
theorem duties_recv {c j : Dev nD} (h : j ≠ c) : (sched (F := F) m).duties (recvCell c j) 0 = {j} := by
  dsimp only [sched]; rw [if_pos ⟨rfl, rfl⟩, if_neg (dma_ne_bar _)]
  ext d
  simp only [Finset.mem_filter, Finset.mem_univ, true_and, Finset.mem_singleton, SemLoc.dma.injEq]
  constructor
  · rintro ⟨_, h' | h'⟩
    · exact absurd h'.symm (send_ne_recv _ _)
    · exact (recv_inj h').symm
  · rintro rfl; exact ⟨h, .inr rfl⟩
theorem duties_later (g : GSem nD τ sig) : ∀ r, 1 ≤ r → (sched (F := F) m).duties g r = ∅ :=
  fun r hr => by dsimp only [sched]; exact if_neg fun h => by omega

theorem amount_bar (c d : Dev nD) (r : ℕ) : (sched (F := F) m).amount (barCell c) r d = 1 := by dsimp only [sched]; exact if_pos rfl
theorem amount_dma (c d : Dev nD) (s : DmaSem sig) (r : ℕ) : (sched (F := F) m).amount ((c : Thread nD τ), .dma s) r d = N := by
  dsimp only [sched]; exact if_neg (dma_ne_bar _)

theorem expect_bar (c : Dev nD) : (sched (F := F) m).expect (barCell c) 0 = 31 := by
  unfold Schedule.expect Schedule.amountOf
  rw [duties_bar, Finset.sum_congr rfl fun d _ => amount_bar m c d 0, Finset.sum_const, Finset.card_erase_of_mem (Finset.mem_univ _)]
  rfl
theorem expect_send {c j : Dev nD} (h : j ≠ c) : (sched (F := F) m).expect (sendCell c j) 0 = N := by
  unfold Schedule.expect Schedule.amountOf; rw [duties_send m h, Finset.sum_singleton, amount_dma]
theorem expect_recv {c j : Dev nD} (h : j ≠ c) : (sched (F := F) m).expect (recvCell c j) 0 = N := by
  unfold Schedule.expect Schedule.amountOf; rw [duties_recv m h, Finset.sum_singleton, amount_dma]

theorem payload_bar (c d : Dev nD) (r : ℕ) : (sched (F := F) m).payload (barCell c) r d = barPay c d := by dsimp only [sched]; exact if_pos rfl
theorem payload_send (c d : Dev nD) (r : ℕ) : (sched (F := F) m).payload (sendCell c d) r d = sendPay m c d := by
  dsimp only [sched]
  rw [if_neg (dma_ne_bar _), if_neg (fun h => send_ne_recv d d (SemLoc.dma.inj h)), if_pos rfl]
theorem payload_recv (c d : Dev nD) (r : ℕ) : (sched (F := F) m).payload (recvCell c d) r d = recvPay m c d := by
  dsimp only [sched]; rw [if_neg (dma_ne_bar _), if_pos rfl]

theorem rest_bar (c : Dev nD) : bigSep ((sched (F := F) m).duties (barCell c) 0 \ ∅) (fun u => (sched (F := F) m).payload (barCell c) 0 u)
    = bigSep (Finset.univ.erase c) fun d => barPay c d := by
  rw [Finset.sdiff_empty, duties_bar]; exact congrArg _ (funext fun d => payload_bar m c d 0)
theorem rest_send {c j : Dev nD} (h : j ≠ c) :
    bigSep ((sched (F := F) m).duties (sendCell c j) 0 \ ∅) (fun u => (sched (F := F) m).payload (sendCell c j) 0 u) = sendPay m c j := by
  rw [Finset.sdiff_empty, duties_send m h, bigSep_singleton, payload_send]
theorem rest_recv {c j : Dev nD} (h : j ≠ c) :
    bigSep ((sched (F := F) m).duties (recvCell c j) 0 \ ∅) (fun u => (sched (F := F) m).payload (recvCell c j) 0 u) = recvPay m c j := by
  rw [Finset.sdiff_empty, duties_recv m h, bigSep_singleton, payload_recv]

end Sched

/-! ## What each device owes, and the levels -/

/-- The receive credits device `c`'s transfers `k`, `k + 1`, … still owe; -/
def oweR (c : Dev nD) (k : ℕ) : CellTallies nD τ sig Unit := ∑ i ∈ Finset.Ico k 31, tallyAt (recvCell (tgt c i) c) () N
/-- the barrier units its signals `k`, `k + 1`, … still owe. -/
def oweB (c : Dev nD) (k : ℕ) : CellTallies nD τ sig Unit := ∑ i ∈ Finset.Ico k 31, tallyAt (barCell (nth c i)) () 1

theorem Ico_cons {k : ℕ} (h : k < 31) : Finset.Ico k 31 = insert k (Finset.Ico (k + 1) 31) := by
  ext i; simp only [Finset.mem_Ico, Finset.mem_insert]; omega
theorem notMem_Ico (k : ℕ) : k ∉ Finset.Ico (k + 1) 31 := by simp only [Finset.mem_Ico]; omega

theorem oweR_succ (c : Dev nD) {k : ℕ} (h : k < 31) : oweR c k = oweR c (k + 1) + tallyAt (recvCell (tgt c k) c) () N := by
  unfold oweR; rw [Ico_cons h, Finset.sum_insert (notMem_Ico k), add_comm]
theorem oweB_succ (c : Dev nD) {k : ℕ} (h : k < 31) : oweB c k = oweB c (k + 1) + tallyAt (barCell (nth c k)) () 1 := by
  unfold oweB; rw [Ico_cons h, Finset.sum_insert (notMem_Ico k), add_comm]
theorem oweR_end (c : Dev nD) : oweR c 31 = 0 := by unfold oweR; rw [Finset.Ico_self, Finset.sum_empty]
theorem oweB_end (c : Dev nD) : oweB c 31 = 0 := by unfold oweB; rw [Finset.Ico_self, Finset.sum_empty]

def O₀ (c : Dev nD) : CellTallies nD τ sig Unit := oweR c 0 + oweB c 0

def L (g : GSem nD τ sig) : Finset Unit := if g.1.2 = .tc then {()} else ∅
/-- Receive cells at 2, barrier cells at 1, every other cell at 0: a device waits on its staging transfers owing anything,
    on its barrier cell owing receive credits, on its send and receive cells owing nothing. -/
def lv (g : GSem nD τ sig) (_ : Unit) : ℕ := if g.2 = .reg barS then 1 else if ∃ j, g.2 = .dma (recvS j) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c j : Dev nD) : lv (recvCell c j) () = 2 := by
  dsimp only [lv]; rw [if_neg (dma_ne_bar _), if_pos ⟨j, rfl⟩]
theorem lv_bar (c : Dev nD) : lv (barCell c) () = 1 := by dsimp only [lv]; rw [if_pos rfl]

theorem oweR_pos {c : Dev nD} {k : ℕ} {g : GSem nD τ sig} {u : Unit} (h : 0 < oweR c k g u) : ∃ d, g = recvCell d c := by
  unfold oweR at h
  rw [Finset.sum_apply, Finsupp.finset_sum_apply] at h
  obtain ⟨i, _, hi⟩ := Finset.exists_ne_zero_of_sum_ne_zero h.ne'
  rw [tallyAt_apply] at hi
  by_contra hn
  exact hi (if_neg fun he => hn ⟨_, he.1⟩)
theorem oweB_pos {c : Dev nD} {k : ℕ} {g : GSem nD τ sig} {u : Unit} (h : 0 < oweB c k g u) : ∃ d, g = barCell d := by
  unfold oweB at h
  rw [Finset.sum_apply, Finsupp.finset_sum_apply] at h
  obtain ⟨i, _, hi⟩ := Finset.exists_ne_zero_of_sum_ne_zero h.ne'
  rw [tallyAt_apply] at hi
  by_contra hn
  exact hi (if_neg fun he => hn ⟨_, he.1⟩)

/-- A wait on the barrier cell is safe while only receive credits are owed; -/
theorem mayWait_bar (c : Dev nD) (k : ℕ) : (levAts L lv : sProp 𝕄) ⊢ MayWait (c : Thread nD τ) (.reg barS) () (oweR c k) :=
  MayOwe.of_cut (L := L) (lev := lv) 1 (fun p hp => by rw [Finset.mem_singleton.mp hp, L_tc]; exact Finset.mem_singleton_self _)
    (fun g u hg => by obtain ⟨d, rfl⟩ := oweR_pos hg; rw [L_tc]; exact Finset.mem_singleton_self _)
    (fun p hp => by rw [Finset.mem_singleton.mp hp]; exact (lv_bar c).le)
    (fun g u hg => by obtain ⟨d, rfl⟩ := oweR_pos hg; rw [show lv (recvCell d c) u = 2 from lv_recv d c]; decide)

/-- a wait on a staging transfer's cell is safe whatever is owed. -/
theorem mayWait_stage (c : Dev nD) (s : DmaSem sig) (hs : s.val < 4) (k k' : ℕ) :
    (levAts L lv : sProp 𝕄) ⊢ MayWait (c : Thread nD τ) (.dma s) () (oweR c k + oweB c k') :=
  MayOwe.of_cut (L := L) (lev := lv) 0 (fun p hp => by rw [Finset.mem_singleton.mp hp, L_tc]; exact Finset.mem_singleton_self _)
    (fun g u hg => by
      rw [Pi.add_apply, Finsupp.add_apply] at hg
      rcases Nat.pos_of_ne_zero (by omega : oweR c k g u + oweB c k' g u ≠ 0) |> fun h => (Nat.add_pos_iff_pos_or_pos.mp h) with h | h
      · obtain ⟨d, rfl⟩ := oweR_pos h; rw [L_tc]; exact Finset.mem_singleton_self _
      · obtain ⟨d, rfl⟩ := oweB_pos h; rw [L_tc]; exact Finset.mem_singleton_self _)
    (fun p hp => by
      rw [Finset.mem_singleton.mp hp]
      dsimp only [lv]
      rw [if_neg (dma_ne_bar _), if_neg]
      rintro ⟨j, hj⟩
      have := congrArg Fin.val (SemLoc.dma.inj hj)
      rw [recv_val] at this; omega)
    (fun g u hg => by
      rw [Pi.add_apply, Finsupp.add_apply] at hg
      rcases Nat.pos_of_ne_zero (by omega : oweR c k g u + oweB c k' g u ≠ 0) |> fun h => (Nat.add_pos_iff_pos_or_pos.mp h) with h | h
      · obtain ⟨d, rfl⟩ := oweR_pos h; rw [show lv (recvCell d c) u = 2 from lv_recv d c]; decide
      · obtain ⟨d, rfl⟩ := oweB_pos h; rw [show lv (barCell d) u = 1 from lv_bar d]; decide)

end Cert.A2A

end
-- ==== Proof.Geom.lean ====
/-
  The blocks of the output and of the tiles buffer: which elements each holds, how they make up the whole, and what a
  landing transfer and the stores leave in them.
-/
module

public import proofs.«01_k».proof.Proof.Protocol
public import Idealize.ShloMosaic.Lib.Pipeline.Value

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (m : (ℓ : Loc nD τ sig) → Buf (Elt F) ℓ)

theorem slab_inb (s : Fin 8) : ∀ a, (![s.val, 0, 0] : Fin 3 → ℕ) a + S1x256x512.size a ≤ S8x256x512.size a := by revert s; decide

/-- Tile `s` of the tiles buffer, as the kernel reads and writes it. -/
abbrev slab (s : Fin 8) : View sig .tc .vmem S1x256x512 .f32 :=
  yM.access (Rect.unit (s := S8x256x512) ![s.val, 0, 0] S1x256x512.size (slab_inb s))

theorem mem_out (r : Dev nD) (i : S8192x128.Idx) : i ∈ (outBlk r).view.set ↔ (i 0).val / 256 = r.val := by
  rw [show (outBlk r).view.set = (Rect.unit (s := S8192x128) ![256 * r.val, 0] S256x128.size (orow_inb r)).set from View.set_slice_whole _ _,
    Rect.mem_set_unit, Fin.forall_fin_two]
  have h0 : (i 0).val < 8192 := (i 0).isLt
  have h1 : (i 1).val < 128 := (i 1).isLt
  simp only [show S256x128.size 0 = 256 from rfl, show S256x128.size 1 = 128 from rfl, Matrix.cons_val_zero, Matrix.cons_val_one]
  omega

theorem mem_slab (s : Fin 8) (i : S8x256x512.Idx) : i ∈ (slab s).set ↔ (i 0).val = s.val := by
  rw [show (slab s).set = (Rect.unit (s := S8x256x512) ![s.val, 0, 0] S1x256x512.size (slab_inb s)).set from View.set_slice_whole _ _,
    Rect.mem_set_unit, Fin.forall_fin_succ, Fin.forall_fin_two]
  have h0 : (i 0).val < 8 := (i 0).isLt
  have h1 : (i 1).val < 256 := (i 1).isLt
  have h2 : (i 2).val < 512 := (i 2).isLt
  show (s.val ≤ (i 0).val ∧ (i 0).val < s.val + 1) ∧ (0 ≤ (i 1).val ∧ (i 1).val < 0 + 256) ∧ (0 ≤ (i 2).val ∧ (i 2).val < 0 + 512) ↔ _
  omega

theorem mem_y (s : Fin 8) (q : Fin 4) (i : S8x256x512.Idx) :
    i ∈ (yBlk s q).view.set ↔ (i 0).val = s.val ∧ (i 2).val / 128 = q.val := by
  rw [show (yBlk s q).view.set = (Rect.unit (s := S8x256x512) ![s.val, 0, 128 * q.val] S1x256x128.size (yblk_inb s q)).set from
      (Memref.set_view_squeeze _ _).trans (View.set_slice_whole _ _),
    Rect.mem_set_unit, Fin.forall_fin_succ, Fin.forall_fin_two]
  have h0 : (i 0).val < 8 := (i 0).isLt
  have h1 : (i 1).val < 256 := (i 1).isLt
  have h2 : (i 2).val < 512 := (i 2).isLt
  show (s.val ≤ (i 0).val ∧ (i 0).val < s.val + 1) ∧ (0 ≤ (i 1).val ∧ (i 1).val < 0 + 256)
    ∧ (128 * q.val ≤ (i 2).val ∧ (i 2).val < 128 * q.val + 128) ↔ _
  omega

/-- Tile `s` of device `c`'s tiles buffer, at `f`. -/
abbrev sPts (c : Dev nD) (s : Fin 8) (f : Vec F S8x256x512 .f32) : sProp 𝕄 :=
  (slab s).loc (c : Thread nD τ) ↦[(slab s).set]{fullShare} f

omit [FloatOps F] in
/-- The output block is its 32 row blocks; -/
theorem out_split (c : Dev nD) (f : Vec F S8192x128 .f32) :
    (((c : Thread nD τ).loc cc0_stg2_0) ↦{fullShare} f : sProp 𝕄) = bigSep Finset.univ fun r => oPts c r f := by
  refine Eq.trans ?_ (pointsTo_biUnion (ℓ := (c : Thread nD τ).loc cc0_stg2_0) Finset.univ (fun r : Dev nD => (outBlk r).view.set) ?_)
  · refine congrArg (fun S => (((c : Thread nD τ).loc cc0_stg2_0) ↦[S]{fullShare} f : sProp 𝕄)) (Eq.symm (Finset.eq_univ_iff_forall.mpr fun i => ?_))
    have h : ((i : S8192x128.Idx) 0).val < 8192 := ((i : S8192x128.Idx) 0).isLt
    generalize hr : ((i : S8192x128.Idx) 0).val / 256 = r
    have hlt : r < 32 := by omega
    exact Finset.mem_biUnion.mpr ⟨⟨r, hlt⟩, Finset.mem_univ _, (mem_out ⟨r, hlt⟩ i).mpr hr⟩
  · intro r _ r' _ hne
    refine Finset.disjoint_left.mpr fun i hi hi' => hne (Fin.ext ?_)
    rw [← (mem_out r i).mp hi, ← (mem_out r' i).mp hi']

omit [FloatOps F] in
/-- the tiles buffer is its eight tiles; -/
theorem y_split (c : Dev nD) (f : Vec F S8x256x512 .f32) :
    (((c : Thread nD τ).loc cc0_scratch1) ↦{fullShare} f : sProp 𝕄) = bigSep Finset.univ fun s => sPts c s f := by
  refine Eq.trans ?_ (pointsTo_biUnion (ℓ := (c : Thread nD τ).loc cc0_scratch1) Finset.univ (fun s : Fin 8 => (slab s).set) ?_)
  · refine congrArg (fun S => (((c : Thread nD τ).loc cc0_scratch1) ↦[S]{fullShare} f : sProp 𝕄)) (Eq.symm (Finset.eq_univ_iff_forall.mpr fun i => ?_))
    exact Finset.mem_biUnion.mpr ⟨((i : S8x256x512.Idx) 0 : Fin 8), Finset.mem_univ _, (mem_slab _ i).mpr rfl⟩
  · intro r _ r' _ hne
    refine Finset.disjoint_left.mpr fun i hi hi' => hne (Fin.ext ?_)
    rw [← (mem_slab r i).mp hi, ← (mem_slab r' i).mp hi']

omit [FloatOps F] in
/-- a tile is its four quarters. -/
theorem slab_split (c : Dev nD) (s : Fin 8) (f : Vec F S8x256x512 .f32) :
    (sPts c s f : sProp 𝕄) = bigSep Finset.univ fun q => yPts c s q f := by
  refine Eq.trans ?_ (pointsTo_biUnion (ℓ := (c : Thread nD τ).loc cc0_scratch1) Finset.univ (fun q : Fin 4 => (yBlk s q).view.set) ?_)
  · refine congrArg (fun S => (((c : Thread nD τ).loc cc0_scratch1) ↦[S]{fullShare} f : sProp 𝕄)) (Finset.ext fun i => ?_)
    have h : ((i : S8x256x512.Idx) 2).val < 512 := ((i : S8x256x512.Idx) 2).isLt
    rw [mem_slab, Finset.mem_biUnion]
    constructor
    · generalize hr : ((i : S8x256x512.Idx) 2).val / 128 = r
      have hlt : r < 4 := by omega
      exact fun h0 => ⟨⟨r, hlt⟩, Finset.mem_univ _, (mem_y s ⟨r, hlt⟩ i).mpr ⟨h0, hr⟩⟩
    · rintro ⟨q, -, hq⟩; exact ((mem_y s q i).mp hq).1
  · intro r _ r' _ hne
    refine Finset.disjoint_left.mpr fun i hi hi' => hne (Fin.ext ?_)
    rw [← ((mem_y s r i).mp hi).2, ← ((mem_y s r' i).mp hi').2]

/-! ## What lands -/

/-- Element `x` of a row block of the output, and of a quarter tile. -/
theorem emb_out (r : Dev nD) (x : S256x128.Idx) : (outBlk r).view.emb x = ix2 (⟨256 * r.val + (x 0).val, by
    have h : (x 0).val < 256 := (x 0).isLt; have h' : r.val < 32 := r.isLt; omega⟩ : Fin 8192) (x 1 : Fin 128) := by
  refine funext fun a => Fin.ext ?_
  fin_cases a
  · show 256 * r.val + 1 * (x 0).val = _; rw [one_mul]
  · show 0 + 1 * (x 1).val = _; rw [one_mul, zero_add]

omit [FloatOps F] in
theorem read_y (s : Fin 8) (q : Fin 4) (f : Vec F S8x256x512 .f32) (x : S256x128.Idx) :
    (yBlk s q).view.read (Elt F) f x = f (ix3 s (x 0 : Fin 256) (⟨128 * q.val + (x 1).val, by
      have h : (x 1).val < 128 := (x 1).isLt; omega⟩ : Fin 512)) := by
  refine (congrFun (Memref.read_squeeze_slice yM _ (fun _ => rfl) squeezes_S1x256x128_S256x128 shapeCasts_S1x256x128_S256x128 f) x).trans ?_
  refine (shapeCast_apply _ _ x (ix3 (0 : Fin 1) (x 0 : Fin 256) (x 1 : Fin 128)) ?_).trans ?_
  · rw [Shape.rowMajor_val_three, Shape.rowMajor_val_two]
    show (0 * 256 + (x 0).val) * 128 + (x 1).val = (x 0).val * 128 + (x 1).val
    rw [zero_mul, zero_add]
  refine congrArg f (funext fun a => Fin.ext ?_)
  fin_cases a
  · show s.val + 1 * 0 = _; rfl
  · show 0 + 1 * (x 0).val = _; rw [one_mul, zero_add]
  · show 128 * q.val + 1 * (x 1).val = _; rw [one_mul]

theorem grp_tgt : ∀ (c : Dev nD), ∀ k < 32, (grp c (k / 4)).val = (tgt c k).val / 4 := by decide +kernel
theorem qtr_tgt : ∀ (c : Dev nD), ∀ k < 32, (qtr c (k % 4)).val = (tgt c k).val % 4 := by decide +kernel

/-- The quarter tile of transfer `k` of device `c`, written over the rows `c` of an output block, is what the target's
    block must hold there. -/
theorem land_eq (c : Dev nD) (k : ℕ) (hk : k < 32) (s : Fin 8) (hs : s.val = k / 4) (fd : Vec F S8192x128 .f32) (i : S8192x128.Idx)
    (hi : i ∈ (outBlk c).view.set) :
    (outBlk c).view.write (Elt F) fd ((yBlk s (qtr c (k % 4))).view.read (Elt F) (yv m c)) Finset.univ i = ov m (tgt c k) i := by
  obtain ⟨x, -, rfl⟩ := Finset.mem_map.mp hi
  rw [View.write_emb_of_mem _ _ (Finset.mem_univ x)]
  show (yBlk s (qtr c (k % 4))).view.read (Elt F) (yv m c) x = _
  rw [read_y, emb_out]
  have h0 : (x 0).val < 256 := (x 0).isLt
  have h1 : (x 1).val < 128 := (x 1).isLt
  unfold yv ov
  have hd : (256 * c.val + (x 0).val) / 256 = c.val := by omega
  have hm : (256 * c.val + (x 0).val) % 256 = (x 0).val := by omega
  have hg := grp_tgt c k hk
  have hq := qtr_tgt c k hk
  show ytile m c (grp c s.val) _ = _
  have e1 : (⟨(256 * c.val + (x 0).val) / 256, by have h' : c.val < 32 := c.isLt; show _ < 32; omega⟩ : Dev nD) = c := Fin.ext hd
  have e2 : grp c s.val = ⟨(tgt c k).val / 4, by have h' : (tgt c k).val < 32 := (tgt c k).isLt; omega⟩ := Fin.ext (by rw [hs, hg])
  show _ = ytile m (⟨(256 * c.val + (x 0).val) / 256, _⟩ : Dev nD) _ _
  rw [e1, e2]
  refine congrArg _ (funext fun a => Fin.ext ?_)
  fin_cases a
  · rfl
  · exact hm.symm
  · show 128 * (qtr c (k % 4)).val + (x 1).val = 128 * ((tgt c k).val % 4) + (x 1).val
    rw [hq]

/-- The tile just computed, stored over tile `s`, is tile `s` of the finished buffer. -/
theorem slab_store (c : Dev nD) (s : Fin 8) (f : Vec F S8x256x512 .f32) (i : S8x256x512.Idx) (hi : i ∈ (slab s).set) :
    (slab s).write (Elt F) f (ytile m c (grp c s.val)) Finset.univ i = yv m c i := by
  obtain ⟨x, -, rfl⟩ := Finset.mem_map.mp hi
  rw [View.write_emb_of_mem _ _ (Finset.mem_univ x)]
  show ytile m c (grp c s.val) x = _
  have hx : (x 0).val = 0 := by have h : (x 0).val < 1 := (x 0).isLt; omega
  have e : (slab s).emb x = ix3 s (x 1 : Fin 256) (x 2 : Fin 512) := by
    refine funext fun a => Fin.ext ?_
    fin_cases a
    · show s.val + 1 * (x 0).val = _; rw [hx]; rfl
    · show 0 + 1 * (x 1).val = _; rw [one_mul, zero_add]
    · show 0 + 1 * (x 2).val = _; rw [one_mul, zero_add]
  rw [e]
  refine congrArg _ (funext fun a => Fin.ext ?_)
  fin_cases a
  · exact hx
  · rfl
  · rfl

end Cert.A2A

end
-- ==== Proof.Steps.lean ====
/-
  One lemma per kind of operation the kernel's body repeats: a barrier signal, the barrier wait, a remote transfer, and
  the pair of waits that drains one transfer each way.
-/
module

public import proofs.«01_k».proof.Proof.Geom
public import Idealize.ShloMosaic.Lib.Rounds.Family

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a piece of the kernel's body on device `c`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells' invariants -/

/-- Pairs of two devices. -/
@[irreducible] def pairs : Finset (Dev nD × Dev nD) := Finset.univ.filter fun p => p.1 ≠ p.2

theorem mem_pairs {a b : Dev nD} (h : a ≠ b) : (a, b) ∈ pairs := by
  unfold pairs; exact Finset.mem_filter.mpr ⟨Finset.mem_univ _, h⟩

/-- The cells live at launch, and those opened by the kernel's region. -/
@[irreducible] def liveCells : Finset (GSem nD τ sig) := Finset.univ.image barCell
@[irreducible] def regionCells : Finset (GSem nD τ sig) :=
  pairs.image (fun p => sendCell p.1 p.2) ∪ pairs.image (fun p => recvCell p.1 p.2)

/-- Every cell's invariant, at names `κ`, and that every barrier cell is at its round. -/
def invs (κ : GSem nD τ sig → ℕ) : sProp 𝕄 :=
  iprop(bigSep (liveCells ∪ regionCells) (fun g => cellInv ER (sched m) (κ g) g) ∗ bigSep liveCells fun g => reached ER g 0)

instance invs_persistent (κ : GSem nD τ sig → ℕ) : Persistent (invs (F := F) m κ) := by unfold invs; infer_instance

variable (κ : GSem nD τ sig → ℕ)

theorem mem_live (c : Dev nD) : barCell c ∈ liveCells := by
  unfold liveCells; exact Finset.mem_image_of_mem _ (Finset.mem_univ c)
theorem mem_send {c j : Dev nD} (h : c ≠ j) : sendCell c j ∈ regionCells := by
  unfold regionCells
  exact Finset.mem_union_left _ (Finset.mem_image_of_mem (fun p : Dev nD × Dev nD => sendCell p.1 p.2) (mem_pairs h))
theorem mem_recv {c j : Dev nD} (h : c ≠ j) : recvCell c j ∈ regionCells := by
  unfold regionCells
  exact Finset.mem_union_right _ (Finset.mem_image_of_mem (fun p : Dev nD × Dev nD => recvCell p.1 p.2) (mem_pairs h))

theorem inv_cell {g : GSem nD τ sig} (h : g ∈ liveCells ∪ regionCells) : invs m κ ⊢ cellInv ER (sched m) (κ g) g := by
  unfold invs
  exact (BI.Entails.trans BI.sep_and and_elimL).trans (bigSep_elim h)

theorem inv_bar (c : Dev nD) : invs m κ ⊢ cellInv ER (sched m) (κ (barCell c)) (barCell c) :=
  inv_cell m κ (Finset.mem_union_left _ (mem_live c))
theorem inv_send {c j : Dev nD} (h : c ≠ j) : invs m κ ⊢ cellInv ER (sched m) (κ (sendCell c j)) (sendCell c j) :=
  inv_cell m κ (Finset.mem_union_right _ (mem_send h))
theorem inv_recv {c j : Dev nD} (h : c ≠ j) : invs m κ ⊢ cellInv ER (sched m) (κ (recvCell c j)) (recvCell c j) :=
  inv_cell m κ (Finset.mem_union_right _ (mem_recv h))
theorem reach_bar (c : Dev nD) : invs m κ ⊢ reached ER (barCell c) 0 := by
  unfold invs
  exact (BI.Entails.trans BI.sep_and and_elimR).trans (bigSep_elim (Φ := fun g => reached ER g 0) (mem_live c))

/-! ## What is held between steps -/

/-- The core owes `O`, whatever waits it has made. -/
abbrev ow (c : Dev nD) (O : CellTallies nD τ sig Unit) : sProp 𝕄 := iprop(∃ W, owes (c : Thread nD τ) O W)

/-- What signals `k`, `k + 1`, … spend: their duty, and what each hands over. -/
def SIG (c : Dev nD) (k : ℕ) : sProp 𝕄 :=
  bigSep (Finset.Ico k 31) fun i => iprop(dutyTok ER (barCell (nth c i)) 0 c ∗ barPay (nth c i) c)

/-- What transfers `k`, `k + 1`, … spend: both duties, and the rows of the target's block; -/
def SND (c : Dev nD) (k : ℕ) : sProp 𝕄 :=
  bigSep (Finset.Ico k 31) fun i => iprop(iprop(dutyTok ER (sendCell c (tgt c i)) 0 (tgt c i) ∗ reached ER (sendCell c (tgt c i)) 0
    ∗ dutyTok ER (recvCell (tgt c i) c) 0 c) ∗ barPay c (tgt c i))
/-- and what the transfers before `k` left: a credit each on the sender's counter. -/
def CRS (c : Dev nD) (k : ℕ) : sProp 𝕄 := bigSep (Finset.range k) fun i => cred (tallyAt (sendCell c (tgt c i)) () N)

/-- What the drains `k`, `k + 1`, … wait with; -/
def DR (c : Dev nD) (k : ℕ) : sProp 𝕄 :=
  bigSep (Finset.Ico k 31) fun i => iprop((cred (tallyAt (recvCell c (nth c i)) () N) ∗ atPos ER (recvCell c (nth c i)) 0 ∅ 0)
    ∗ (cred (tallyAt (sendCell c (nth c i)) () N) ∗ atPos ER (sendCell c (nth c i)) 0 ∅ 0))
/-- and what those before `k` gave back. -/
def DN (c : Dev nD) (k : ℕ) : sProp 𝕄 :=
  bigSep (Finset.range k) fun i => iprop((recvPay m c (nth c i) ∗ atPos ER (recvCell c (nth c i)) 1 ∅ 0)
    ∗ (sendPay m c (nth c i) ∗ atPos ER (sendCell c (nth c i)) 1 ∅ 0))

theorem SIG_succ (c : Dev nD) {k : ℕ} (h : k < 31) : (SIG c k : sProp 𝕄)
    = iprop(iprop(dutyTok ER (barCell (nth c k)) 0 c ∗ barPay (nth c k) c) ∗ SIG c (k + 1)) := by
  unfold SIG; rw [Ico_cons h, bigSep_insert (notMem_Ico k)]; rfl
theorem SND_succ (c : Dev nD) {k : ℕ} (h : k < 31) : (SND c k : sProp 𝕄)
    = iprop(iprop(iprop(dutyTok ER (sendCell c (tgt c k)) 0 (tgt c k) ∗ reached ER (sendCell c (tgt c k)) 0
        ∗ dutyTok ER (recvCell (tgt c k) c) 0 c) ∗ barPay c (tgt c k)) ∗ SND c (k + 1)) := by
  unfold SND; rw [Ico_cons h, bigSep_insert (notMem_Ico k)]; rfl
theorem CRS_succ (c : Dev nD) (k : ℕ) : (CRS c (k + 1) : sProp 𝕄)
    = iprop(cred (tallyAt (sendCell c (tgt c k)) () N) ∗ CRS c k) := by
  unfold CRS; rw [Finset.range_add_one, bigSep_insert Finset.notMem_range_self]; rfl
theorem DR_succ (c : Dev nD) {k : ℕ} (h : k < 31) : (DR c k : sProp 𝕄)
    = iprop(iprop((cred (tallyAt (recvCell c (nth c k)) () N) ∗ atPos ER (recvCell c (nth c k)) 0 ∅ 0)
      ∗ (cred (tallyAt (sendCell c (nth c k)) () N) ∗ atPos ER (sendCell c (nth c k)) 0 ∅ 0)) ∗ DR c (k + 1)) := by
  unfold DR; rw [Ico_cons h, bigSep_insert (notMem_Ico k)]; rfl
theorem DN_succ (c : Dev nD) (k : ℕ) : (DN m c (k + 1) : sProp 𝕄)
    = iprop(iprop((recvPay m c (nth c k) ∗ atPos ER (recvCell c (nth c k)) 1 ∅ 0)
      ∗ (sendPay m c (nth c k) ∗ atPos ER (sendCell c (nth c k)) 1 ∅ 0)) ∗ DN m c k) := by
  unfold DN; rw [Finset.range_add_one, bigSep_insert Finset.notMem_range_self]; rfl

omit [FloatOps F] in
/-- A family over the other devices, in the order of the transfers, -/
theorem over_tgt (c : Dev nD) (Φ : Dev nD → sProp 𝕄) : bigSep (Finset.univ.erase c) Φ = bigSep (Finset.range 31) fun i => Φ (tgt c i) := by
  rw [← image_tgt c, bigSep_image_of_injOn (inj_tgt c)]
omit [FloatOps F] in
/-- and in the order of the barrier and the drains. -/
theorem over_nth (c : Dev nD) (Φ : Dev nD → sProp 𝕄) : bigSep (Finset.univ.erase c) Φ = bigSep (Finset.range 31) fun i => Φ (nth c i) := by
  rw [← image_nth c, bigSep_image_of_injOn (inj_nth c)]

/-! ## The steps -/

/-- Signal `k`: to the `k`-th other device's barrier cell, handing it its rows of the output block. -/
theorem step_signal (c : Dev nD) (k : ℕ) (hk : k < 31) (n : Dev nD) (hn : n = nth c k) {k' : ℕ} (hk' : k' = 1)
    {α : Type} {K : PUnit → Prog (TpuEff nD τ sig (Elt F) Λ₀ .tc) α} {Q : α → sProp 𝕄} (R : CellTallies nD τ sig Unit) :
    iprop(invs m κ ∗ SIG c k ∗ ow c (R + oweB c k))
      ⊢ iprop((iprop(SIG c (k + 1) ∗ ow c (R + oweB c (k + 1))) -∗ Wp c (K ⟨⟩) Q)
          -∗ Wp c (.op (.semSignal (n : Thread nD τ) barS k') K) Q) := by
  subst hn hk'
  rw [SIG_succ c hk]
  iintro ⟨#HI, ⟨⟨Ht, Hp⟩, HS⟩, ⟨%W, HO⟩⟩ Hk
  iapply (Rounds.wp_signal 𝒱₀ ER (sched m) (c : Thread nD τ) none (dst := (nth c k : Thread nD τ)) (sem := barS) (r := 0) (d := c)
      (κ := κ (barCell (nth c k)))
      (by rw [duties_bar]; exact Finset.mem_erase.mpr ⟨(nth_ne c hk).symm, Finset.mem_univ _⟩)
      (amount_bar m (nth c k) c 0) () (O₀ := R + oweB c k) (R + oweB c (k + 1)) (by rw [oweB_succ c hk, add_assoc])) $$ [HO Ht Hp]
  · isplitr; · iapply (inv_bar m κ); iexact HI
    isplitl [HO]; · iexact HO
    isplitl [Ht]; · iexact Ht
    isplitl [Hp]; · rw [payload_bar]; iexact Hp
    iapply (reach_bar m κ); iexact HI
  iintro HO
  iapply Hk
  isplitl [HS]; · iexact HS
  iexists W; iexact HO

/-- The barrier wait: every other device's rows for this one come with it. -/
theorem step_barwait (c : Dev nD) {k' : ℕ} (hk' : k' = 31)
    {α : Type} {K : PUnit → Prog (TpuEff nD τ sig (Elt F) Λ₀ .tc) α} {Q : α → sProp 𝕄} :
    iprop(invs m κ ∗ levAts L lv ∗ cred (tallyAt (barCell c) () 31) ∗ atPos ER (barCell c) 0 ∅ 0 ∗ ow c (oweR c 0 + oweB c 31))
      ⊢ iprop((iprop(atPos ER (barCell c) 1 ∅ 0 ∗ bigSep (Finset.Ico 0 31) (fun i => barPay c (tgt c i)) ∗ ow c (oweR c 0)) -∗ Wp c (K ⟨⟩) Q)
          -∗ Wp c (.op (.semWait barS k') K) Q) := by
  subst hk'
  rw [oweB_end, add_zero]
  iintro ⟨#HI, #Hlev, Hc, Hat, ⟨%W, HO⟩⟩ Hk
  iapply (Rounds.wp_wait_rest_token 𝒱₀ ER (sched m) (c : Thread nD τ) none (κ := κ (barCell c))
      (wpE_semWait_eq 𝒱₀ (c : Thread nD τ) none Set.univ) (Set.mem_univ _) () (O := oweR c 0) (W := W) (R := 0) (m := 0) (T := ∅)
      (by rw [expect_bar])) $$ [Hc HO Hat]
  · isplitr; · iapply (inv_bar m κ); iexact HI
    isplitl [Hc]; · iexact Hc
    isplitl [HO]; · iexact HO
    isplitr; · iapply (mayWait_bar c 0); iexact Hlev
    iexact Hat
  iintro ⟨HO, Hat, -, Hpay⟩
  ihave Hp := (Entails.of_eq ((rest_bar m c).trans (over_tgt c fun d => barPay c d))) $$ Hpay
  iapply Hk
  isplitl [Hat]; · iexact Hat
  isplitl [Hp]; · rw [← Finset.range_eq_Ico]; iexact Hp
  iexists _; iexact HO

/-- Transfer `k`: the quarter tile `k % 4` of tile `k / 4`, to device `tgt c k`. -/
theorem step_send (c : Dev nD) (k : ℕ) (hk : k < 31) (s : Fin 8) (hs : s.val = k / 4) (n : Dev nD) (hn : n = tgt c k)
    {o₁ : Fin 1 → ℕ} (e₁ : o₁ = ![(tgt c k).val]) {o₂ : Fin 1 → ℕ} (e₂ : o₂ = ![c.val])
    {o₃ : Fin 2 → ℕ} (e₃ : o₃ = ![256 * c.val, 0]) {o₄ : Fin 3 → ℕ} (e₄ : o₄ = ![s.val, 0, 128 * (qtr c (k % 4)).val])
    {b₁ : ∀ a, o₁ a + S1.size a ≤ S32.size a} {b₂ : ∀ a, o₂ a + S1.size a ≤ S32.size a}
    {b₃ : ∀ a, o₃ a + S256x128.size a ≤ S8192x128.size a} {b₄ : ∀ a, o₄ a + S1x256x128.size a ≤ S8x256x512.size a}
    {hsc hsrc hdst hsem}
    {α : Type} {K : PUnit → Prog (TpuEff nD τ sig (Elt F) Λ₀ .tc) α} {Q : α → sProp 𝕄} :
    iprop(invs m κ ∗ SND c k ∗ CRS c k ∗ yPts c s (qtr c (k % 4)) (yv m c) ∗ ow c (oweR c k))
      ⊢ iprop((iprop(SND c (k + 1) ∗ CRS c (k + 1) ∗ ow c (oweR c (k + 1))) -∗ Wp c (K ⟨⟩) Q)
          -∗ Wp c (.op (.enqueueDma
              ((yM.slice (Rect.unit (s := S8x256x512) o₄ S1x256x128.size b₄) (fun _ => rfl)).squeeze S256x128 squeezes_S1x256x128_S256x128)
              (.remote (n : Thread nD τ) (outM.slice (Rect.unit (s := S8192x128) o₃ S256x128.size b₃) (fun _ => rfl))
                (.dma ((cc0_scratch2.slice (Rect.unit (s := S32) o₁ S1.size b₁)).squeeze S_ squeezes_S1_S_ : DmaSems sig S_).sem) hsc)
              (.dma ((cc0_scratch3.slice (Rect.unit (s := S32) o₂ S1.size b₂)).squeeze S_ squeezes_S1_S_ : DmaSems sig S_).sem)
              hsrc hdst hsem) K) Q) := by
  subst hn e₁ e₂ e₃ e₄
  rw [SND_succ c hk, CRS_succ]
  unfold barPay
  have hne := tgt_ne c hk
  iintro ⟨#HI, ⟨⟨⟨Ht₁, Hr₁, Ht₂⟩, ⟨%fd, Hd⟩, Hr₂⟩, HS⟩, HC, Hy, ⟨%W, HO⟩⟩ Hk
  iapply (Rounds.wp_send_pointsTo 𝒱₀ ER (sched m) (c : Thread nD τ) none (c' := (tgt c k : Thread nD τ)) (src := yBlk s (qtr c (k % 4)))
    (dst := outBlk c) (sS := .dma (sendS (tgt c k))) (sem := .dma (recvS c))
    (κ₁ := κ (sendCell c (tgt c k))) (κ₂ := κ (recvCell (tgt c k) c))
    (r₁ := 0) (r₂ := 0) (d₁ := tgt c k) (d₂ := c) (fs := yv m c) (fd := fd) (q := fullShare)
    (by rw [duties_send m hne]; exact Finset.mem_singleton_self _) (by rw [duties_recv m hne.symm]; exact Finset.mem_singleton_self _)
    () () N rfl (amount_dma m c (tgt c k) _ 0) (amount_dma m (tgt c k) c _ 0) (oweR c (k + 1)) (oweR_succ c hk) (W := W)
    (by
      rw [payload_send]; unfold sendPay
      rw [show srcS c (tgt c k) = s from Fin.ext (by rw [srcS_tgt c k (by omega), hs]), srcQ_tgt c k (by omega)])
    (by
      rw [payload_recv]; unfold recvPay
      exact Entails.of_eq (pointsTo_congr fun i hi => land_eq m c k (by omega) s hs fd i hi)))
    $$ [Hy Hd HO Ht₁ Hr₁ Ht₂ Hr₂]
  · isplitr; · iapply (inv_send m κ hne.symm); iexact HI
    isplitr; · iapply (inv_recv m κ hne); iexact HI
    isplitl [Hy]; · iexact Hy
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  iapply Hk
  isplitl [HS]; · iexact HS
  isplitl [HC Hc]
  · isplitl [Hc] <;> iassumption
  iexists W; iexact HO

/-- Drain `k`: the wait for what the `k`-th other device sends, then the wait for the transfer to it. -/
theorem step_drain (c : Dev nD) (k : ℕ) (hk : k < 31) {o₁ : Fin 1 → ℕ} (e₁ : o₁ = ![(nth c k).val]) {o₂ : Fin 1 → ℕ} (e₂ : o₂ = ![(nth c k).val])
    {b₁ : ∀ a, o₁ a + S1.size a ≤ S32.size a} {b₂ : ∀ a, o₂ a + S1.size a ≤ S32.size a}
    {y₁ y₂ z₁ z₂ : Memref sig .tc .vmem S256x128 .f32} {h₁ h₂ h₃ h₄} (hz₁ : z₁.view.dmaCredit = N) (hy₂ : y₂.view.dmaCredit = N)
    {α : Type} {K : PUnit → Prog (TpuEff nD τ sig (Elt F) Λ₀ .tc) α} {Q : α → sProp 𝕄} :
    iprop(invs m κ ∗ DR c k ∗ DN m c k ∗ ow c 0)
      ⊢ iprop((iprop(DR c (k + 1) ∗ DN m c (k + 1) ∗ ow c 0) -∗ Wp c (K ⟨⟩) Q)
          -∗ Wp c (.op (.waitDma2 ((cc0_scratch3.slice (Rect.unit (s := S32) o₁ S1.size b₁)).squeeze S_ squeezes_S1_S_ : DmaSems sig S_).sem y₁ z₁ h₁ h₂)
              fun _ => .op (.waitDma2 ((cc0_scratch2.slice (Rect.unit (s := S32) o₂ S1.size b₂)).squeeze S_ squeezes_S1_S_ : DmaSems sig S_).sem z₂ y₂ h₃ h₄) K) Q) := by
  subst e₁ e₂
  rw [DR_succ c hk, DN_succ]
  have hne := nth_ne c hk
  iintro ⟨#HI, ⟨⟨⟨Hc₁, Ha₁⟩, Hc₂, Ha₂⟩, HD⟩, HN, ⟨%W, HO⟩⟩ Hk
  iapply (Rounds.wp_wait_rest_token 𝒱₀ ER (sched m) (c : Thread nD τ) none (κ := κ (recvCell c (nth c k)))
      (wpE_waitDma2_eq 𝒱₀ (c : Thread nD τ) none Set.univ) (Set.mem_univ _) () (O := 0) (W := W) (R := 0) (m := 0) (T := ∅)
      (by rw [Nat.zero_add, hz₁]; exact (expect_recv m hne).symm)) $$ [Hc₁ HO Ha₁]
  · isplitr; · iapply (inv_recv m κ hne.symm); iexact HI
    isplitl [Hc₁]; · rw [hz₁]; iexact Hc₁
    isplitl [HO]; · iexact HO
    isplitr; · rw [MayWait_zero]; iempintro
    iexact Ha₁
  iintro ⟨HO, Ha₁, -, Hpay⟩
  ihave Hp₁ := (Entails.of_eq (rest_recv m hne)) $$ Hpay
  iapply (Rounds.wp_wait_rest_token 𝒱₀ ER (sched m) (c : Thread nD τ) none (κ := κ (sendCell c (nth c k)))
      (wpE_waitDma2_eq 𝒱₀ (c : Thread nD τ) none Set.univ) (Set.mem_univ _) () (O := 0) (R := 0) (m := 0) (T := ∅)
      (by rw [Nat.zero_add, hy₂]; exact (expect_send m hne).symm)) $$ [Hc₂ HO Ha₂]
  · isplitr; · iapply (inv_send m κ hne.symm); iexact HI
    isplitl [Hc₂]; · rw [hy₂]; iexact Hc₂
    isplitl [HO]; · iexact HO
    isplitr; · rw [MayWait_zero]; iempintro
    iexact Ha₂
  iintro ⟨HO, Ha₂, -, Hpay⟩
  ihave Hp₂ := (Entails.of_eq (rest_send m hne)) $$ Hpay
  iapply Hk
  isplitl [HD]; · iexact HD
  isplitl [HN Hp₁ Ha₁ Hp₂ Ha₂]
  · isplitr [HN]
    · isplitl [Hp₁ Ha₁]
      · isplitl [Hp₁] <;> iassumption
      · isplitl [Hp₂] <;> iassumption
    · iexact HN
  iexists _; iexact HO

end Cert.A2A

end
-- ==== Proof.Parts.lean ====
/-
  The pieces of the kernel's body at a point of the grid: the entry barrier, the computation of a tile, the transfers of
  its quarters, the device's own quarter, and the final drains.
-/
module

public import proofs.«01_k».proof.Proof.Steps

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : GSem nD τ sig → ℕ)

theorem Wp_ret (c : Dev nD) {α : Type} {a : α} {Q : α → sProp 𝕄} : Q a ⊢ Wp c (.ret a) Q := by
  show Q a ⊢ wp frame _ _ _ _
  rw [wp_ret]; exact fupd_intro
theorem Wp_bind (c : Dev nD) {α β : Type} (p : Prog (TpuEff nD τ sig (Elt F) Λ₀ .tc) α) (k : α → Prog (TpuEff nD τ sig (Elt F) Λ₀ .tc) β)
    (Q : β → sProp 𝕄) : Wp c (p >>= k) Q = Wp c p fun a => Wp c (k a) Q :=
  wp_bind frame _ _ p k Q

theorem Wp_deviceId (c : Dev nD) {α : Type} (k : Dev nD → Prog (TpuEff nD τ sig (Elt F) Λ₀ .tc) α) (Q : α → sProp 𝕄) :
    Wp c (.op .deviceId k) Q = Wp c (k c) Q := wp_deviceId 𝒱₀ (c : Thread nD τ) none Set.univ
theorem Wp_assume (c : Dev nD) {α : Type} {P : Prop} {d : Decidable P} (h : P) (k : PLift P → Prog (TpuEff nD τ sig (Elt F) Λ₀ .tc) α)
    (Q : α → sProp 𝕄) : Wp c (.op (.assume P d) k) Q = Wp c (k ⟨h⟩) Q := wp_assume_of 𝒱₀ (c : Thread nD τ) none Set.univ h

/-! ## The table of tile indices -/

/-- The table the kernel reads its tile indices from, on device `c`. -/
def tblv (c : Dev nD) : Vec F S8 .i32 := fun i => gw c (i 0).val
/-- A share of that table. -/
def tblPts (c : Dev nD) (q : PosShare TreeShare) : sProp 𝕄 := (c : Thread nD τ).loc main_v10 ↦{q} (tblv (F := F) c)

theorem step_table (c : Dev nD) (q : PosShare TreeShare) (s : Fin 8) (i : grid0.Coords) (hi : (i 0).val = s.val) {o : Fin 1 → ℕ}
    (ho : o = ![(i 0).val]) {b : ∀ a, o a + S1.size a ≤ S8.size a} {h₁ : S1.numel = 1} {h₂ : (EltTy.packing .i32) = 1}
    {Q : Elt F .i32 → sProp 𝕄} :
    (tblPts (F := F) c q) ⊢ iprop((tblPts (F := F) c q -∗ Q (gw c s.val))
      -∗ Wp c (smemLoad (Memref.whole main_v10 : Memref sig .tc .smem S8 .i32) (Rect.unit (s := S8) o S1.size b) h₁ h₂) Q) := by
  subst ho
  unfold smemLoad tblPts
  iintro Ht Hk
  iapply (wp_smemLoadElt 𝒱₀ (c : Thread nD τ) none Set.univ (m := (Memref.whole main_v10 : Memref sig .tc .smem S8 .i32))
    (Finset.subset_univ _)) $$ [Ht]; · iexact Ht
  iintro Ht
  iapply (Wp_ret c)
  generalize Shape.Idx.first _ = x
  have hx : (x 0).val = 0 := by have h : (x 0).val < 1 := (x 0).isLt; omega
  have e : ((Memref.whole main_v10 : Memref sig .tc .smem S8 .i32).access (Rect.unit (s := S8) ![(i 0).val] S1.size b)).read (Elt F) (tblv (F := F) c) x
      = gw c s.val := by
    show gw c ((i 0).val + 1 * (x 0).val) = _
    rw [hx, hi, Nat.mul_zero, Nat.add_zero]
  rw [e]
  iapply Hk; iexact Ht

/-! ## The entry barrier -/

/-- A barrier unit to each device of a list. -/
def sigProg {α : Type} (l : List (Dev nD)) (p : Prog (TpuEff nD τ sig (Elt F) Λ₀ .tc) α) : Prog (TpuEff nD τ sig (Elt F) Λ₀ .tc) α :=
  l.foldr (fun n p => .op (.semSignal (n : Thread nD τ) barS 1) fun _ => p) p

theorem signals (c : Dev nD) (R : CellTallies nD τ sig Unit) {α : Type} {p : Prog (TpuEff nD τ sig (Elt F) Λ₀ .tc) α} {Q : α → sProp 𝕄} :
    ∀ (j k : ℕ), k + j = 31 → ∀ l : List (Dev nD), l = (List.range' k j).map (nth c) →
      (iprop(invs m κ ∗ SIG c k ∗ ow c (R + oweB c k))
        ⊢ iprop((iprop(SIG c 31 ∗ ow c (R + oweB c 31)) -∗ Wp c p Q) -∗ Wp c (sigProg l p) Q)) := by
  intro j
  induction j with
  | zero =>
    intro k hk l hl
    obtain rfl : k = 31 := by omega
    subst hl
    iintro ⟨-, HS, HO⟩ Hk
    iapply Hk
    isplitl [HS] <;> iassumption
  | succ j ih =>
    intro k hk l hl
    rw [List.range'_succ, List.map_cons] at hl
    subst hl
    iintro ⟨#HI, HS, HO⟩ Hk
    iapply (step_signal m κ c k (by omega) (nth c k) rfl rfl R) $$ [HS HO]
    · isplitr; · iexact HI
      isplitl [HS] <;> iassumption
    iintro ⟨HS, HO⟩
    iapply (ih (k + 1) (by omega) _ rfl) $$ [HS HO]
    · isplitr; · iexact HI
      isplitl [HS] <;> iassumption
    iexact Hk

/-! ## The computation of a tile -/

/-- The tile of point `s`, from the kept rows of `x` and the staged columns of the weights, stored over tile `s`. -/
theorem compute (c : Dev nD) (s : Fin 8) {wm : Memref sig .tc .vmem S8192x512 .f32} {fw : Buf (Elt F) (wm.view.loc (c : Thread nD τ))}
    (hw : wm.view.readAt (Elt F) (Rect.unit (s := S8192x512) ![0, 0] S8192x512.size inb_S8192x512_S8192x512_0_0).toLoadRect fw
      = wtile m c (grp c s.val))
    {o : Fin 3 → ℕ} (ho : o = ![s.val, 0, 0]) {b : ∀ a, o a + S1x256x512.size a ≤ S8x256x512.size a} {h₁ h₂ h₃ h₄ h₅}
    {α : Type} {K : PUnit → Prog (TpuEff nD τ sig (Elt F) Λ₀ .tc) α} {Q : α → sProp 𝕄} :
    iprop(((c : Thread nD τ).loc cc0_scratch0 ↦{fullShare} k0_pay2 (xv m c))
        ∗ (wm.view.loc (c : Thread nD τ) ↦{fullShare} fw) ∗ ∃ g, sPts c s g)
      ⊢ iprop((iprop(((c : Thread nD τ).loc cc0_scratch0 ↦{fullShare} k0_pay2 (xv m c))
          ∗ (wm.view.loc (c : Thread nD τ) ↦{fullShare} fw) ∗ bigSep Finset.univ fun q => yPts c s q (yv m c)) -∗ Wp c (K ⟨⟩) Q)
        -∗ Wp c (.op (.load xbM (Rect.unit (s := S256x8192) ![0, 0] S256x8192.size inb_S256x8192_S256x8192_0_0).toLoadRect h₁) fun v8 =>
            .op (.load wm (Rect.unit (s := S8192x512) ![0, 0] S8192x512.size inb_S8192x512_S8192x512_0_0).toLoadRect h₂) fun v9 =>
            .op (.load yM (Rect.unit (s := S8x256x512) o S1x256x512.size b).toLoadRect h₃) fun _ =>
            .op (.store yM (Rect.unit (s := S8x256x512) o S1x256x512.size b) (k0_pay3 v8 v9) Finset.univ h₄ h₅) K) Q) := by
  subst ho
  iintro ⟨Hx, Hw, ⟨%g, Hy⟩⟩ Hk
  iapply (wp_load 𝒱₀ (c : Thread nD τ) none Set.univ (m := xbM) (Finset.subset_univ _)) $$ [Hx]; · iexact Hx
  iintro Hx
  iapply (wp_load 𝒱₀ (c : Thread nD τ) none Set.univ (m := wm) (Finset.subset_univ _)) $$ [Hw]; · iexact Hw
  iintro Hw
  iapply (wp_load_rect 𝒱₀ (c : Thread nD τ) none Set.univ (m := yM) (Finset.Subset.refl _)) $$ [Hy]; · iexact Hy
  iintro Hy
  iapply (wp_store 𝒱₀ (c : Thread nD τ) none Set.univ (m := yM) (Finset.Subset.refl _)) $$ [Hy]; · iexact Hy
  iintro Hy
  iapply Hk
  isplitl [Hx]; · iexact Hx
  isplitl [Hw]; · iexact Hw
  have hx : xbM.view.readAt (Elt F) (Rect.unit (s := S256x8192) ![0, 0] S256x8192.size inb_S256x8192_S256x8192_0_0).toLoadRect
      (k0_pay2 (xv m c)) = k0_pay2 (xv m c) := Memref.readAt_unit_zero (Elt F) cc0_scratch0 (by funext a; fin_cases a <;> rfl) _ _
  rw [← slab_split, hx, hw]
  iapply (Entails.of_eq (pointsTo_congr fun i hi => slab_store m c s _ i hi)); iexact Hy

/-! ## The transfers of a tile -/

theorem univ_qtr (c : Dev nD) : (Finset.univ : Finset (Fin 4)) = (Finset.range 4).image (qtr c) := by revert c; decide +kernel
theorem inj_qtr (c : Dev nD) : Set.InjOn (qtr c) (Finset.range 4) := by
  have h : ∀ (c : Dev nD), ∀ a ∈ Finset.range 4, ∀ b ∈ Finset.range 4, qtr c a = qtr c b → a = b := by decide +kernel
  exact fun a ha b hb e => h c a ha b hb e

omit [FloatOps F] in
/-- A family over the quarters of a tile, in the order of the transfers. -/
theorem over_qtr (c : Dev nD) (Φ : Fin 4 → sProp 𝕄) :
    bigSep Finset.univ Φ = iprop(Φ (qtr c 0) ∗ Φ (qtr c 1) ∗ Φ (qtr c 2) ∗ Φ (qtr c 3)) := by
  rw [univ_qtr c, bigSep_image_of_injOn (inj_qtr c)]
  exact bigSep_eq_bigSepL_of_eq (M := 𝕄) (S := Finset.range 4) (Φ := fun n => Φ (qtr c n)) [0, 1, 2, 3] (by decide) (by decide)

section Sends

variable (c : Dev nD) (s : Fin 8) (i : grid0.Coords) (hi : (i 0).val = s.val) {wm : Memref sig .tc .vmem S8192x512 .f32}
  {h₁ : (Memref.whole main_v10 : Memref sig .tc .smem S8 .i32).IsWhole} {h₂ : xM.IsWhole} {h₃ : wm.IsWhole} {h₄ : outM.IsWhole} {h₅ : xbM.IsWhole} {h₆ : yM.IsWhole}
include hi

/-- The first transfer of a point, -/
theorem part37 {a0 v2 v31 v32 : BitVec 32} {hw : k0_chk1 c (gw c s.val)} {v33 v34 : BitVec 1} {Q : _ → sProp 𝕄} :
    iprop(invs m κ ∗ SND c (4 * s.val) ∗ CRS c (4 * s.val) ∗ yPts c s (qtr c 0) (yv m c) ∗ ow c (oweR c (4 * s.val)))
      ⊢ iprop((∀ r, iprop(SND c (4 * s.val + 1) ∗ CRS c (4 * s.val + 1) ∗ ow c (oweR c (4 * s.val + 1))) -∗ Q r)
        -∗ Wp c (k0_part37 (F := F) i (Memref.whole main_v10) h₁ xM h₂ wm h₃ outM h₄ xbM h₅ yM h₆ cc0_scratch2 cc0_scratch3 a0 c v2 (gw c s.val) hw
            v31 v32 v33 v34) Q) := by
  rw [k0_part37_eq_skeleton]; unfold k0_part37_skel
  rw [dif_pos (cond2 c s.val s.isLt), dif_neg (cond3 c s.val s.isLt)]
  simp only [Prog.lift, Prog.bind_op, Prog.bind_ret, Prog.pure_eq_ret]
  have hs := s.isLt
  have hm : 4 * s.val % 4 = 0 := by omega
  iintro ⟨#HI, HS, HC, Hy, HO⟩ Hk
  iapply (step_send m κ c (4 * s.val) (by omega) s (by omega) _ (Fin.ext (dev32 c s.val s.isLt))
    (off4 c s.val s.isLt) (k0_off5_eq c) (k0_off6_eq c) (by rw [off7, hi, hm])) $$ [HS HC Hy HO]
  · rw [hm]
    isplitr; · iexact HI
    isplitl [HS]; · iexact HS
    isplitl [HC]; · iexact HC
    isplitl [Hy] <;> iassumption
  iintro H
  iapply (Wp_ret c); iapply Hk; iexact H

/-- the second, -/
theorem part38 {a0 v2 v71 v72 : BitVec 32} {hw : k0_chk1 c (gw c s.val)} {Q : _ → sProp 𝕄} :
    iprop(invs m κ ∗ SND c (4 * s.val + 1) ∗ CRS c (4 * s.val + 1) ∗ yPts c s (qtr c 1) (yv m c) ∗ ow c (oweR c (4 * s.val + 1)))
      ⊢ iprop((∀ r, iprop(SND c (4 * s.val + 2) ∗ CRS c (4 * s.val + 2) ∗ ow c (oweR c (4 * s.val + 2))) -∗ Q r)
        -∗ Wp c (k0_part38 (F := F) i (Memref.whole main_v10) h₁ xM h₂ wm h₃ outM h₄ xbM h₅ yM h₆ cc0_scratch2 cc0_scratch3 a0 c v2 (gw c s.val) hw
            v71 v72) Q) := by
  rw [k0_part38_eq_skeleton]; unfold k0_part38_skel
  rw [dif_pos (cond4 c s.val s.isLt), dif_neg (cond5 c s.val s.isLt)]
  simp only [Prog.lift, Prog.bind_op, Prog.bind_ret, Prog.pure_eq_ret]
  have hs := s.isLt
  have hm : (4 * s.val + 1) % 4 = 1 := by omega
  iintro ⟨#HI, HS, HC, Hy, HO⟩ Hk
  iapply (step_send m κ c (4 * s.val + 1) (by omega) s (by omega) _ (Fin.ext (dev33 c s.val s.isLt))
    (off10 c s.val s.isLt) (k0_off11_eq c) (k0_off12_eq c) (by rw [off13, hi, hm])) $$ [HS HC Hy HO]
  · rw [hm]
    isplitr; · iexact HI
    isplitl [HS]; · iexact HS
    isplitl [HC]; · iexact HC
    isplitl [Hy] <;> iassumption
  iintro H
  iapply (Wp_ret c); iapply Hk; iexact H

/-- and the third. -/
theorem part39 {a0 v2 v103 v104 : BitVec 32} {hw : k0_chk1 c (gw c s.val)} {v105 v106 v107 : BitVec 1} {Q : _ → sProp 𝕄} :
    iprop(invs m κ ∗ SND c (4 * s.val + 2) ∗ CRS c (4 * s.val + 2) ∗ yPts c s (qtr c 2) (yv m c) ∗ ow c (oweR c (4 * s.val + 2)))
      ⊢ iprop((∀ r, iprop(SND c (4 * s.val + 3) ∗ CRS c (4 * s.val + 3) ∗ ow c (oweR c (4 * s.val + 3))) -∗ Q r)
        -∗ Wp c (k0_part39 (F := F) i (Memref.whole main_v10) h₁ xM h₂ wm h₃ outM h₄ xbM h₅ yM h₆ cc0_scratch2 cc0_scratch3 a0 c v2 (gw c s.val) hw
            v103 v104 v105 v106 v107) Q) := by
  rw [k0_part39_eq_skeleton]; unfold k0_part39_skel
  rw [dif_pos (cond6 c s.val s.isLt), dif_neg (cond7 c s.val s.isLt)]
  simp only [Prog.lift, Prog.bind_op, Prog.bind_ret, Prog.pure_eq_ret]
  have hs := s.isLt
  have hm : (4 * s.val + 2) % 4 = 2 := by omega
  iintro ⟨#HI, HS, HC, Hy, HO⟩ Hk
  iapply (step_send m κ c (4 * s.val + 2) (by omega) s (by omega) _ (Fin.ext (dev34 c s.val s.isLt))
    (off16 c s.val s.isLt) (k0_off17_eq c) (k0_off18_eq c) (by rw [off19, hi, hm])) $$ [HS HC Hy HO]
  · rw [hm]
    isplitr; · iexact HI
    isplitl [HS]; · iexact HS
    isplitl [HC]; · iexact HC
    isplitl [Hy] <;> iassumption
  iintro H
  iapply (Wp_ret c); iapply Hk; iexact H

end Sends

/-! ## The first part of a point -/

/-- What the transfers spend that the barrier does not bring: their duties. -/
def TOK (c : Dev nD) : sProp 𝕄 :=
  bigSep (Finset.Ico 0 31) fun i => iprop(dutyTok ER (sendCell c (tgt c i)) 0 (tgt c i) ∗ reached ER (sendCell c (tgt c i)) 0
    ∗ dutyTok ER (recvCell (tgt c i) c) 0 c)

omit [FloatOps F] in
theorem TOK_join (c : Dev nD) : iprop(TOK c ∗ bigSep (Finset.Ico 0 31) (fun i => barPay c (tgt c i))) ⊢ (SND c 0 : sProp 𝕄) := by
  unfold TOK SND; exact Entails.of_eq (bigSep_sep' _ _ _).symm

section First

variable (c : Dev nD) (s : Fin 8) (i : grid0.Coords) (hi : (i 0).val = s.val) {wm : Memref sig .tc .vmem S8192x512 .f32}
  {h₁ : (Memref.whole main_v10 : Memref sig .tc .smem S8 .i32).IsWhole} {h₂ : xM.IsWhole} {h₃ : wm.IsWhole} {h₄ : outM.IsWhole} {h₅ : xbM.IsWhole} {h₆ : yM.IsWhole}
  (q : PosShare TreeShare) {fw : Buf (Elt F) (wm.view.loc (c : Thread nD τ))}
  (hw : wm.view.readAt (Elt F) (Rect.unit (s := S8192x512) ![0, 0] S8192x512.size inb_S8192x512_S8192x512_0_0).toLoadRect fw
      = wtile m c (grp c s.val))
include hi hw

/-- What a point starts with besides its transfers' tickets, and what its first part leaves of it. -/
def inP (g : Fin 8) (wm : Memref sig .tc .vmem S8192x512 .f32) (fw : Buf (Elt F) (wm.view.loc (c : Thread nD τ))) : sProp 𝕄 :=
  iprop(((c : Thread nD τ).loc cc0_scratch0 ↦{fullShare} k0_pay2 (xv m c)) ∗ (wm.view.loc (c : Thread nD τ) ↦{fullShare} fw) ∗ ∃ f, sPts c g f)
def midP (g : Fin 8) (wm : Memref sig .tc .vmem S8192x512 .f32) (fw : Buf (Elt F) (wm.view.loc (c : Thread nD τ))) : sProp 𝕄 :=
  iprop(((c : Thread nD τ).loc cc0_scratch0 ↦{fullShare} k0_pay2 (xv m c)) ∗ (wm.view.loc (c : Thread nD τ) ↦{fullShare} fw)
    ∗ bigSep Finset.univ fun q => yPts c g q (yv m c))

/-- The first part of a later point: the tile is computed. -/
theorem part36_rest (h0 : s.val ≠ 0) {Q : _ → sProp 𝕄} :
    iprop(tblPts (F := F) c q ∗ inP m c s wm fw)
      ⊢ iprop((∀ a0 v2 v31 v32 v33 v34, iprop(tblPts (F := F) c q ∗ midP m c s wm fw) -∗ Q ⟨a0, c, v2, gw c s.val, chk1 c s.val s.isLt, v31, v32, v33, v34⟩)
        -∗ Wp c (k0_part36 (F := F) i (Memref.whole main_v10) h₁ xM h₂ wm h₃ outM h₄ xbM h₅ yM h₆ cc0_scratch2 cc0_scratch3) Q) := by
  rw [k0_part36_eq_skeleton]; unfold k0_part36_skel
  simp only [Prog.lift, Prog.bind_op, Prog.bind_ret, Prog.pure_eq_ret]
  rw [Wp_deviceId, Wp_bind]
  iintro ⟨Ht, Hin⟩ Hk
  iapply (step_table c q s i hi (k0_off2_eq i)) $$ [Ht]; · iexact Ht
  iintro Ht
  rw [Wp_assume c (chk1 c s.val s.isLt), dif_neg (fun h => h0 (hi.symm.trans ((cond1_iff i).mp h)))]
  unfold inP midP
  iapply (compute m c s hw ((k0_off3_eq i).trans (by rw [hi]))) $$ [Hin]; · iexact Hin
  iintro Hin
  iapply (Wp_ret c)
  iapply Hk
  isplitl [Ht] <;> iassumption

/-- The devices the entry barrier signals, in order. -/
def barDevs (h : k0_cond1 i = 1#1) : List (Dev nD) :=
  [⟨k0_dev1 c, k0_dev1_lt i c h⟩, ⟨k0_dev2 c, k0_dev2_lt i c h⟩, ⟨k0_dev3 c, k0_dev3_lt i c h⟩, ⟨k0_dev4 c, k0_dev4_lt i c h⟩,
   ⟨k0_dev5 c, k0_dev5_lt i c h⟩, ⟨k0_dev6 c, k0_dev6_lt i c h⟩, ⟨k0_dev7 c, k0_dev7_lt i c h⟩, ⟨k0_dev8 c, k0_dev8_lt i c h⟩,
   ⟨k0_dev9 c, k0_dev9_lt i c h⟩, ⟨k0_dev10 c, k0_dev10_lt i c h⟩, ⟨k0_dev11 c, k0_dev11_lt i c h⟩, ⟨k0_dev12 c, k0_dev12_lt i c h⟩,
   ⟨k0_dev13 c, k0_dev13_lt i c h⟩, ⟨k0_dev14 c, k0_dev14_lt i c h⟩, ⟨k0_dev15 c, k0_dev15_lt i c h⟩, ⟨k0_dev16 c, k0_dev16_lt i c h⟩,
   ⟨k0_dev17 c, k0_dev17_lt i c h⟩, ⟨k0_dev18 c, k0_dev18_lt i c h⟩, ⟨k0_dev19 c, k0_dev19_lt i c h⟩, ⟨k0_dev20 c, k0_dev20_lt i c h⟩,
   ⟨k0_dev21 c, k0_dev21_lt i c h⟩, ⟨k0_dev22 c, k0_dev22_lt i c h⟩, ⟨k0_dev23 c, k0_dev23_lt i c h⟩, ⟨k0_dev24 c, k0_dev24_lt i c h⟩,
   ⟨k0_dev25 c, k0_dev25_lt i c h⟩, ⟨k0_dev26 c, k0_dev26_lt i c h⟩, ⟨k0_dev27 c, k0_dev27_lt i c h⟩, ⟨k0_dev28 c, k0_dev28_lt i c h⟩,
   ⟨k0_dev29 c, k0_dev29_lt i c h⟩, ⟨k0_dev30 c, k0_dev30_lt i c h⟩, ⟨k0_dev31 c, k0_dev31_lt i c h⟩]

omit hi hw in
theorem barDevs_eq (h : k0_cond1 i = 1#1) : barDevs c i h = (List.range' 0 31).map (nth c) := by
  apply List.map_injective_iff.mpr (Fin.val_injective (n := nD))
  have e : ∀ c : Dev nD, [k0_dev1 c, k0_dev2 c, k0_dev3 c, k0_dev4 c, k0_dev5 c, k0_dev6 c, k0_dev7 c, k0_dev8 c, k0_dev9 c, k0_dev10 c,
      k0_dev11 c, k0_dev12 c, k0_dev13 c, k0_dev14 c, k0_dev15 c, k0_dev16 c, k0_dev17 c, k0_dev18 c, k0_dev19 c, k0_dev20 c,
      k0_dev21 c, k0_dev22 c, k0_dev23 c, k0_dev24 c, k0_dev25 c, k0_dev26 c, k0_dev27 c, k0_dev28 c, k0_dev29 c, k0_dev30 c, k0_dev31 c]
      = ((List.range' 0 31).map (nth c)).map Fin.val := by decide +kernel
  exact e c

/-- The first part of the first point: the entry barrier, the rows of `x` kept, and the tile computed. -/
theorem part36_first (h0 : s.val = 0) {Q : _ → sProp 𝕄} :
    iprop(invs m κ ∗ levAts L lv ∗ tblPts (F := F) c q ∗ ((c : Thread nD τ).loc cc0_stg0_0 ↦{fullShare} xv m c)
        ∗ (∃ f, (c : Thread nD τ).loc cc0_scratch0 ↦{fullShare} f) ∗ (wm.view.loc (c : Thread nD τ) ↦{fullShare} fw) ∗ (∃ f, sPts c s f)
        ∗ SIG c 0 ∗ cred (tallyAt (barCell c) () 31) ∗ atPos ER (barCell c) 0 ∅ 0 ∗ TOK c ∗ ow c (oweR c 0 + oweB c 0))
      ⊢ iprop((∀ a0 v2 v31 v32 v33 v34, iprop(tblPts (F := F) c q ∗ midP m c s wm fw
          ∗ ((c : Thread nD τ).loc cc0_stg0_0 ↦{fullShare} xv m c) ∗ atPos ER (barCell c) 1 ∅ 0 ∗ SND c 0 ∗ ow c (oweR c 0))
            -∗ Q ⟨a0, c, v2, gw c s.val, chk1 c s.val s.isLt, v31, v32, v33, v34⟩)
        -∗ Wp c (k0_part36 (F := F) i (Memref.whole main_v10) h₁ xM h₂ wm h₃ outM h₄ xbM h₅ yM h₆ cc0_scratch2 cc0_scratch3) Q) := by
  have h1 : k0_cond1 i = 1#1 := (cond1_iff i).mpr (hi.trans h0)
  rw [k0_part36_eq_skeleton]; unfold k0_part36_skel
  simp only [Prog.lift, Prog.bind_op, Prog.bind_ret, Prog.pure_eq_ret]
  rw [Wp_deviceId, Wp_bind]
  iintro ⟨#HI, #Hlev, Ht, Hx, ⟨%fx, Hxb⟩, Hw, Hs, HS, Hc, Hat, HT, HO⟩ Hk
  iapply (step_table c q s i hi (k0_off2_eq i)) $$ [Ht]; · iexact Ht
  iintro Ht
  rw [Wp_assume c (chk1 c s.val s.isLt), dif_pos h1]
  simp only [k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel,
    semSignalWord, semWaitWord, Prog.lift, Prog.bind_op, Prog.bind_ret, Prog.pure_eq_ret, Prog.bind_assoc]
  iapply (signals m κ c (oweR c 0) 31 0 rfl _ (barDevs_eq c i h1)) $$ [HS HO]
  · isplitr; · iexact HI
    isplitl [HS] <;> iassumption
  iintro ⟨-, HO⟩
  iapply (step_barwait m κ c (by decide)) $$ [Hc Hat HO]
  · isplitr; · iexact HI
    isplitr; · iexact Hlev
    isplitl [Hc]; · iexact Hc
    isplitl [Hat] <;> iassumption
  iintro ⟨Hat, Hpay, HO⟩
  iapply (wp_load 𝒱₀ (c : Thread nD τ) none Set.univ (m := xM) (Finset.subset_univ _)) $$ [Hx]; · iexact Hx
  iintro Hx
  iapply (wp_load 𝒱₀ (c : Thread nD τ) none Set.univ (m := xbM) (Finset.subset_univ _)) $$ [Hxb]; · iexact Hxb
  iintro Hxb
  iapply (wp_store 𝒱₀ (c : Thread nD τ) none Set.univ (m := xbM) (Finset.subset_univ _)) $$ [Hxb]; · iexact Hxb
  iintro Hxb
  have z : (![0, 0] : Fin 2 → ℕ) = fun _ => 0 := by funext a; fin_cases a <;> rfl
  have e₁ : xM.view.readAt (Elt F) (Rect.unit (s := S256x8192) ![0, 0] S256x8192.size inb_S256x8192_S256x8192_0_0).toLoadRect
      (xv m c) = xv m c := Memref.readAt_unit_zero (Elt F) cc0_stg0_0 z _ _
  have e₂ : ∀ w : Vec F S256x8192 .bf16, (xbM.access (Rect.unit (s := S256x8192) ![0, 0] S256x8192.size inb_S256x8192_S256x8192_0_0)).write (Elt F) fx
      w Finset.univ = w := fun w => Memref.write_access_unit_zero_univ (Elt F) cc0_scratch0 z _ _ _
  rw [e₁, e₂]
  unfold midP
  iapply (compute m c s hw ((k0_off3_eq i).trans (by rw [hi]))) $$ [Hxb Hw Hs]
  · isplitl [Hxb]; · iexact Hxb
    isplitl [Hw] <;> iassumption
  iintro Hin
  iapply (Wp_ret c)
  iapply Hk
  isplitl [Ht]; · iexact Ht
  isplitl [Hin]; · iexact Hin
  isplitl [Hx]; · iexact Hx
  isplitl [Hat]; · iexact Hat
  isplitl [HT Hpay]
  · iapply (TOK_join c); isplitl [HT] <;> iassumption
  iexact HO

end First

end Cert.A2A

end
-- ==== Proof.Body.lean ====
/-
  The kernel's body at a point of the grid: the first point with its entry barrier, a point in between, and the last
  point with the device's own quarter and the final drains.
-/
module

public import proofs.«01_k».proof.Proof.Parts

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : GSem nD τ sig → ℕ)

/-! ## The final drains -/

/-- The operand a drain's waits name among the tiles, and among the output's blocks. -/
abbrev yAny : Memref sig .tc .vmem S256x128 .f32 :=
  (yM.slice (Rect.unit (s := S8x256x512) ![0, 0, 0] S1x256x128.size inb_S8x256x512_S1x256x128_0_0_0) (fun _ => rfl)).squeeze S256x128 squeezes_S1x256x128_S256x128
theorem yAny_exact : yAny.view.WordExact := (View.wordExact_bits rfl).reshape _ _

theorem yAny_credit : yAny.view.dmaCredit = N := by first | rfl | decide
theorem outAny_credit {o : Fin 2 → ℕ} {b : ∀ a, o a + S256x128.size a ≤ S8192x128.size a} :
    (outM.slice (Rect.unit (s := S8192x128) o S256x128.size b) (fun _ => rfl)).view.dmaCredit = N := rfl

/-- One drain: the wait for what is sent here, then the wait for what was sent. -/
def drainOne {α : Type} (i : grid0.Coords) (c : Dev nD) (h : k0_cond10 i = 1#1) (k : Fin 31)
    (p : Prog (TpuEff nD τ sig (Elt F) Λ₀ .tc) α) : Prog (TpuEff nD τ sig (Elt F) Λ₀ .tc) α :=
  .op (.waitDma2 ((cc0_scratch3.slice (Rect.unit (s := S32) (k0_off28 c (BitVec.ofNat 32 (1 + k.val))) S1.size (k0_off28_inb i c h k))).squeeze S_ squeezes_S1_S_ : DmaSems sig S_).sem
      yAny (outM.slice (Rect.unit (s := S8192x128) (k0_off29 c (BitVec.ofNat 32 (1 + k.val))) S256x128.size (k0_off29_inb i c h k)) (fun _ => rfl))
      yAny_exact (View.wordExact_bits rfl)) fun _ =>
  .op (.waitDma2 ((cc0_scratch2.slice (Rect.unit (s := S32) (k0_off28 c (BitVec.ofNat 32 (1 + k.val))) S1.size (k0_off28_inb i c h k))).squeeze S_ squeezes_S1_S_ : DmaSems sig S_).sem
      (outM.slice (Rect.unit (s := S8192x128) (k0_off29 c (BitVec.ofNat 32 (1 + k.val))) S256x128.size (k0_off29_inb i c h k)) (fun _ => rfl))
      yAny (View.wordExact_bits rfl) yAny_exact) fun _ => p

/-- A list of drains. -/
def drainProg {α : Type} (i : grid0.Coords) (c : Dev nD) (h : k0_cond10 i = 1#1) (l : List (Fin 31))
    (p : Prog (TpuEff nD τ sig (Elt F) Λ₀ .tc) α) : Prog (TpuEff nD τ sig (Elt F) Λ₀ .tc) α :=
  l.foldr (drainOne i c h) p

theorem drains (i : grid0.Coords) (c : Dev nD) (h : k0_cond10 i = 1#1) {α : Type} {p : Prog (TpuEff nD τ sig (Elt F) Λ₀ .tc) α} {Q : α → sProp 𝕄} :
    ∀ (j k : ℕ), k + j = 31 → ∀ l : List (Fin 31), l.map Fin.val = List.range' k j →
      (iprop(invs m κ ∗ DR c k ∗ DN m c k ∗ ow c 0)
        ⊢ iprop((iprop(DN m c 31 ∗ ow c 0) -∗ Wp c p Q) -∗ Wp c (drainProg i c h l p) Q)) := by
  intro j
  induction j with
  | zero =>
    intro k hk l hl
    obtain rfl : k = 31 := by omega
    obtain rfl : l = [] := List.map_eq_nil_iff.mp hl
    iintro ⟨-, -, HN, HO⟩ Hk
    iapply Hk
    isplitl [HN] <;> iassumption
  | succ j ih =>
    intro k hk l hl
    rw [List.range'_succ] at hl
    obtain ⟨a, l', rfl, ha, hl'⟩ := List.map_eq_cons_iff.mp hl
    have hk' : k < 31 := by omega
    have e : k0_off28 c (BitVec.ofNat 32 (1 + a.val)) = ![(nth c k).val] := by rw [ha, Nat.add_comm]; exact off28 c k hk'
    iintro ⟨#HI, HD, HN, HO⟩ Hk
    have key := step_drain m κ c k hk' e e (b₁ := k0_off28_inb i c h a) (b₂ := k0_off28_inb i c h a)
      (y₁ := yAny) (z₁ := outM.slice (Rect.unit (s := S8192x128) (k0_off29 c (BitVec.ofNat 32 (1 + a.val))) S256x128.size (k0_off29_inb i c h a)) (fun _ => rfl))
      (y₂ := yAny) (z₂ := outM.slice (Rect.unit (s := S8192x128) (k0_off29 c (BitVec.ofNat 32 (1 + a.val))) S256x128.size (k0_off29_inb i c h a)) (fun _ => rfl))
      (h₁ := yAny_exact) (h₂ := View.wordExact_bits rfl) (h₃ := View.wordExact_bits rfl) (h₄ := yAny_exact)
      outAny_credit yAny_credit (K := fun _ => drainProg i c h l' p) (Q := Q)
    have ih' := ih (k + 1) (by omega) l' hl'
    unfold drainProg at key ih' ⊢
    rw [List.foldr_cons]
    generalize List.foldr (drainOne i c h) p l' = P at key ih' ⊢
    unfold drainOne
    iapply key $$ [HD HN HO]
    · isplitr; · iexact HI
      isplitl [HD]; · iexact HD
      isplitl [HN] <;> iassumption
    iintro ⟨HD, HN, HO⟩
    iapply ih' $$ [HD HN HO]
    · isplitr; · iexact HI
      isplitl [HD]; · iexact HD
      isplitl [HN] <;> iassumption
    iexact Hk

/-- What a device's last point waits with, besides the credits its own transfers left. -/
def WT (c : Dev nD) : sProp 𝕄 :=
  iprop(bigSep (Finset.univ.erase c) (fun j => iprop(cred (tallyAt (recvCell c j) () N) ∗ atPos ER (recvCell c j) 0 ∅ 0))
    ∗ bigSep (Finset.univ.erase c) fun j => atPos ER (sendCell c j) 0 ∅ 0)

omit [FloatOps F] in
theorem WT_join (c : Dev nD) : iprop(WT c ∗ CRS c 31) ⊢ (DR c 0 : sProp 𝕄) := by
  unfold WT DR CRS
  rw [← over_tgt c (fun j => cred (tallyAt (sendCell c j) () N)), ← Finset.range_eq_Ico,
    ← over_nth c (fun j => iprop((cred (tallyAt (recvCell c j) () N) ∗ atPos ER (recvCell c j) 0 ∅ 0)
      ∗ (cred (tallyAt (sendCell c j) () N) ∗ atPos ER (sendCell c j) 0 ∅ 0))),
    bigSep_sep' _ (fun j => iprop(cred (tallyAt (recvCell c j) () N) ∗ atPos ER (recvCell c j) 0 ∅ 0)),
    bigSep_sep' _ (fun j => cred (tallyAt (sendCell c j) () N))]
  iintro ⟨⟨H₁, H₂⟩, H₃⟩
  isplitl [H₁]; · iexact H₁
  isplitl [H₃] <;> iassumption

/-! ## The device's own quarter -/

theorem pay1_read (s : Fin 8) (q : Fin 4) (f : Vec F S8x256x512 .f32) :
    k0_pay1 ((yM.access (Rect.unit (s := S8x256x512) ![s.val, 0, 128 * q.val] S1x256x128.size (yblk_inb s q))).read (Elt F) f)
      = (yBlk s q).view.read (Elt F) f :=
  (Memref.read_squeeze_slice yM _ (fun _ => rfl) squeezes_S1x256x128_S256x128 shapeCasts_S1x256x128_S256x128 f).symm

/-- The device's own quarter of its last tile, put into its own rows of its output block. -/
theorem own_store (c : Dev nD) {o₁ : Fin 3 → ℕ} (e₁ : o₁ = ![(7 : Fin 8).val, 0, 128 * (qtr c 3).val]) {o₂ : Fin 2 → ℕ} (e₂ : o₂ = ![256 * c.val, 0])
    {b₁ : ∀ a, o₁ a + S1x256x128.size a ≤ S8x256x512.size a} {b₂ : ∀ a, o₂ a + S256x128.size a ≤ S8192x128.size a} {h₁ h₂ h₃ h₄}
    {α : Type} {K : PUnit → Prog (TpuEff nD τ sig (Elt F) Λ₀ .tc) α} {Q : α → sProp 𝕄} :
    iprop(yPts c 7 (qtr c 3) (yv m c) ∗ ∃ f, oPts c c f)
      ⊢ iprop((iprop(yPts c 7 (qtr c 3) (yv m c) ∗ oPts c c (ov m c)) -∗ Wp c (K ⟨⟩) Q)
        -∗ Wp c (.op (.load yM (Rect.unit (s := S8x256x512) o₁ S1x256x128.size b₁).toLoadRect h₁) fun v =>
            .op (.load outM (Rect.unit (s := S8192x128) o₂ S256x128.size b₂).toLoadRect h₂) fun _ =>
            .op (.store outM (Rect.unit (s := S8192x128) o₂ S256x128.size b₂) (k0_pay1 v) Finset.univ h₃ h₄) K) Q) := by
  subst e₁ e₂
  iintro ⟨Hy, ⟨%f, Ho⟩⟩ Hk
  iapply (wp_load_rect 𝒱₀ (c : Thread nD τ) none Set.univ (m := yM)
    (r := Rect.unit (s := S8x256x512) ![(7 : Fin 8).val, 0, 128 * (qtr c 3).val] S1x256x128.size b₁) (S := (yBlk 7 (qtr c 3)).view.set)
    (Finset.Subset.antisymm_iff.mp (Memref.set_view_squeeze _ _)).2) $$ [Hy]; · iexact Hy
  iintro Hy
  iapply (wp_load_rect 𝒱₀ (c : Thread nD τ) none Set.univ (m := outM) (Finset.Subset.refl _)) $$ [Ho]; · iexact Ho
  iintro Ho
  iapply (wp_store 𝒱₀ (c : Thread nD τ) none Set.univ (m := outM) (Finset.Subset.refl _)) $$ [Ho]; · iexact Ho
  iintro Ho
  iapply Hk
  isplitl [Hy]; · iexact Hy
  have e : ∀ i ∈ (outBlk c).view.set, (outBlk c).view.write (Elt F) f
      (k0_pay1 ((yM.access (Rect.unit (s := S8x256x512) ![(7 : Fin 8).val, 0, 128 * (qtr c 3).val] S1x256x128.size (yblk_inb 7 (qtr c 3)))).read (Elt F) (yv m c)))
      Finset.univ i = ov m c i := fun i hi => by
    rw [pay1_read]
    exact (land_eq m c 31 (by decide) 7 (by decide) f i hi).trans (by rw [tgt_self])
  iapply (Entails.of_eq (pointsTo_congr e)); iexact Ho

/-! ## The body -/

section Body

variable (c : Dev nD) (s : Fin 8) (i : grid0.Coords) (hi : (i 0).val = s.val) {wm : Memref sig .tc .vmem S8192x512 .f32}
  {h₁ : (Memref.whole main_v10 : Memref sig .tc .smem S8 .i32).IsWhole} {h₂ : xM.IsWhole} {h₃ : wm.IsWhole} {h₄ : outM.IsWhole} {h₅ : xbM.IsWhole} {h₆ : yM.IsWhole}
  (q : PosShare TreeShare) {fw : Buf (Elt F) (wm.view.loc (c : Thread nD τ))}
  (hw : wm.view.readAt (Elt F) (Rect.unit (s := S8192x512) ![0, 0] S8192x512.size inb_S8192x512_S8192x512_0_0).toLoadRect fw
      = wtile m c (grp c s.val))

/-- What every point keeps: the table, the kept rows of `x`, and the staged columns. -/
def keepP (wm : Memref sig .tc .vmem S8192x512 .f32) (fw : Buf (Elt F) (wm.view.loc (c : Thread nD τ))) : sProp 𝕄 :=
  iprop(tblPts (F := F) c q ∗ ((c : Thread nD τ).loc cc0_scratch0 ↦{fullShare} k0_pay2 (xv m c)) ∗ (wm.view.loc (c : Thread nD τ) ↦{fullShare} fw))

/-- The tickets of the transfers from `k` on, the credits of those before, and what the device owes. -/
def tick (k : ℕ) : sProp 𝕄 := iprop(SND c k ∗ CRS c k ∗ ow c (oweR c k))

include hi in
/-- A point but the last, from what its first part does. -/
theorem body_send (hs7 : s.val < 7) (P R : sProp 𝕄)
    (h36 : ∀ Q, P ⊢ iprop((∀ a0 v2 v31 v32 v33 v34, iprop(tblPts (F := F) c q ∗ midP m c s wm fw ∗ R ∗ tick c (4 * s.val))
            -∗ Q ⟨a0, c, v2, gw c s.val, chk1 c s.val s.isLt, v31, v32, v33, v34⟩)
        -∗ Wp c (k0_part36 (F := F) i (Memref.whole main_v10) h₁ xM h₂ wm h₃ outM h₄ xbM h₅ yM h₆ cc0_scratch2 cc0_scratch3) Q))
    {Q : PUnit → sProp 𝕄} :
    iprop(invs m κ ∗ P) ⊢ iprop((iprop(keepP m c q wm fw ∗ R ∗ tick c (4 * s.val + 4)) -∗ Q ⟨⟩)
      -∗ Wp c (cc0_body (F := F) i (Memref.whole main_v10) h₁ xM h₂ wm h₃ outM h₄ xbM h₅ yM h₆ cc0_scratch2 cc0_scratch3) Q) := by
  rw [cc0_body_eq_skeleton]; unfold cc0_body_skel
  rw [Wp_bind]
  iintro ⟨#HI, HP⟩ Hk
  iapply (h36 _) $$ [HP]; · iexact HP
  unfold midP tick keepP
  iintro %a0 %v2 %v31 %v32 %v33 %v34 ⟨Ht, ⟨Hx, Hw, Hy⟩, HR, HS, HC, HO⟩
  ihave Hy := (Entails.of_eq (over_qtr c fun q => yPts c s q (yv m c))) $$ Hy
  icases Hy with ⟨Hy₀, Hy₁, Hy₂, Hy₃⟩
  rw [Wp_bind]
  iapply (part37 m κ c s i hi) $$ [HS HC Hy₀ HO]
  · isplitr; · iexact HI
    isplitl [HS]; · iexact HS
    isplitl [HC]; · iexact HC
    isplitl [Hy₀] <;> iassumption
  iintro %r₁ ⟨HS, HC, HO⟩
  obtain ⟨r11, r12⟩ := r₁
  rw [Wp_bind]
  iapply (part38 m κ c s i hi) $$ [HS HC Hy₁ HO]
  · isplitr; · iexact HI
    isplitl [HS]; · iexact HS
    isplitl [HC]; · iexact HC
    isplitl [Hy₁] <;> iassumption
  iintro %r₂ ⟨HS, HC, HO⟩
  obtain ⟨r21, r22, r23, r24, r25⟩ := r₂
  rw [Wp_bind]
  iapply (part39 m κ c s i hi) $$ [HS HC Hy₂ HO]
  · isplitr; · iexact HI
    isplitl [HS]; · iexact HS
    isplitl [HC]; · iexact HC
    isplitl [Hy₂] <;> iassumption
  iintro %r₃ ⟨HS, HC, HO⟩
  obtain ⟨r31, r32⟩ := r₃
  dsimp only
  rw [dif_pos (cond8 c s.val hs7), dif_neg (cond9 c s.val hs7),
    dif_neg (fun h => absurd ((cond10_iff i).mp h) (by omega))]
  simp only [Prog.lift, Prog.bind_op, Prog.bind_ret, Prog.pure_eq_ret]
  have hm : (4 * s.val + 3) % 4 = 3 := by omega
  iapply (step_send m κ c (4 * s.val + 3) (by omega) s (by omega) _ (Fin.ext (dev35 c s.val hs7))
    (off22 c s.val hs7) (k0_off23_eq c) (k0_off24_eq c) (by rw [off25, hi, hm])) $$ [HS HC Hy₃ HO]
  · rw [hm]
    isplitr; · iexact HI
    isplitl [HS]; · iexact HS
    isplitl [HC]; · iexact HC
    isplitl [Hy₃] <;> iassumption
  iintro ⟨HS, HC, HO⟩
  iapply (Wp_ret c)
  iapply Hk
  isplitl [Ht Hx Hw]
  · isplitl [Ht]; · iexact Ht
    isplitl [Hx] <;> iassumption
  isplitl [HR]; · iexact HR
  isplitl [HS]; · iexact HS
  isplitl [HC] <;> iassumption

include hi hw in
/-- The first point. -/
theorem body_first (h0 : s.val = 0) {Q : PUnit → sProp 𝕄} :
    iprop(invs m κ ∗ levAts L lv ∗ tblPts (F := F) c q ∗ ((c : Thread nD τ).loc cc0_stg0_0 ↦{fullShare} xv m c)
        ∗ (∃ f, (c : Thread nD τ).loc cc0_scratch0 ↦{fullShare} f) ∗ (wm.view.loc (c : Thread nD τ) ↦{fullShare} fw) ∗ (∃ f, sPts c s f)
        ∗ SIG c 0 ∗ cred (tallyAt (barCell c) () 31) ∗ atPos ER (barCell c) 0 ∅ 0 ∗ TOK c ∗ ow c (oweR c 0 + oweB c 0))
      ⊢ iprop((iprop(keepP m c q wm fw ∗ iprop(((c : Thread nD τ).loc cc0_stg0_0 ↦{fullShare} xv m c) ∗ atPos ER (barCell c) 1 ∅ 0)
          ∗ tick c (4 * s.val + 4)) -∗ Q ⟨⟩)
        -∗ Wp c (cc0_body (F := F) i (Memref.whole main_v10) h₁ xM h₂ wm h₃ outM h₄ xbM h₅ yM h₆ cc0_scratch2 cc0_scratch3) Q) := by
  have key := body_send m κ c s i hi q (h₁ := h₁) (h₂ := h₂) (h₃ := h₃) (h₄ := h₄) (h₅ := h₅) (h₆ := h₆) (wm := wm) (fw := fw) (by omega)
    iprop(invs m κ ∗ levAts L lv ∗ tblPts (F := F) c q ∗ ((c : Thread nD τ).loc cc0_stg0_0 ↦{fullShare} xv m c)
        ∗ (∃ f, (c : Thread nD τ).loc cc0_scratch0 ↦{fullShare} f) ∗ (wm.view.loc (c : Thread nD τ) ↦{fullShare} fw) ∗ (∃ f, sPts c s f)
        ∗ SIG c 0 ∗ cred (tallyAt (barCell c) () 31) ∗ atPos ER (barCell c) 0 ∅ 0 ∗ TOK c ∗ ow c (oweR c 0 + oweB c 0))
    iprop(((c : Thread nD τ).loc cc0_stg0_0 ↦{fullShare} xv m c) ∗ atPos ER (barCell c) 1 ∅ 0)
    (fun Q => by
      iintro H Hk
      iapply (part36_first m κ c s i hi q hw h0) $$ [H]; · iexact H
      iintro %a0 %v2 %v31 %v32 %v33 %v34 ⟨Ht, Hm, Hx, Hat, HS, HO⟩
      iapply Hk
      unfold tick
      rw [h0]
      isplitl [Ht]; · iexact Ht
      isplitl [Hm]; · iexact Hm
      isplitl [Hx Hat]; · isplitl [Hx] <;> iassumption
      isplitl [HS]; · iexact HS
      isplitr; · unfold CRS; rw [Nat.mul_zero, Finset.range_zero, bigSep_empty]; iempintro
      iexact HO) (Q := Q)
  refine BIBase.Entails.trans ?_ key
  iintro ⟨#HI, H⟩
  isplitr; · iexact HI
  isplitr; · iexact HI
  iexact H

include hi hw in
/-- A point in between. -/
theorem body_mid (h0 : s.val ≠ 0) (h7 : s.val < 7) {Q : PUnit → sProp 𝕄} :
    iprop(invs m κ ∗ keepP m c q wm fw ∗ (∃ f, sPts c s f) ∗ tick c (4 * s.val))
      ⊢ iprop((iprop(keepP m c q wm fw ∗ tick c (4 * s.val + 4)) -∗ Q ⟨⟩)
        -∗ Wp c (cc0_body (F := F) i (Memref.whole main_v10) h₁ xM h₂ wm h₃ outM h₄ xbM h₅ yM h₆ cc0_scratch2 cc0_scratch3) Q) := by
  have key := body_send m κ c s i hi q (h₁ := h₁) (h₂ := h₂) (h₃ := h₃) (h₄ := h₄) (h₅ := h₅) (h₆ := h₆) h7
    iprop(iprop(tblPts (F := F) c q ∗ inP m c s wm fw) ∗ tick c (4 * s.val)) iprop(emp)
    (fun Q => by
      iintro ⟨H, HT⟩ Hk
      iapply (part36_rest m c s i hi q hw h0) $$ [H]; · iexact H
      iintro %a0 %v2 %v31 %v32 %v33 %v34 ⟨Ht, Hm⟩
      iapply Hk
      isplitl [Ht]; · iexact Ht
      isplitl [Hm]; · iexact Hm
      isplitr; · iempintro
      iexact HT) (Q := Q)
  iintro ⟨#HI, HK, Hs, HT⟩ Hk
  unfold keepP
  icases HK with ⟨Ht, Hx, Hw⟩
  iapply key $$ [Ht Hx Hw Hs HT]
  · isplitr; · iexact HI
    unfold inP
    isplitl [Ht Hx Hw Hs]
    · isplitl [Ht]; · iexact Ht
      isplitl [Hx]; · iexact Hx
      isplitl [Hw] <;> iassumption
    iexact HT
  iintro ⟨HK, -, HT⟩
  iapply Hk
  unfold keepP
  isplitl [HK] <;> iassumption

include hi hw in
/-- The last point: three transfers, the device's own quarter, and the drains of everything sent and received. -/
theorem body_last (h7 : s = 7) {Q : PUnit → sProp 𝕄} :
    iprop(invs m κ ∗ keepP m c q wm fw ∗ (∃ f, sPts c s f) ∗ tick c (4 * s.val) ∗ WT c ∗ ∃ f, oPts c c f)
      ⊢ iprop((iprop(keepP m c q wm fw ∗ DN m c 31 ∗ oPts c c (ov m c) ∗ yPts c 7 (qtr c 3) (yv m c) ∗ ow c 0) -∗ Q ⟨⟩)
        -∗ Wp c (cc0_body (F := F) i (Memref.whole main_v10) h₁ xM h₂ wm h₃ outM h₄ xbM h₅ yM h₆ cc0_scratch2 cc0_scratch3) Q) := by
  rw [cc0_body_eq_skeleton]; unfold cc0_body_skel
  rw [Wp_bind]
  unfold keepP tick
  iintro ⟨#HI, ⟨Ht, Hx, Hw⟩, Hs, ⟨HS, HC, HO⟩, HW, Ho⟩ Hk
  iapply (part36_rest m c s i hi q hw (by rw [h7]; decide)) $$ [Ht Hx Hw Hs]
  · isplitl [Ht]; · iexact Ht
    unfold inP
    isplitl [Hx]; · iexact Hx
    isplitl [Hw] <;> iassumption
  unfold midP
  iintro %a0 %v2 %v31 %v32 %v33 %v34 ⟨Ht, Hx, Hw, Hy⟩
  ihave Hy := (Entails.of_eq (over_qtr c fun q => yPts c s q (yv m c))) $$ Hy
  icases Hy with ⟨Hy₀, Hy₁, Hy₂, Hy₃⟩
  rw [Wp_bind]
  iapply (part37 m κ c s i hi) $$ [HS HC Hy₀ HO]
  · isplitr; · iexact HI
    isplitl [HS]; · iexact HS
    isplitl [HC]; · iexact HC
    isplitl [Hy₀] <;> iassumption
  iintro %r₁ ⟨HS, HC, HO⟩
  obtain ⟨r11, r12⟩ := r₁
  rw [Wp_bind]
  iapply (part38 m κ c s i hi) $$ [HS HC Hy₁ HO]
  · isplitr; · iexact HI
    isplitl [HS]; · iexact HS
    isplitl [HC]; · iexact HC
    isplitl [Hy₁] <;> iassumption
  iintro %r₂ ⟨HS, HC, HO⟩
  obtain ⟨r21, r22, r23, r24, r25⟩ := r₂
  rw [Wp_bind]
  iapply (part39 m κ c s i hi) $$ [HS HC Hy₂ HO]
  · isplitr; · iexact HI
    isplitl [HS]; · iexact HS
    isplitl [HC]; · iexact HC
    isplitl [Hy₂] <;> iassumption
  iintro %r₃ ⟨-, HC, HO⟩
  obtain ⟨r31, r32⟩ := r₃
  subst h7
  have h10 : k0_cond10 i = 1#1 := (cond10_iff i).mpr hi
  dsimp only
  rw [dif_neg (show ¬ k0_cond8 c (gw c (7 : Fin 8).val) = 1#1 from cond8_last c),
    dif_pos (show k0_cond9 c (gw c (7 : Fin 8).val) = 1#1 from cond9_last c), dif_pos h10]
  simp only [Prog.lift, Prog.bind_op, Prog.bind_ret, Prog.pure_eq_ret]
  iapply (own_store m c ((off26 i c).trans (by rw [hi])) (k0_off27_eq c)) $$ [Hy₃ Ho]
  · isplitl [Hy₃] <;> iassumption
  iintro ⟨Hy₃, Ho⟩
  simp only [k0_part13_eq_skeleton, k0_part13_skel, k0_part14_eq_skeleton, k0_part14_skel, k0_part15_eq_skeleton, k0_part15_skel,
    k0_part16_eq_skeleton, k0_part16_skel, k0_part17_eq_skeleton, k0_part17_skel, k0_part18_eq_skeleton, k0_part18_skel,
    k0_part19_eq_skeleton, k0_part19_skel, k0_part20_eq_skeleton, k0_part20_skel, k0_part21_eq_skeleton, k0_part21_skel,
    k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel,
    k0_part28_eq_skeleton, k0_part28_skel, k0_part29_eq_skeleton, k0_part29_skel, k0_part30_eq_skeleton, k0_part30_skel,
    k0_part31_eq_skeleton, k0_part31_skel, k0_part32_eq_skeleton, k0_part32_skel, k0_part33_eq_skeleton, k0_part33_skel,
    k0_part34_eq_skeleton, k0_part34_skel, k0_part35_eq_skeleton, k0_part35_skel,
    Prog.lift, Prog.bind_op, Prog.bind_ret, Prog.pure_eq_ret, Prog.bind_assoc]
  ihave HD := (WT_join c) $$ [HW HC]; · isplitl [HW] <;> iassumption
  rw [show oweR c (4 * (7 : Fin 8).val + 2 + 1) = 0 from oweR_end c]
  iapply (drains m κ i c h10 31 0 rfl [0, 1, 2, 3, 4, 5, 6, 7, 8, 9, 10, 11, 12, 13, 14, 15, 16, 17, 18, 19, 20, 21, 22, 23, 24, 25,
    26, 27, 28, 29, 30] (by decide)) $$ [HD HO]
  · isplitr; · iexact HI
    isplitl [HD]; · iexact HD
    isplitr; · unfold DN; rw [Finset.range_zero, bigSep_empty]; iempintro
    iexact HO
  iintro ⟨HN, HO⟩
  iapply (Wp_ret c)
  iapply Hk
  isplitl [Ht Hx Hw]
  · isplitl [Ht]; · iexact Ht
    isplitl [Hx] <;> iassumption
  isplitl [HN]; · iexact HN
  isplitl [Ho]; · iexact Ho
  isplitl [Hy₃] <;> iassumption

end Body

end Cert.A2A

end
-- ==== Proof.Pipe.lean ====
/-
  The kernel's pipeline at the table it reads: which blocks it stages where, and what each iteration of its loop is.
-/
module

public import proofs.«01_k».proof.Proof.Body
public import Idealize.ShloMosaic.Lib.Transfers
public import Idealize.ShloMosaic.Lib.VecWindow

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## The table -/

/-- Device `c`'s prefetched table. -/
def tbl (c : Dev nD) : pre0.Contents (Elt F) := fun | 0 => tblv (F := F) c | ⟨_ + 1, h⟩ => absurd h (Nat.not_lt.2 (Nat.le_add_left _ _))

theorem off1_eq : ∀ i : grid0.Coords, k0_off1 i = ![(i 0).val] := by decide +kernel
theorem gw_toNat (c : Dev nD) (s : ℕ) : (gw c s).toNat = (grp c s).val := by
  unfold gw
  rw [BitVec.toNat_ofNat]
  exact Nat.mod_eq_of_lt (Nat.lt_of_lt_of_le (grp c s).isLt (by decide))

/-- The weights' window stands, at point `i`, over the columns of the group the table names. -/
theorem ix1 (c : Dev nD) (i : grid0.Coords) :
    cc0_transform_1 (F := F) k0_off1_inb numel1_S1 (tbl c) i = ![0, (grp c (i 0).val).val] := by
  have key : ∀ (o : Fin 1 → ℕ) (ho : o = ![(i 0).val]) (b : ∀ a, o a + S1.size a ≤ S8.size a),
      ((tbl (F := F) c).at 0 (Rect.unit (s := S8) o S1.size b) numel1_S1 : BitVec 32) = gw c (i 0).val := by
    rintro _ rfl b
    show gw c _ = _
    congr 1
  show ![(0#32).toNat, ((tbl (F := F) c).at 0 (Rect.unit (s := S8) (k0_off1 i) S1.size (k0_off1_inb i)) numel1_S1 : BitVec 32).toNat] = _
  rw [key _ (off1_eq i), gw_toNat]
  rfl

theorem ok_tbl (c : Dev nD) : ok0 (F := F) (tbl c) := by
  unfold ok0
  intro i
  rw [ix1]
  refine ⟨?_, .inl rfl⟩
  generalize grp c (i 0).val = g
  revert g
  decide

/-- The table is admissible. -/
def adm (c : Dev nD) : (pcfg0 (F := F)).Adm := ⟨tbl c, ok_tbl c⟩

/-- The pipeline at it. -/
abbrev cfgA (c : Dev nD) : Pipeline.Cfg sig Λ₀ := (pcfg0 (F := F)).at (adm c)

/-- Point `s` of the grid. -/
def pt (s : Fin 8) : Fin grid0.N := ⟨s.val, by rw [N_0]; exact s.isLt⟩
theorem pt_coord : ∀ s : Fin 8, (grid0.coords (pt s) 0).val = s.val := by decide +kernel

theorem grp_step : ∀ (c : Dev nD) (s : Fin 8), 0 < s.val → (grp c s.val).val ≠ (grp c (s.val - 1)).val := by decide +kernel

theorem index1 (c : Dev nD) (s : Fin 8) : ((cfgA (F := F) c).win 1).index (pt s) = ![0, (grp c s.val).val] := by
  show cc0_transform_1 (F := F) k0_off1_inb numel1_S1 (tbl c) (grid0.coords (pt s)) = _
  rw [ix1, pt_coord]

/-- The weights' window is fetched at every point, -/
theorem fetch1 (c : Dev nD) (s : Fin 8) : ((cfgA (F := F) c).win 1).fetch (pt s) = true := by
  show (!false && (decide ((pt s).val = 0) || decide (∃ h : 0 < (pt s).val, ((cfgA (F := F) c).win 1).index (pt s) ≠ ((cfgA (F := F) c).win 1).index ⟨(pt s).val - 1, lt_of_le_of_lt (Nat.sub_le _ _) (pt s).isLt⟩))) = true
  by_cases h0 : s.val = 0
  · rw [decide_eq_true (show (pt s).val = 0 from h0)]; rfl
  · rw [decide_eq_true (p := ∃ h : 0 < (pt s).val, _)]
    · rw [Bool.or_true]; rfl
    · refine ⟨Nat.pos_of_ne_zero h0, fun h => ?_⟩
      have e := index1 (F := F) c ⟨s.val - 1, by omega⟩
      have h1 := congrFun ((index1 (F := F) c s).symm.trans (h.trans e)) 1
      exact grp_step c s (Nat.pos_of_ne_zero h0) h1

/-- into its two staging buffers in turn. -/
theorem slot1 (c : Dev nD) : ∀ (s : ℕ) (hs : s < 8), (((cfgA (F := F) c).win 1).slot s (by show s < grid0.N; rw [N_0]; exact hs)).val = s % 2 := by
  intro s
  induction s with
  | zero => intro _; rfl
  | succ s ih =>
    intro hs
    have hf := fetch1 (F := F) c ⟨s + 1, hs⟩
    unfold Pipeline.Window.slot
    dsimp only
    rw [if_pos (by rw [if_neg (show ¬ ((cfgA (F := F) c).win 1).isOut = true from Bool.false_ne_true)]; exact hf)]
    show ((((cfgA (F := F) c).win 1).slot s _).val + 1) % 2 = _
    rw [ih (by omega)]
    omega

/-! ## The iterations -/

theorem fetch0_zero (c : Dev nD) : ((cfgA (F := F) c).win 0).fetch (pt 0) = true := rfl
theorem fetch0_later (c : Dev nD) (s : Fin 8) (hs : s.val ≠ 0) : ((cfgA (F := F) c).win 0).fetch (pt s) = false := by
  show (!false && (decide ((pt s).val = 0) || decide (∃ h : 0 < (pt s).val, ((cfgA (F := F) c).win 0).index (pt s) ≠ ((cfgA (F := F) c).win 0).index ⟨(pt s).val - 1, lt_of_le_of_lt (Nat.sub_le _ _) (pt s).isLt⟩))) = false
  rw [decide_eq_false (show ¬ (pt s).val = 0 from hs), decide_eq_false (p := ∃ h : 0 < (pt s).val, _)]
  · rfl
  · rintro ⟨_, h⟩; exact h rfl
theorem fetch2 (c : Dev nD) (s : Fin 8) : ((cfgA (F := F) c).win 2).fetch (pt s) = false := rfl
theorem flush0 (c : Dev nD) (s : Fin 8) : ((cfgA (F := F) c).win 0).flush (pt s) = false := rfl
theorem flush1 (c : Dev nD) (s : Fin 8) : ((cfgA (F := F) c).win 1).flush (pt s) = false := rfl
theorem flush2 (c : Dev nD) (s : Fin 8) : ((cfgA (F := F) c).win 2).flush (pt s) = decide (s.val = 7) := by
  show (true && (decide ((pt s).val + 1 = grid0.N) || decide (∃ h : (pt s).val + 1 < grid0.N, ((cfgA (F := F) c).win 2).index ⟨(pt s).val + 1, h⟩ ≠ ((cfgA (F := F) c).win 2).index (pt s)))) = _
  rw [decide_eq_false (p := ∃ h : (pt s).val + 1 < grid0.N, _), Bool.or_false, Bool.true_and]
  · refine decide_eq_decide.2 ?_
    show s.val + 1 = grid0.N ↔ _
    rw [N_0]
    omega
  · rintro ⟨_, h⟩; exact h rfl
theorem single0 (c : Dev nD) : ((cfgA (F := F) c).win 0).single = true := rfl
theorem single1 (c : Dev nD) : ((cfgA (F := F) c).win 1).single = false := rfl
theorem single2 (c : Dev nD) : ((cfgA (F := F) c).win 2).single = true := rfl

theorem prologue_eq (c : Dev nD) : (cfgA (F := F) c).prologue = 1 := by
  unfold Pipeline.Cfg.prologue Pipeline.Cfg.hasInput
  rw [decide_eq_true (p := ∃ w : Fin (cfgA (F := F) c).W, ((cfgA (F := F) c).win w).isOut = false) ⟨0, rfl⟩]
  rfl
theorem epilogue_eq (c : Dev nD) : (cfgA (F := F) c).epilogue = 1 := by
  unfold Pipeline.Cfg.epilogue Pipeline.Cfg.hasOutput
  rw [decide_eq_true (p := ∃ w : Fin (cfgA (F := F) c).W, ((cfgA (F := F) c).win w).isOut = true) ⟨2, rfl⟩]
  rfl
theorem N_eq (c : Dev nD) : (cfgA (F := F) c).N = 8 := N_0
theorem trips (c : Dev nD) : (cfgA (F := F) c).tripCount = 10 := by
  unfold Pipeline.Cfg.tripCount; rw [prologue_eq, epilogue_eq, N_eq]

variable (F) in
/-- The programs of the pipelined machine. -/
abbrev PG := Prog (TpuEff nD τ sig (Elt F) (Pipeline.Sig Λ₀ (Fin 1) fun p => (pcfgs (F := F) p).Adm) Proc.tc) PUnit

/-- Iteration `ℓ` of the loop. -/
abbrev iterA (c : Dev nD) (ℓ : ℕ) : PG F := (cfgA (F := F) c).iter (A := fun p => (pcfgs (F := F) p).Adm) (0 : Fin 1) (adm (F := F) c) ℓ

theorem at_some (c : Dev nD) (ℓ d : ℕ) (s : Fin 8) (h : ℓ = s.val + d) (f : Fin (cfgA (F := F) c).N → PG F → PG F) (k : PG F) :
    (cfgA (F := F) c).atPoint ℓ d f k = f (pt s) k := by
  subst h
  rw [Pipeline.Cfg.atPoint_some _ ⟨Nat.le_add_left _ _, by rw [N_eq, Nat.add_sub_cancel]; exact s.isLt⟩]
  congr 1
  exact Fin.ext (Nat.add_sub_cancel _ _)
theorem at_none (c : Dev nD) (ℓ d : ℕ) (h : ℓ < d ∨ 8 + d ≤ ℓ) (f : Fin (cfgA (F := F) c).N → PG F → PG F) (k : PG F) :
    (cfgA (F := F) c).atPoint ℓ d f k = k :=
  Pipeline.Cfg.atPoint_none _ (by rw [N_eq]; omega) f k
/-- A step for each window that has it, where which have it is known. -/
theorem each_of (c : Dev nD) (b0 b1 b2 : Bool) (p : Fin (cfgA (F := F) c).W → Bool) (f : Fin (cfgA (F := F) c).W → PG F → PG F) (k : PG F)
    (h0 : p 0 = b0) (h1 : p 1 = b1) (h2 : p 2 = b2) :
    (cfgA (F := F) c).eachWin p f k =
      bif b0 then f 0 (bif b1 then f 1 (bif b2 then f 2 k else k) else (bif b2 then f 2 k else k))
      else (bif b1 then f 1 (bif b2 then f 2 k else k) else (bif b2 then f 2 k else k)) := by
  subst h0 h1 h2
  simp only [Bool.cond_eq_ite]
  rfl
/-- Of two conditions on a window, the second fails, or both are known. -/
theorem and_false_of {a b : Bool} (h : b = false) : (a && b) = false := by rw [h, Bool.and_false]
theorem and_of {a b : Bool} {v : Bool} (ha : a = true) (h : b = v) : (a && b) = v := by rw [ha, h, Bool.true_and]
theorem fetchIn_eq (c : Dev nD) (w : Fin (cfgA (F := F) c).W) (s : Fin 8) (k : PG F) :
    (cfgA (F := F) c).fetchIn w (pt s) k = .op ((cfgA (F := F) c).startIn w (pt s)) fun _ => k := by
  fin_cases w <;> rfl

/-- The next iteration. -/
def again (c : Dev nD) (ℓ : ℕ) : PG F := .op (.call (Pipeline.pipe 0) (adm (F := F) c, ℓ)) fun _ => .ret ⟨⟩
/-- The body at point `s`, then `k`. -/
def bodyAt (c : Dev nD) (s : Fin 8) (k : PG F) : PG F :=
  .op (.call (Pipeline.kernel (cfgA (F := F) c).body) ((cfgA (F := F) c).bodyArgs (pt s) ((cfgA (F := F) c).slots (pt s)))) fun _ => k
/-- Starting a fetch, and waiting for it. -/
def fetchAt (c : Dev nD) (w : Fin 3) (s : Fin 8) (k : PG F) : PG F := .op ((cfgA (F := F) c).startIn w (pt s)) fun _ => k
def gotAt (c : Dev nD) (w : Fin 3) (s : Fin 8) (k : PG F) : PG F := .op ((cfgA (F := F) c).waitIn w (pt s)) fun _ => k
/-- Writing the output back. -/
def putAt (c : Dev nD) (k : PG F) : PG F :=
  .op ((cfgA (F := F) c).startOut 2 (pt 7)) fun _ => .op ((cfgA (F := F) c).waitOut 2 (pt 7)) fun _ => k

theorem next_pos (c : Dev nD) (ℓ : ℕ) (h : ℓ < 9) :
    (if ℓ + 1 < (cfgA (F := F) c).tripCount then Prog.op (.call (Pipeline.pipe 0) (adm (F := F) c, ℓ + 1)) fun _ => .ret ⟨⟩ else .ret ⟨⟩ : PG F) = again c (ℓ + 1) := by
  rw [trips, if_pos (by omega)]; rfl

theorem iter_start (c : Dev nD) : iterA (F := F) c 0 = (fetchAt c 1 0 (again c 1) : PG F) := by
  unfold iterA Pipeline.Cfg.iter
  dsimp only
  rw [at_none c 0 1 (by omega), at_some c 0 0 0 rfl, prologue_eq, at_none c 0 1 (by omega), at_none c 0 (1 + 1) (by omega), next_pos c 0 (by omega)]
  rw [each_of c false true false]
  · exact fetchIn_eq c 1 0 _
  · rfl
  · exact fetch1 (F := F) c 0
  · rfl

theorem iter_first (c : Dev nD) : iterA (F := F) c 1 =
    (fetchAt c 0 0 <| fetchAt c 1 1 <| gotAt c 0 0 <| gotAt c 1 0 <| bodyAt c 0 (again c 2) : PG F) := by
  unfold iterA Pipeline.Cfg.iter
  dsimp only
  rw [at_some c 1 1 0 rfl, at_some c 1 0 1 rfl, prologue_eq, at_some c 1 1 0 rfl, at_none c 1 (1 + 1) (by omega), next_pos c 1 (by omega)]
  rw [each_of c true false false _ _ _ rfl rfl rfl, each_of c false true false _ _ _ rfl (fetch1 c 1) rfl, each_of c true true false _ _ _ rfl (fetch1 c 0) rfl,
    each_of c false false false _ _ _ rfl rfl (flush2 c 0), each_of c false false false _ _ _ rfl rfl (and_of rfl (flush2 c 0))]
  exact (fetchIn_eq (F := F) c 0 0 _).trans (congrArg (fetchAt (F := F) c 0 0) (fetchIn_eq (F := F) c 1 1 _))

theorem iter_mid (c : Dev nD) (s s' : Fin 8) (h0 : s.val ≠ 0) (hs : s'.val = s.val + 1) : iterA (F := F) c (s.val + 1) =
    (fetchAt c 1 s' <| gotAt c 1 s <| bodyAt c s (again c (s.val + 2)) : PG F) := by
  have h7 : ((cfgA (F := F) c).win 2).flush (pt s) = false := (flush2 c s).trans (decide_eq_false (by have := s'.isLt; omega))
  obtain ⟨u, hu⟩ : ∃ u : Fin 8, s.val + 1 = u.val + (1 + 1) := ⟨⟨s.val - 1, by omega⟩, by show _ = s.val - 1 + _; omega⟩
  unfold iterA Pipeline.Cfg.iter
  dsimp only
  rw [at_some c (s.val + 1) 1 s rfl, at_some c (s.val + 1) 0 s' hs.symm, prologue_eq, at_some c (s.val + 1) 1 s rfl,
    next_pos c (s.val + 1) (by omega), at_some c (s.val + 1) (1 + 1) u hu]
  rw [each_of c false false false _ _ _ (and_false_of (fetch0_later c s h0)) rfl rfl, each_of c false true false _ _ _ rfl (fetch1 c s') rfl,
    each_of c false true false _ _ _ (fetch0_later c s h0) (fetch1 c s) rfl,
    each_of c false false false _ _ _ rfl rfl h7, each_of c false false false _ _ _ rfl rfl (and_of rfl h7), each_of c false false false _ _ _ rfl (and_false_of (flush1 c u)) rfl]
  exact fetchIn_eq c 1 s' _

theorem iter_last (c : Dev nD) : iterA (F := F) c 8 =
    (gotAt c 1 7 <| bodyAt c 7 <| putAt c <| again c 9 : PG F) := by
  unfold iterA Pipeline.Cfg.iter
  dsimp only
  rw [at_some c 8 1 7 rfl, at_none c 8 0 (by omega), prologue_eq, at_some c 8 1 7 rfl, at_some c 8 (1 + 1) 6 rfl, next_pos c 8 (by omega)]
  rw [each_of c false false false _ _ _ (and_false_of (fetch0_later c 7 (by decide))) rfl rfl,
    each_of c false true false _ _ _ (fetch0_later c 7 (by decide)) (fetch1 c 7) rfl,
    each_of c false false true _ _ _ rfl rfl (flush2 c 7), each_of c false false true _ _ _ rfl rfl (and_of rfl (flush2 c 7)), each_of c false false false _ _ _ rfl (and_false_of (flush1 c 6)) rfl]
  rfl

theorem iter_end (c : Dev nD) : iterA (F := F) c 9 = (.ret ⟨⟩ : PG F) := by
  unfold iterA Pipeline.Cfg.iter
  dsimp only
  rw [at_none c 9 1 (by omega), at_none c 9 0 (by omega), prologue_eq, at_none c 9 1 (by omega), at_some c 9 (1 + 1) 7 rfl, trips, if_neg (by omega)]
  rw [each_of c false false false _ _ _ rfl (and_false_of (flush1 c 7)) rfl]
  rfl

end Cert.A2A

end
-- ==== Proof.Copies.lean ====
/-
  The pipeline's copies on one device: a block of the weights into a staging buffer, the device's rows of `x` into
  theirs, the output's staging buffer back, each from its start to its wait; and the body's call.
-/
module

public import proofs.«01_k».proof.Proof.Pipe
public import Idealize.ShloMosaic.Lib.Pipeline.Regions

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

/-- A device's proof of a program of the pipelined machine, within a bound. -/
abbrev WpP (c : Dev nD) (bd : Option (Variants.lift 𝒱₀).V) (p : PG F) (Q : PUnit → sProp 𝕄) : sProp 𝕄 :=
  wp frame (wpE (Pipeline.defs (pcfgs (F := F)) (defs₀ (F := F))) (Variants.lift 𝒱₀) (c : Thread nD τ) bd) Set.univ p Q

/-! ## One copy -/

section Copy

variable (c : Dev nD) (bd : Option (Variants.lift 𝒱₀).V) {sp sp' : Space} {s : Shape} {e : EltTy}
  (src : Memref sig .tc sp s e) (dst : Memref sig .tc sp' s e) (sm : DmaSem sig) (q : PosShare TreeShare)
  (fs : Buf (Elt F) (src.view.loc (c : Thread nD τ))) (fd : Buf (Elt F) (dst.view.loc (c : Thread nD τ)))

/-- A copy under way: what it delivers, and the part of the source's buffer it does not read. -/
def Busy : sProp 𝕄 :=
  iprop(Transfers.Flight (countersEmb (U := UU)) (c : Thread nD τ) (.dma sm) () dst.view.dmaCredit
      iprop((dst.view.loc (c : Thread nD τ) ↦{fullShare} dst.view.write (Elt F) fd (src.view.read (Elt F) fs) Finset.univ)
        ∗ (src.view.loc (c : Thread nD τ) ↦[src.view.set]{q} fs))
    ∗ (src.view.loc (c : Thread nD τ) ↦[Finset.univ \ src.view.set]{q} fs))

variable {h1 : src.view.WordExact} {h2 : dst.view.WordExact} {h3 : DmaTarget.Typed (nD := nD) sp (.dma sm) (.here (p := (c : Thread nD τ).2) dst)}
  {k : PUnit → PG F}

theorem start_copy (hN : 0 < dst.view.dmaCredit) {Q : PUnit → sProp 𝕄} :
    iprop((src.view.loc (c : Thread nD τ) ↦{q} fs) ∗ (dst.view.loc (c : Thread nD τ) ↦{fullShare} fd) ∗ semVal ((c : Thread nD τ), .dma sm) 0)
      ⊢ iprop((Busy c src dst sm q fs fd -∗ WpP c bd (k ⟨⟩) Q)
        -∗ WpP c bd (.op (.enqueueDma src (.here dst) (.dma sm) h1 h2 h3) k) Q) := by
  iintro ⟨Hs, Hd, Hv⟩ Hk
  ihave Hs := (pointsTo_split_subset (Finset.subset_univ src.view.set)).1 $$ Hs
  icases Hs with ⟨Hs, Hr⟩
  iapply (Transfers.wp_dmaLocal (countersEmb (U := UU)) (Variants.lift 𝒱₀) (c : Thread nD τ) bd (src := src) (dst := dst) (q := q) (fs := fs) (Sd := Finset.univ) (fd := fd)
    () dst.view.dmaCredit rfl hN (Finset.subset_univ _)) $$ [Hs Hd Hv]
  · isplitl [Hs]; · iexact Hs
    isplitl [Hd] <;> iassumption
  iintro HF
  iapply Hk
  unfold Busy
  isplitl [HF]; · iexact HF
  iexact Hr

variable {sp₁ sp₂ : Space} {s₁ : Shape} {e₁ : EltTy} {srcw : Memref sig .tc sp₁ s₁ e₁} {dstw : Memref sig .tc sp₂ s e} {g1 : srcw.view.WordExact} {g2 : dstw.view.WordExact}

theorem wait_copy (hN : dstw.view.dmaCredit = dst.view.dmaCredit) (O : CellTallies nD τ sig Unit) {Q : PUnit → sProp 𝕄} :
    iprop(Busy c src dst sm q fs fd ∗ ow c O ∗ MayWait (c : Thread nD τ) (.dma sm) () O)
      ⊢ iprop((iprop((dst.view.loc (c : Thread nD τ) ↦{fullShare} dst.view.write (Elt F) fd (src.view.read (Elt F) fs) Finset.univ)
            ∗ (src.view.loc (c : Thread nD τ) ↦{q} fs) ∗ semVal ((c : Thread nD τ), .dma sm) 0 ∗ ow c O) -∗ WpP c bd (k ⟨⟩) Q)
        -∗ WpP c bd (.op (.waitDma2 sm srcw dstw g1 g2) k) Q) := by
  unfold Busy
  iintro ⟨⟨HF, Hr⟩, ⟨%W, HO⟩, Hmw⟩ Hk
  iapply (Transfers.wp_waitLocalO (countersEmb (U := UU)) (Variants.lift 𝒱₀) (c : Thread nD τ) bd () hN) $$ [HF HO Hmw]
  · isplitl [HF]; · iexact HF
    isplitl [HO] <;> iassumption
  iintro ⟨⟨Hd, Hs⟩, Hv, HO⟩
  iapply Hk
  isplitl [Hd]; · iexact Hd
  isplitl [Hs Hr]
  · iapply (pointsTo_split_subset (Finset.subset_univ src.view.set)).2
    isplitl [Hs] <;> iassumption
  isplitl [Hv]; · iexact Hv
  iexists _; iexact HO

end Copy

/-! ## Copies through all of a buffer -/

section Full

theorem rect_emb {s : Shape} (o : Fin s.rank → ℕ) (ho : ∀ a, o a = 0) (b : ∀ a, o a + s.size a ≤ s.size a) (j : s.Idx) :
    (Rect.unit (s := s) o s.size b).emb j = j := by
  funext a
  refine Fin.ext ?_
  show o a + 1 * (j a).val = (j a).val
  rw [ho a]; omega

/-- Writing through all of a whole buffer leaves what is written. -/
theorem write_full {κ' : Kind} (r : Ref sig κ') (o : Fin r.ty.shape.rank → ℕ) (ho : ∀ a, o a = 0) (b : ∀ a, o a + r.ty.shape.size a ≤ r.ty.shape.size a)
    (f : r.ty.Contents (Elt F)) (w : r.ty.shape.Idx → Elt F r.ty.elt) :
    ((View.whole r).slice (Rect.unit (s := r.ty.shape) o r.ty.shape.size b)).write (Elt F) f w Finset.univ = w := by
  funext i
  have h := View.write_emb_of_mem (v := (View.whole r).slice (Rect.unit (s := r.ty.shape) o r.ty.shape.size b)) (Val := Elt F) f w (Finset.mem_univ i)
  have e : ((View.whole r).slice (Rect.unit (s := r.ty.shape) o r.ty.shape.size b)).emb i = i := rect_emb o ho b i
  rw [e] at h
  exact h

/-- Reading through all of it gives what it holds. -/
theorem read_full {κ' : Kind} (r : Ref sig κ') (o : Fin r.ty.shape.rank → ℕ) (ho : ∀ a, o a = 0) (b : ∀ a, o a + r.ty.shape.size a ≤ r.ty.shape.size a)
    (f : r.ty.Contents (Elt F)) :
    ((View.whole r).slice (Rect.unit (s := r.ty.shape) o r.ty.shape.size b)).read (Elt F) f = f := by
  funext i
  rw [View.read_apply]
  have e : ((View.whole r).slice (Rect.unit (s := r.ty.shape) o r.ty.shape.size b)).emb i = i := rect_emb o ho b i
  rw [e]
  rfl

end Full

end Cert.A2A

end
-- ==== Proof.Windows.lean ====
/-
  The pipeline's steps as the copies they are: which memrefs and counter each names, and what each does to them.
-/
module

public import proofs.«01_k».proof.Proof.Copies

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ)

variable (F) in
/-- The effects of the pipelined machine. -/
abbrev PE := TpuEff nD τ sig (Elt F) (Pipeline.Sig Λ₀ (Fin 1) fun p => (pcfgs (F := F) p).Adm) Proc.tc PUnit

/-! ## The weights' window -/

/-- Staging buffer `σ` of the weights' window, and all of it as the copies name it. -/
abbrev wst (σ : Fin 2) : Memref sig .tc .vmem S8192x512 .f32 := spec0_1.stage σ
abbrev wstF (σ : Fin 2) : Memref sig .tc .vmem S8192x512 .f32 :=
  (wst σ).slice (Rect.unit (s := S8192x512) (fun _ => 0) S8192x512.size (fun _ => (Nat.zero_add _).le)) (fun _ => rfl)
abbrev wsem (σ : Fin 2) : DmaSem sig := spec0_1.sem σ

theorem blkOff (c : Dev nD) (s : Fin 8) :
    (fun a => ((cfgA (F := F) c).win 1).index (pt s) a * S8192x512.size a) = (![0, 512 * (grp c s.val).val] : Fin 2 → ℕ) := by
  rw [index1]
  funext a
  fin_cases a
  · exact Nat.zero_mul _
  · exact Nat.mul_comm _ 512

theorem startW (c : Dev nD) (s : Fin 8) (σ : Fin 2) (hσ : σ.val = s.val % 2) : ∃ h1 h2 h3,
    (cfgA (F := F) c).startIn (A := fun p => (pcfgs (F := F) p).Adm) 1 (pt s)
      = (.enqueueDma (wBlk (grp c s.val)) (.here (wstF σ)) (.dma (wsem σ)) h1 h2 h3 : PE F) := by
  have key : ∀ (o : Fin 2 → ℕ) (ho : o = ![0, 512 * (grp c s.val).val]) (b : ∀ a, o a + S8192x512.size a ≤ S8192x4096.size a) (σ' : Fin 2) (hσ' : σ' = σ) h1 h2 h3,
      ∃ g1 g2 g3, (.enqueueDma (wM.slice (Rect.unit (s := S8192x4096) o S8192x512.size b) (fun _ => rfl)) (.here (wstF σ')) (.dma (wsem σ')) h1 h2 h3 : PE F)
        = (.enqueueDma (wBlk (grp c s.val)) (.here (wstF σ)) (.dma (wsem σ)) g1 g2 g3 : PE F) := by
    rintro _ rfl b _ rfl h1 h2 h3
    exact ⟨h1, h2, h3, rfl⟩
  exact key _ (blkOff (F := F) c s) _ ((cfgA (F := F) c).slots (pt s) 1) (Fin.ext ((slot1 (F := F) c s.val s.isLt).trans hσ.symm)) _ _ _

theorem waitW (c : Dev nD) (s : Fin 8) (σ : Fin 2) (hσ : σ.val = s.val % 2) : ∃ h1 h2,
    (cfgA (F := F) c).waitIn (A := fun p => (pcfgs (F := F) p).Adm) 1 (pt s)
      = (.waitDma2 (wsem σ) (wBlk (grp c s.val)) (wstF σ) h1 h2 : PE F) := by
  have key : ∀ (o : Fin 2 → ℕ) (ho : o = ![0, 512 * (grp c s.val).val]) (b : ∀ a, o a + S8192x512.size a ≤ S8192x4096.size a) (σ' : Fin 2) (hσ' : σ' = σ) h1 h2,
      ∃ g1 g2, (.waitDma2 (wsem σ') (wM.slice (Rect.unit (s := S8192x4096) o S8192x512.size b) (fun _ => rfl)) (wstF σ') h1 h2 : PE F)
        = (.waitDma2 (wsem σ) (wBlk (grp c s.val)) (wstF σ) g1 g2 : PE F) := by
    rintro _ rfl b _ rfl h1 h2
    exact ⟨h1, h2, rfl⟩
  exact key _ (blkOff (F := F) c s) _ ((cfgA (F := F) c).slots (pt s) 1) (Fin.ext ((slot1 (F := F) c s.val s.isLt).trans hσ.symm))
    (((cfgA (F := F) c).win 1).wordExact_blk (pt s)) (((cfgA (F := F) c).win 1).wordExact_stg (pt s) _)

/-- What staging buffer `σ` holds once a block is staged over `f`. -/
abbrev gotV (c : Dev nD) (σ : Fin 2) (f : Buf (Elt F) ((wst σ).view.loc (c : Thread nD τ))) (t : Vec F S8192x512 .f32) : Buf (Elt F) ((wst σ).view.loc (c : Thread nD τ)) :=
  (wstF σ).view.write (Elt F) f t Finset.univ

/-- Read back, it is the block. -/
theorem got_read (c : Dev nD) (σ : Fin 2) (f : Buf (Elt F) ((wst σ).view.loc (c : Thread nD τ))) (t : Vec F S8192x512 .f32) :
    (wst σ).view.readAt (Elt F) (Rect.unit ![0, 0] S8192x512.size inb_S8192x512_S8192x512_0_0).toLoadRect (gotV c σ f t) = t := by
  have key : ∀ (o : Fin 2 → ℕ) (ho : o = fun _ => 0) (b : ∀ a, o a + S8192x512.size a ≤ S8192x512.size a),
      (wst σ).view.readAt (Elt F) (Rect.unit (s := S8192x512) o S8192x512.size b).toLoadRect (gotV c σ f t) = t := by
    rintro _ rfl b
    rw [View.readAt_rect]
    exact View.read_write_univ _ _
  exact key _ (by funext a; fin_cases a <;> rfl) _

/-- The half of the weights each staging buffer's copies read. -/
def half (σ : Fin 2) : PosShare TreeShare := if σ.val = 0 then fullShare.left else fullShare.right

/-- A staging buffer free, -/
def FREE (c : Dev nD) (σ : Fin 2) : sProp 𝕄 :=
  iprop((∃ f, (wst σ).view.loc (c : Thread nD τ) ↦{fullShare} f) ∗ ((c : Thread nD τ).loc main_arg1 ↦{half σ} wv m c)
    ∗ semVal ((c : Thread nD τ), .dma (wsem σ)) 0)
/-- being filled with tile `s`, -/
def BUSYW (c : Dev nD) (σ : Fin 2) (s : Fin 8) : sProp 𝕄 :=
  iprop(∃ f, Busy c (wBlk (grp c s.val)) (wstF σ) (wsem σ) (half σ) (wv m c) f)
/-- and what is left of it while the body reads the tile. -/
def RESTW (c : Dev nD) (σ : Fin 2) : sProp 𝕄 :=
  iprop(((c : Thread nD τ).loc main_arg1 ↦{half σ} wv m c) ∗ semVal ((c : Thread nD τ), .dma (wsem σ)) 0)

variable (c : Dev nD) (bd : Option (Variants.lift 𝒱₀).V) {p : PG F}

theorem step_fetchW (s : Fin 8) (σ : Fin 2) (hσ : σ.val = s.val % 2) {Q : PUnit → sProp 𝕄} :
    FREE m c σ ⊢ iprop((BUSYW m c σ s -∗ WpP c bd p Q) -∗ WpP c bd (fetchAt c 1 s p) Q) := by
  obtain ⟨h1, h2, h3, e⟩ := startW (F := F) c s σ hσ
  unfold fetchAt FREE
  rw [e]
  iintro ⟨⟨%f, Hd⟩, Hs, Hv⟩ Hk
  iapply (start_copy c bd (wBlk (grp c s.val)) (wstF σ) (wsem σ) (half σ) (wv m c) f (View.dmaCredit_pos _ (by decide))) $$ [Hd Hs Hv]
  · isplitl [Hs]; · iexact Hs
    isplitl [Hd] <;> iassumption
  iintro HB
  iapply Hk
  unfold BUSYW
  iexists f; iexact HB

theorem step_gotW (s : Fin 8) (σ : Fin 2) (hσ : σ.val = s.val % 2) (O : CellTallies nD τ sig Unit) {Q : PUnit → sProp 𝕄} :
    iprop(BUSYW m c σ s ∗ ow c O ∗ MayWait (c : Thread nD τ) (.dma (wsem σ)) () O)
      ⊢ iprop((∀ f, iprop(((wst σ).view.loc (c : Thread nD τ) ↦{fullShare} gotV c σ f (wtile m c (grp c s.val))) ∗ RESTW m c σ ∗ ow c O) -∗ WpP c bd p Q)
        -∗ WpP c bd (gotAt c 1 s p) Q) := by
  obtain ⟨h1, h2, e⟩ := waitW (F := F) c s σ hσ
  unfold gotAt BUSYW RESTW
  rw [e]
  iintro ⟨⟨%f, HB⟩, HO, Hm⟩ Hk
  iapply (wait_copy c bd (wBlk (grp c s.val)) (wstF σ) (wsem σ) (half σ) (wv m c) f rfl O) $$ [HB HO Hm]
  · isplitl [HB]; · iexact HB
    isplitl [HO] <;> iassumption
  iintro ⟨Hd, Hs, Hv, HO⟩
  iapply Hk $$ %f
  isplitl [Hd]; · iexact Hd
  isplitr [HO]; · isplitl [Hs] <;> iassumption
  iexact HO

/-! ## The window of `x` -/

abbrev xstF : Memref sig .tc .vmem S256x8192 .f32 :=
  xM.slice (Rect.unit (s := S256x8192) (fun _ => 0) S256x8192.size (fun _ => (Nat.zero_add _).le)) (fun _ => rfl)
abbrev xsem : DmaSem sig := spec0_0.sem 0
abbrev xoff : Fin 2 → ℕ := fun a => (cc0_transform_0 (grid0.coords (pt 0))) a * S256x8192.size a
theorem xoff_zero : ∀ a, xoff a = 0 := by decide
abbrev xsrc : Memref sig .tc .hbm S256x8192 .f32 :=
  (Memref.whole main_arg0).slice (Rect.unit (s := S256x8192) xoff S256x8192.size (fun a => by rw [xoff_zero]; exact (Nat.zero_add _).le)) (fun _ => rfl)

theorem startX : ∃ h1 h2 h3,
    (cfgA (F := F) c).startIn (A := fun p => (pcfgs (F := F) p).Adm) 0 (pt 0) = (.enqueueDma xsrc (.here xstF) (.dma xsem) h1 h2 h3 : PE F) :=
  ⟨_, _, _, rfl⟩
theorem waitX : ∃ h1 h2,
    (cfgA (F := F) c).waitIn (A := fun p => (pcfgs (F := F) p).Adm) 0 (pt 0) = (.waitDma2 xsem xsrc xstF h1 h2 : PE F) :=
  ⟨((cfgA (F := F) c).win 0).wordExact_blk (pt 0), ((cfgA (F := F) c).win 0).wordExact_stg (pt 0) ((cfgA (F := F) c).slots (pt 0) 0), rfl⟩

def BUSYX : sProp 𝕄 := iprop(∃ f, Busy c xsrc xstF xsem fullShare (xv m c) f)

theorem step_fetchX {Q : PUnit → sProp 𝕄} :
    iprop(((c : Thread nD τ).loc main_arg0 ↦{fullShare} xv m c) ∗ (∃ f, (c : Thread nD τ).loc cc0_stg0_0 ↦{fullShare} f) ∗ semVal ((c : Thread nD τ), .dma xsem) 0)
      ⊢ iprop((BUSYX m c -∗ WpP c bd p Q) -∗ WpP c bd (fetchAt c 0 0 p) Q) := by
  obtain ⟨h1, h2, h3, e⟩ := startX (F := F) c
  unfold fetchAt
  rw [e]
  iintro ⟨Hs, ⟨%f, Hd⟩, Hv⟩ Hk
  iapply (start_copy c bd xsrc xstF xsem fullShare (xv m c) f (View.dmaCredit_pos _ (by decide))) $$ [Hd Hs Hv]
  · isplitl [Hs]; · iexact Hs
    isplitl [Hd] <;> iassumption
  iintro HB
  iapply Hk
  unfold BUSYX
  iexists f; iexact HB

theorem step_gotX (O : CellTallies nD τ sig Unit) {Q : PUnit → sProp 𝕄} :
    iprop(BUSYX m c ∗ ow c O ∗ MayWait (c : Thread nD τ) (.dma xsem) () O)
      ⊢ iprop((iprop(((c : Thread nD τ).loc cc0_stg0_0 ↦{fullShare} xv m c) ∗ ((c : Thread nD τ).loc main_arg0 ↦{fullShare} xv m c)
          ∗ semVal ((c : Thread nD τ), .dma xsem) 0 ∗ ow c O) -∗ WpP c bd p Q)
        -∗ WpP c bd (gotAt c 0 0 p) Q) := by
  obtain ⟨h1, h2, e⟩ := waitX (F := F) c
  unfold gotAt BUSYX
  rw [e]
  iintro ⟨⟨%f, HB⟩, HO, Hm⟩ Hk
  iapply (wait_copy c bd xsrc xstF xsem fullShare (xv m c) f rfl O) $$ [HB HO Hm]
  · isplitl [HB]; · iexact HB
    isplitl [HO] <;> iassumption
  iintro ⟨Hd, Hs, Hv, HO⟩
  iapply Hk
  isplitl [Hd]
  · iapply (Entails.of_eq (show ((c : Thread nD τ).loc cc0_stg0_0 ↦{fullShare} xstF.view.write (Elt F) f (xsrc.view.read (Elt F) (xv m c)) Finset.univ : sProp 𝕄)
      = ((c : Thread nD τ).loc cc0_stg0_0 ↦{fullShare} xv m c) from congrArg (fun g => ((c : Thread nD τ).loc cc0_stg0_0 ↦{fullShare} g : sProp 𝕄))
        ((write_full cc0_stg0_0 (fun _ => 0) (fun _ => rfl) _ f _).trans (read_full main_arg0 xoff xoff_zero _ (xv m c)))))
    iexact Hd
  isplitl [Hs]; · iexact Hs
  isplitl [Hv] <;> iassumption

/-! ## The output's window -/

abbrev ostF : Memref sig .tc .vmem S8192x128 .f32 :=
  outM.slice (Rect.unit (s := S8192x128) (fun _ => 0) S8192x128.size (fun _ => (Nat.zero_add _).le)) (fun _ => rfl)
abbrev osem : DmaSem sig := spec0_2.sem 0
abbrev ooff : Fin 2 → ℕ := fun a => (cc0_transform_2 (grid0.coords (pt 7))) a * S8192x128.size a
theorem ooff_zero : ∀ a, ooff a = 0 := by decide
abbrev odst : Memref sig .tc .hbm S8192x128 .f32 :=
  (Memref.whole main_v11).slice (Rect.unit (s := S8192x128) ooff S8192x128.size (fun a => by rw [ooff_zero]; exact (Nat.zero_add _).le)) (fun _ => rfl)

theorem startO : ∃ h1 h2 h3,
    (cfgA (F := F) c).startOut (A := fun p => (pcfgs (F := F) p).Adm) 2 (pt 7) = (.enqueueDma ostF (.here odst) (.dma osem) h1 h2 h3 : PE F) := by
  have key : ∀ σ : Fin 1, σ = 0 → ∀ h1 h2 h3, ∃ g1 g2 g3,
      (.enqueueDma ((spec0_2.stage σ).slice (Rect.unit (s := S8192x128) (fun _ => 0) S8192x128.size (fun _ => (Nat.zero_add _).le)) (fun _ => rfl)) (.here odst) (.dma (spec0_2.sem σ)) h1 h2 h3 : PE F)
        = .enqueueDma ostF (.here odst) (.dma osem) g1 g2 g3 := by
    rintro _ rfl h1 h2 h3; exact ⟨h1, h2, h3, rfl⟩
  exact key ((cfgA (F := F) c).slots (pt 7) 2) (Subsingleton.elim (α := Fin 1) _ _) _ _ _
theorem waitO : ∃ h1 h2,
    (cfgA (F := F) c).waitOut (A := fun p => (pcfgs (F := F) p).Adm) 2 (pt 7) = (.waitDma2 osem ostF odst h1 h2 : PE F) := by
  have key : ∀ σ : Fin 1, σ = 0 → ∀ h1 h2, ∃ g1 g2,
      (.waitDma2 (spec0_2.sem σ) ((spec0_2.stage σ).slice (Rect.unit (s := S8192x128) (fun _ => 0) S8192x128.size (fun _ => (Nat.zero_add _).le)) (fun _ => rfl)) odst h1 h2 : PE F)
        = .waitDma2 osem ostF odst g1 g2 := by
    rintro _ rfl h1 h2; exact ⟨h1, h2, rfl⟩
  exact key ((cfgA (F := F) c).slots (pt 7) 2) (Subsingleton.elim (α := Fin 1) _ _)
    (((cfgA (F := F) c).win 2).wordExact_stg (pt 7) _) (((cfgA (F := F) c).win 2).wordExact_blk (pt 7))

theorem step_put (O : CellTallies nD τ sig Unit) (g : Vec F S8192x128 .f32) {Q : PUnit → sProp 𝕄} :
    iprop(((c : Thread nD τ).loc cc0_stg2_0 ↦{fullShare} g) ∗ (∃ f, (c : Thread nD τ).loc main_v11 ↦{fullShare} f) ∗ semVal ((c : Thread nD τ), .dma osem) 0
        ∗ ow c O ∗ MayWait (c : Thread nD τ) (.dma osem) () O)
      ⊢ iprop((iprop(((c : Thread nD τ).loc main_v11 ↦{fullShare} g) ∗ ((c : Thread nD τ).loc cc0_stg2_0 ↦{fullShare} g)
          ∗ semVal ((c : Thread nD τ), .dma osem) 0 ∗ ow c O) -∗ WpP c bd p Q)
        -∗ WpP c bd (putAt c p) Q) := by
  obtain ⟨h1, h2, h3, e⟩ := startO (F := F) c
  obtain ⟨h4, h5, e'⟩ := waitO (F := F) c
  unfold putAt
  rw [e, e']
  iintro ⟨Hs, ⟨%f, Hd⟩, Hv, HO, Hm⟩ Hk
  iapply (start_copy c bd ostF odst osem fullShare g f (View.dmaCredit_pos _ (by decide))) $$ [Hd Hs Hv]
  · isplitl [Hs]; · iexact Hs
    isplitl [Hd] <;> iassumption
  iintro HB
  iapply (wait_copy c bd ostF odst osem fullShare g f rfl O) $$ [HB HO Hm]
  · isplitl [HB]; · iexact HB
    isplitl [HO] <;> iassumption
  iintro ⟨Hd, Hs, Hv, HO⟩
  iapply Hk
  isplitl [Hd]
  · iapply (Entails.of_eq (show ((c : Thread nD τ).loc main_v11 ↦{fullShare} odst.view.write (Elt F) f (ostF.view.read (Elt F) g) Finset.univ : sProp 𝕄)
      = ((c : Thread nD τ).loc main_v11 ↦{fullShare} g) from congrArg (fun g => ((c : Thread nD τ).loc main_v11 ↦{fullShare} g : sProp 𝕄))
        ((write_full main_v11 ooff ooff_zero _ f _).trans (read_full cc0_stg2_0 (fun _ => 0) (fun _ => rfl) _ g))))
    iexact Hd
  isplitl [Hs]; · iexact Hs
  isplitl [Hv] <;> iassumption

end Cert.A2A

end
-- ==== Proof.Loop.lean ====
/-
  The pipeline's loop on one device, from its first fetch to the output's write-back.
-/
module

public import proofs.«01_k».proof.Proof.Windows

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : GSem nD τ sig → ℕ)

/-! ## The calls -/

/-- The bound on the calls still to come of iteration `ℓ`. -/
def bdAt (ℓ : ℕ) : Option (Variants.lift 𝒱₀).V := some (Sum.inr (10 - ℓ))

theorem step_again (c : Dev nD) (ℓ : ℕ) (hℓ : ℓ < 9) {Q : PUnit → sProp 𝕄} :
    WpP c (bdAt (ℓ + 1)) (iterA c (ℓ + 1)) Q ⊢ WpP c (bdAt ℓ) (again c (ℓ + 1)) Q := by
  unfold again
  refine BIBase.Entails.trans ?_ (wp_call (Variants.lift 𝒱₀) (c : Thread nD τ) (bdAt ℓ) Set.univ (Sum.inr (10 - (ℓ + 1)))
    (fun u hu => by cases hu; exact Sum.Lex.inr (show 10 - (ℓ + 1) < 10 - ℓ by omega)))
  refine wp_mono _ _ _ fun x => ?_
  rw [wp_ret]
  exact fupd_intro

theorem step_body (c : Dev nD) (ℓ : ℕ) (s : Fin 8) (σ : Fin 2) (hσ : σ.val = s.val % 2) (p : PG F) {Q : PUnit → sProp 𝕄}
    {h₁ : (Memref.whole main_v10 : Memref sig .tc .smem S8 .i32).IsWhole} {h₂ : xM.IsWhole} {h₃ : (wst σ).IsWhole} {h₄ : outM.IsWhole} {h₅ : xbM.IsWhole} {h₆ : yM.IsWhole} :
    Wp c (cc0_body (F := F) (grid0.coords (pt s)) (Memref.whole main_v10) h₁ xM h₂ (wst σ) h₃ outM h₄ xbM h₅ yM h₆ cc0_scratch2 cc0_scratch3) (fun _ => WpP c (bdAt ℓ) p Q)
      ⊢ WpP c (bdAt ℓ) (bodyAt c s p) Q := by
  unfold bodyAt
  refine BIBase.Entails.trans ?_ (wp_call (Variants.lift 𝒱₀) (c : Thread nD τ) (bdAt ℓ) Set.univ (Sum.inl none) (fun u hu => by cases hu; exact Sum.Lex.sep _ _))
  have key : ∀ (σ₀ : Fin 1) (_ : σ₀ = 0) (σ₁ : Fin 2) (_ : σ₁ = σ) (σ₂ : Fin 1) (_ : σ₂ = 0) (g₂ : (spec0_0.stage σ₀).IsWhole) (g₃ : (wst σ₁).IsWhole) (g₄ : (spec0_2.stage σ₂).IsWhole),
      cc0_body (F := F) (grid0.coords (pt s)) (Memref.whole main_v10) h₁ xM h₂ (wst σ) h₃ outM h₄ xbM h₅ yM h₆ cc0_scratch2 cc0_scratch3
        = cc0_body (F := F) (grid0.coords (pt s)) (Memref.whole main_v10) h₁ (spec0_0.stage σ₀) g₂ (wst σ₁) g₃ (spec0_2.stage σ₂) g₄ xbM h₅ yM h₆ cc0_scratch2 cc0_scratch3 := by
    rintro _ rfl _ rfl _ rfl _ _ _; rfl
  rw [key ((cfgA (F := F) c).slots (pt s) 0) (Subsingleton.elim (α := Fin 1) _ _) ((cfgA (F := F) c).slots (pt s) 1) (Fin.ext ((slot1 (F := F) c s.val s.isLt).trans hσ.symm))
    ((cfgA (F := F) c).slots (pt s) 2) (Subsingleton.elim (α := Fin 1) _ _) (hstage0_0 _) (hstage0_1 _) (hstage0_2 _)]
  exact Pipeline.wp_liftProg (Pipeline.defs (pcfgs (F := F)) (defs₀ (F := F))) (Pipeline.defs_kernel (pcfgs (F := F)) (defs₀ (F := F))) 𝒱₀ (c : Thread nD τ) Set.univ none _ _

/-! ## What is held between iterations -/

/-- The staging buffer of point `s`. -/
def sl (s : ℕ) : Fin 2 := ⟨s % 2, Nat.mod_lt _ (by decide)⟩
theorem sl_two (s : ℕ) : sl (s + 2) = sl s := Fin.ext (by show (s + 2) % 2 = s % 2; omega)

/-- The tiles not yet computed. -/
def tiles (c : Dev nD) (k : ℕ) : sProp 𝕄 := bigSep (Finset.univ.filter fun t : Fin 8 => k ≤ t.val) fun t => iprop(∃ f, sPts c t f)

omit [FloatOps F] in
theorem tiles_succ (c : Dev nD) (s : Fin 8) : (tiles c s.val : sProp 𝕄) = iprop((∃ f, sPts c s f) ∗ tiles c (s.val + 1)) := by
  unfold tiles
  have h : (Finset.univ.filter fun t : Fin 8 => s.val ≤ t.val) = insert s (Finset.univ.filter fun t : Fin 8 => s.val + 1 ≤ t.val) := by
    ext t
    simp only [Finset.mem_filter, Finset.mem_univ, true_and, Finset.mem_insert, Fin.ext_iff]
    omega
  rw [h, bigSep_insert (by simp)]
  rfl

/-- Before iteration `s + 1`: the table and `x` in the kernel's format, tile `s`'s weights on their way, the other
    staging buffer free, the tiles to come, and the transfers so far. -/
def St (c : Dev nD) (q : PosShare TreeShare) (s : Fin 8) : sProp 𝕄 :=
  iprop(tblPts (F := F) c q ∗ ((c : Thread nD τ).loc cc0_scratch0 ↦{fullShare} k0_pay2 (xv m c)) ∗ BUSYW m c (sl s.val) s ∗ FREE m c (sl (s.val + 1))
    ∗ tiles c s.val ∗ tick c (4 * s.val))

theorem mayWait_alone (c : Dev nD) (s : DmaSem sig) (hs : s.val < 4) (k : ℕ) :
    (levAts L lv : sProp 𝕄) ⊢ MayWait (c : Thread nD τ) (.dma s) () (oweR c k) := by
  have h := mayWait_stage (F := F) c s hs k 31
  rw [oweB_end, add_zero] at h
  exact h

theorem wsem_lt : ∀ σ : Fin 2, (wsem σ).val < 4 := by decide

/-- A staging buffer read is free again. -/
theorem free_again (c : Dev nD) (σ : Fin 2) (f : Buf (Elt F) ((wst σ).view.loc (c : Thread nD τ))) :
    iprop(((wst σ).view.loc (c : Thread nD τ) ↦{fullShare} f) ∗ RESTW m c σ) ⊢ FREE m c σ := by
  unfold RESTW FREE
  iintro ⟨Hd, Hs, Hv⟩
  isplitl [Hd]; · iexists f; iexact Hd
  isplitl [Hs] <;> iassumption

/-! ## The iterations -/

/-- The first two: the first fetches, the entry barrier, the first tile. -/
theorem loop_first (c : Dev nD) (q : PosShare TreeShare) {Q : PUnit → sProp 𝕄} :
    iprop(invs m κ ∗ levAts L lv ∗ tblPts (F := F) c q ∗ ((c : Thread nD τ).loc main_arg0 ↦{fullShare} xv m c)
        ∗ (∃ f, (c : Thread nD τ).loc cc0_stg0_0 ↦{fullShare} f) ∗ semVal ((c : Thread nD τ), .dma xsem) 0 ∗ FREE m c (sl 0) ∗ FREE m c (sl 1)
        ∗ (∃ f, (c : Thread nD τ).loc cc0_scratch0 ↦{fullShare} f) ∗ tiles c 0
        ∗ SIG c 0 ∗ cred (tallyAt (barCell c) () 31) ∗ atPos ER (barCell c) 0 ∅ 0 ∗ TOK c ∗ ow c (oweR c 0 + oweB c 0))
      ⊢ iprop((iprop(St m c q 1 ∗ ((c : Thread nD τ).loc main_arg0 ↦{fullShare} xv m c) ∗ ((c : Thread nD τ).loc cc0_stg0_0 ↦{fullShare} xv m c)
          ∗ semVal ((c : Thread nD τ), .dma xsem) 0 ∗ atPos ER (barCell c) 1 ∅ 0) -∗ WpP c (bdAt 2) (iterA c 2) Q)
        -∗ WpP c (bdAt 0) (iterA c 0) Q) := by
  rw [iter_start]
  iintro ⟨#HI, #Hlv, Ht, Hx, Hxs, Hxv, H0, H1, Hsc, Hti, HS, Hc, Hat, HT, HO⟩ Hk
  iapply (step_fetchW m c (bdAt 0) 0 (sl 0) rfl) $$ [H0]; · iexact H0
  iintro HB0
  iapply (step_again c 0 (by omega))
  rw [iter_first]
  iapply (step_fetchX m c (bdAt 1)) $$ [Hx Hxs Hxv]
  · isplitl [Hx]; · iexact Hx
    isplitl [Hxs] <;> iassumption
  iintro HBx
  iapply (step_fetchW m c (bdAt 1) 1 (sl 1) rfl) $$ [H1]; · iexact H1
  iintro HB1
  ihave Hm := (mayWait_stage (F := F) c xsem (by decide) 0 0) $$ Hlv
  iapply (step_gotX m c (bdAt 1) (oweR c 0 + oweB c 0)) $$ [HBx HO Hm]
  · isplitl [HBx]; · iexact HBx
    isplitl [HO] <;> iassumption
  iintro ⟨Hxs, Hx, Hxv, HO⟩
  ihave Hm := (mayWait_stage (F := F) c (wsem (sl 0)) (wsem_lt _) 0 0) $$ Hlv
  iapply (step_gotW m c (bdAt 1) 0 (sl 0) rfl (oweR c 0 + oweB c 0)) $$ [HB0 HO Hm]
  · isplitl [HB0]; · iexact HB0
    isplitl [HO] <;> iassumption
  iintro %f ⟨Hw, Hr, HO⟩
  iapply (step_body c 1 0 (sl 0) rfl (h₁ := Memref.isWhole_whole _) (h₂ := hstage0_0 0) (h₃ := hstage0_1 (sl 0)) (h₄ := hstage0_2 0) (h₅ := Memref.isWhole_whole _) (h₆ := Memref.isWhole_whole _))
  ihave Hti := (Entails.of_eq (show (tiles c 0 : sProp 𝕄) = iprop((∃ f, sPts c (0 : Fin 8) f) ∗ tiles c 1) from tiles_succ c 0)) $$ Hti
  icases Hti with ⟨Hs0, Hti⟩
  iapply (body_first m κ c 0 (grid0.coords (pt 0)) (pt_coord 0) q (wm := wst (sl 0)) (fw := gotV c (sl 0) f (wtile m c (grp c (0 : Fin 8).val))) (got_read c (sl 0) f _) rfl) $$ [Ht Hxs Hsc Hw Hs0 HS Hc Hat HT HO]
  · isplitr; · iexact HI
    isplitr; · iexact Hlv
    isplitl [Ht]; · iexact Ht
    isplitl [Hxs]; · iexact Hxs
    isplitl [Hsc]; · iexact Hsc
    isplitl [Hw]; · iexact Hw
    isplitl [Hs0]; · iexact Hs0
    isplitl [HS]; · iexact HS
    isplitl [Hc]; · iexact Hc
    isplitl [Hat]; · iexact Hat
    isplitl [HT] <;> iassumption
  unfold keepP
  iintro ⟨⟨Ht, Hsc, Hw⟩, ⟨Hxs, Hat⟩, Htk⟩
  iapply (step_again c 1 (by omega))
  iapply Hk
  isplitl [Ht Hsc Hw Hr HB1 Hti Htk]
  · unfold St
    isplitl [Ht]; · iexact Ht
    isplitl [Hsc]; · iexact Hsc
    isplitl [HB1]; · iexact HB1
    isplitl [Hw Hr]
    · iapply (free_again m c (sl 0) _)
      isplitl [Hw] <;> iassumption
    isplitl [Hti]; · iapply (show tiles c 1 ⊢ (tiles c (1 : Fin 8).val : sProp 𝕄) from .rfl); iexact Hti
    iapply (show tick c (4 * (0 : Fin 8).val + 4) ⊢ (tick c (4 * (1 : Fin 8).val) : sProp 𝕄) from .rfl); iexact Htk
  isplitl [Hx]; · iexact Hx
  isplitl [Hxs]; · iexact Hxs
  isplitl [Hxv] <;> iassumption

/-- One in between. -/
theorem loop_mid (c : Dev nD) (q : PosShare TreeShare) (s s' : Fin 8) (h0 : s.val ≠ 0) (hs : s'.val = s.val + 1) {Q : PUnit → sProp 𝕄} :
    iprop(invs m κ ∗ levAts L lv ∗ St m c q s)
      ⊢ iprop((St m c q s' -∗ WpP c (bdAt (s.val + 2)) (iterA c (s.val + 2)) Q) -∗ WpP c (bdAt (s.val + 1)) (iterA c (s.val + 1)) Q) := by
  have h7 : s.val < 7 := by have := s'.isLt; omega
  rw [iter_mid c s s' h0 hs]
  unfold St tick
  iintro ⟨#HI, #Hlv, Ht, Hsc, HB, H1, Hti, HS, HC, HO⟩ Hk
  iapply (step_fetchW m c (bdAt (s.val + 1)) s' (sl (s.val + 1)) (by rw [hs]; rfl)) $$ [H1]; · iexact H1
  iintro HB1
  ihave Hm := (mayWait_alone (F := F) c (wsem (sl s.val)) (wsem_lt _) (4 * s.val)) $$ Hlv
  iapply (step_gotW m c (bdAt (s.val + 1)) s (sl s.val) rfl (oweR c (4 * s.val))) $$ [HB HO Hm]
  · isplitl [HB]; · iexact HB
    isplitl [HO] <;> iassumption
  iintro %f ⟨Hw, Hr, HO⟩
  iapply (step_body c (s.val + 1) s (sl s.val) rfl (h₁ := Memref.isWhole_whole _) (h₂ := hstage0_0 0) (h₃ := hstage0_1 (sl s.val)) (h₄ := hstage0_2 0) (h₅ := Memref.isWhole_whole _) (h₆ := Memref.isWhole_whole _))
  ihave Hti := (Entails.of_eq (tiles_succ c s)) $$ Hti
  icases Hti with ⟨Hs0, Hti⟩
  iapply (body_mid m κ c s (grid0.coords (pt s)) (pt_coord s) q (wm := wst (sl s.val)) (fw := gotV c (sl s.val) f (wtile m c (grp c s.val))) (got_read c (sl s.val) f _) h0 h7) $$ [Ht Hsc Hw Hs0 HS HC HO]
  · isplitr; · iexact HI
    unfold keepP tick
    isplitl [Ht Hsc Hw]
    · isplitl [Ht]; · iexact Ht
      isplitl [Hsc] <;> iassumption
    isplitl [Hs0]; · iexact Hs0
    isplitl [HS]; · iexact HS
    isplitl [HC] <;> iassumption
  unfold keepP
  iintro ⟨⟨Ht, Hsc, Hw⟩, Htk⟩
  iapply (step_again c (s.val + 1) (by omega))
  iapply Hk
  isplitl [Ht]; · iexact Ht
  isplitl [Hsc]; · iexact Hsc
  rw [hs]
  isplitl [HB1]; · iexact HB1
  isplitl [Hw Hr]
  · rw [sl_two]
    iapply (free_again m c (sl s.val) _)
    isplitl [Hw] <;> iassumption
  isplitl [Hti]; · iexact Hti
  iapply (show tick c (4 * s.val + 4) ⊢ iprop(SND c (4 * (s.val + 1)) ∗ CRS c (4 * (s.val + 1)) ∗ ow c (oweR c (4 * (s.val + 1)))) from .rfl)
  iexact Htk

/-- All of them in between. -/
theorem loop_mids (c : Dev nD) (q : PosShare TreeShare) {Q : PUnit → sProp 𝕄} : ∀ (j : ℕ) (s : Fin 8), s.val ≠ 0 → s.val + j = 7 →
    iprop(invs m κ ∗ levAts L lv ∗ St m c q s)
      ⊢ iprop((St m c q 7 -∗ WpP c (bdAt 8) (iterA c 8) Q) -∗ WpP c (bdAt (s.val + 1)) (iterA c (s.val + 1)) Q) := by
  intro j
  induction j with
  | zero =>
    intro s h0 hj
    obtain rfl : s = 7 := Fin.ext hj
    iintro ⟨#HI, #Hlv, HS⟩ Hk
    iapply Hk; iexact HS
  | succ j ih =>
    intro s h0 hj
    have ih' := ih ⟨s.val + 1, by omega⟩ (Nat.succ_ne_zero _) (by show s.val + 1 + j = 7; omega)
    iintro ⟨#HI, #Hlv, HS⟩ Hk
    iapply (loop_mid m κ c q s ⟨s.val + 1, by omega⟩ h0 rfl) $$ [HS]
    · isplitr; · iexact HI
      isplitr; · iexact Hlv
      iexact HS
    iintro HS
    iapply ih' $$ [HS]
    · isplitr; · iexact HI
      isplitr; · iexact Hlv
      iexact HS
    iexact Hk

end Cert.A2A

end
-- ==== Proof.Last.lean ====
/-
  The last iteration: the drained blocks put back together, the output written back, the buffers free again.
-/
module

public import proofs.«01_k».proof.Proof.Loop

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : GSem nD τ sig → ℕ)

/-! ## The blocks put back together -/

/-- What the drains gave back, family by family. -/
theorem DN_end (c : Dev nD) : (DN m c 31 : sProp 𝕄)
    ⊢ iprop((bigSep (Finset.univ.erase c) (recvPay m c) ∗ bigSep (Finset.univ.erase c) fun j => atPos ER (recvCell c j) 1 ∅ 0)
      ∗ bigSep (Finset.univ.erase c) (sendPay m c) ∗ bigSep (Finset.univ.erase c) fun j => atPos ER (sendCell c j) 1 ∅ 0) := by
  unfold DN
  rw [← over_nth c (fun j => iprop((recvPay m c j ∗ atPos ER (recvCell c j) 1 ∅ 0) ∗ (sendPay m c j ∗ atPos ER (sendCell c j) 1 ∅ 0))),
    bigSep_sep' _ (fun j => iprop(recvPay m c j ∗ atPos ER (recvCell c j) 1 ∅ 0)) (fun j => iprop(sendPay m c j ∗ atPos ER (sendCell c j) 1 ∅ 0)),
    bigSep_sep' _ (fun j => recvPay m c j) (fun j => atPos ER (recvCell c j) 1 ∅ 0),
    bigSep_sep' _ (fun j => sendPay m c j) (fun j => atPos ER (sendCell c j) 1 ∅ 0)]

omit [FloatOps F] in
theorem out_own (c : Dev nD) (f : Vec F S8192x128 .f32) : ((((c : Thread nD τ).loc cc0_stg2_0) ↦{fullShare} f) : sProp 𝕄)
    = iprop(oPts c c f ∗ bigSep (Finset.univ.erase c) fun r => oPts c r f) := by
  rw [out_split, bigSep_erase (Finset.mem_univ c)]
  rfl

/-- The output block whole again. -/
theorem out_join (c : Dev nD) : iprop(oPts c c (ov m c) ∗ bigSep (Finset.univ.erase c) (recvPay m c))
    ⊢ (((c : Thread nD τ).loc cc0_stg2_0) ↦{fullShare} ov m c : sProp 𝕄) := by
  exact Entails.of_eq (out_own c (ov m c)).symm

/-- Each tile's quarter goes to one device. -/
theorem src_image : ∀ c : Dev nD, (Finset.univ : Finset (Fin 8 × Fin 4)) = Finset.univ.image fun j : Dev nD => (srcS c j, srcQ j) := by decide +kernel
theorem src_inj : ∀ c i j : Dev nD, (srcS c i, srcQ i) = (srcS c j, srcQ j) → i = j := by decide +kernel
theorem src_self : ∀ c : Dev nD, (srcS c c, srcQ c) = (7, qtr c 3) := by decide +kernel

theorem y_own (c : Dev nD) (f : Vec F S8x256x512 .f32) : ((((c : Thread nD τ).loc cc0_scratch1) ↦{fullShare} f) : sProp 𝕄)
    = iprop(yPts c 7 (qtr c 3) f ∗ bigSep (Finset.univ.erase c) fun j => yPts c (srcS c j) (srcQ j) f) := by
  have h1 : (bigSep Finset.univ fun s => sPts c s f : sProp 𝕄) = bigSep Finset.univ fun p : Fin 8 × Fin 4 => yPts c p.1 p.2 f := by
    rw [bigSep_univ_prod]
    exact bigSep_congr fun s _ => slab_split c s f
  rw [y_split, h1, src_image c, bigSep_image_of_injOn (fun i _ j _ h => src_inj c i j h), bigSep_erase (Finset.mem_univ c)]
  have e := src_self c
  have e1 : srcS c c = 7 := congrArg Prod.fst e
  have e2 : srcQ c = qtr c 3 := congrArg Prod.snd e
  rw [← e1, ← e2]
  rfl

/-- The tiles buffer whole again. -/
theorem y_join (c : Dev nD) : iprop(yPts c 7 (qtr c 3) (yv m c) ∗ bigSep (Finset.univ.erase c) (sendPay m c))
    ⊢ (((c : Thread nD τ).loc cc0_scratch1) ↦{fullShare} yv m c : sProp 𝕄) := by
  exact Entails.of_eq (y_own c (yv m c)).symm

/-- What the loop leaves on device `c`. -/
def END (c : Dev nD) (q : PosShare TreeShare) : sProp 𝕄 :=
  iprop(tblPts (F := F) c q ∗ (∃ f, (c : Thread nD τ).loc cc0_scratch0 ↦{fullShare} f) ∗ FREE m c (sl 0) ∗ FREE m c (sl 1)
    ∗ (∃ f, (c : Thread nD τ).loc cc0_scratch1 ↦{fullShare} f) ∗ (∃ f, (c : Thread nD τ).loc cc0_stg2_0 ↦{fullShare} f)
    ∗ ((c : Thread nD τ).loc main_v11 ↦{fullShare} ov m c) ∗ semVal ((c : Thread nD τ), .dma osem) 0
    ∗ (bigSep (Finset.univ.erase c) fun j => atPos ER (recvCell c j) 1 ∅ 0)
    ∗ (bigSep (Finset.univ.erase c) fun j => atPos ER (sendCell c j) 1 ∅ 0) ∗ ow c 0)

theorem mayWait_none (c : Dev nD) (s : DmaSem sig) (hs : s.val < 4) :
    (levAts L lv : sProp 𝕄) ⊢ MayWait (c : Thread nD τ) (.dma s) () 0 := by
  have h := mayWait_alone (F := F) c s hs 31
  rw [oweR_end] at h
  exact h

theorem step_iter (c : Dev nD) (ℓ : ℕ) (hℓ : ℓ = 9) {Q : PUnit → sProp 𝕄} :
    iprop(|={Set.univ}=> Q ⟨⟩) ⊢ WpP c (bdAt ℓ) (iterA c ℓ) Q := by
  subst hℓ
  rw [iter_end]
  show _ ⊢ wp frame _ _ _ _
  rw [wp_ret]

/-- The last iteration. -/
theorem loop_last (c : Dev nD) (q : PosShare TreeShare) {Q : PUnit → sProp 𝕄} :
    iprop(invs m κ ∗ levAts L lv ∗ St m c q 7 ∗ WT c ∗ (∃ f, oPts c c f) ∗ (∃ f, (c : Thread nD τ).loc main_v11 ↦{fullShare} f)
        ∗ semVal ((c : Thread nD τ), .dma osem) 0)
      ⊢ iprop((END m c q -∗ |={Set.univ}=> Q ⟨⟩) -∗ WpP c (bdAt 8) (iterA c 8) Q) := by
  rw [iter_last]
  unfold St tick
  iintro ⟨#HI, #Hlv, ⟨Ht, Hsc, HB, H1, Hti, HS, HC, HO⟩, HW, Ho, Hv, Hos⟩ Hk
  ihave Hm := (mayWait_alone (F := F) c (wsem (sl (7 : Fin 8).val)) (wsem_lt _) (4 * (7 : Fin 8).val)) $$ Hlv
  iapply (step_gotW m c (bdAt 8) 7 (sl (7 : Fin 8).val) rfl (oweR c (4 * (7 : Fin 8).val))) $$ [HB HO Hm]
  · isplitl [HB]; · iexact HB
    isplitl [HO] <;> iassumption
  iintro %f ⟨Hw, Hr, HO⟩
  iapply (step_body c 8 7 (sl (7 : Fin 8).val) rfl (h₁ := Memref.isWhole_whole _) (h₂ := hstage0_0 0) (h₃ := hstage0_1 (sl (7 : Fin 8).val)) (h₄ := hstage0_2 0) (h₅ := Memref.isWhole_whole _) (h₆ := Memref.isWhole_whole _))
  ihave Hti := (Entails.of_eq (tiles_succ c 7)) $$ Hti
  icases Hti with ⟨Hs0, -⟩
  iapply (body_last m κ c 7 (grid0.coords (pt 7)) (pt_coord 7) q (wm := wst (sl (7 : Fin 8).val)) (fw := gotV c (sl (7 : Fin 8).val) f (wtile m c (grp c (7 : Fin 8).val))) (got_read c (sl (7 : Fin 8).val) f _) rfl) $$ [Ht Hsc Hw Hs0 HS HC HO HW Ho]
  · isplitr; · iexact HI
    unfold keepP tick
    isplitl [Ht Hsc Hw]
    · isplitl [Ht]; · iexact Ht
      isplitl [Hsc] <;> iassumption
    isplitl [Hs0]; · iexact Hs0
    isplitl [HS HC HO]
    · isplitl [HS]; · iexact HS
      isplitl [HC] <;> iassumption
    isplitl [HW] <;> iassumption
  unfold keepP
  iintro ⟨⟨Ht, Hsc, Hw⟩, HD, Ho, Hy, HO⟩
  ihave HD := (DN_end m c) $$ HD
  icases HD with ⟨⟨HR, HRa⟩, HSp, HSa⟩
  ihave Ho := (out_join m c) $$ [Ho HR]; · isplitl [Ho] <;> iassumption
  ihave Hy := (y_join m c) $$ [Hy HSp]; · isplitl [Hy] <;> iassumption
  ihave Hm := (mayWait_none (F := F) c osem (by decide)) $$ Hlv
  iapply (step_put c (bdAt 8) 0 (ov m c)) $$ [Ho Hv Hos HO Hm]
  · isplitl [Ho]; · iexact Ho
    isplitl [Hv]; · iexact Hv
    isplitl [Hos]; · iexact Hos
    isplitl [HO] <;> iassumption
  iintro ⟨Hv, Ho, Hos, HO⟩
  iapply (step_again c 8 (by omega))
  iapply (step_iter c (8 + 1) rfl)
  iapply Hk
  unfold END
  isplitl [Ht]; · iexact Ht
  isplitl [Hsc]; · iexists _; iexact Hsc
  isplitl [H1]; · iapply (show FREE m c (sl ((7 : Fin 8).val + 1)) ⊢ FREE m c (sl 0) from .rfl); iexact H1
  isplitl [Hw Hr]
  · iapply (show FREE m c (sl (7 : Fin 8).val) ⊢ FREE m c (sl 1) from .rfl)
    iapply (free_again m c (sl (7 : Fin 8).val) _)
    isplitl [Hw] <;> iassumption
  isplitl [Hy]; · iexists _; iexact Hy
  isplitl [Ho]; · iexists _; iexact Ho
  isplitl [Hv]; · iexact Hv
  isplitl [Hos]; · iexact Hos
  isplitl [HRa]; · iexact HRa
  isplitl [HSa] <;> iassumption

end Cert.A2A

end
-- ==== Proof.Cells.lean ====
/-
  The kernel's region on one device: its scoped buffers and counters, the cells opened at its entry and closed at its
  exit, and the loop between.
-/
module

public import proofs.«01_k».proof.Proof.Last

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : GSem nD τ sig → ℕ)

/-! ## The region's buffers and counters -/

omit [FloatOps F] in
/-- The region's six buffers. -/
theorem bufs_split (c : Dev nD) : (scopedBufs (c : Thread nD τ) : sProp 𝕄)
    = iprop((∃ f, (c : Thread nD τ).loc cc0_stg0_0 ↦{fullShare} f) ∗ (∃ f, (c : Thread nD τ).loc cc0_stg1_0 ↦{fullShare} f)
      ∗ (∃ f, (c : Thread nD τ).loc cc0_stg1_1 ↦{fullShare} f) ∗ (∃ f, (c : Thread nD τ).loc cc0_stg2_0 ↦{fullShare} f)
      ∗ (∃ f, (c : Thread nD τ).loc cc0_scratch0 ↦{fullShare} f) ∗ (∃ f, (c : Thread nD τ).loc cc0_scratch1 ↦{fullShare} f)) :=
  (scopedBufs_tc c).trans (bigSep_eq_bigSepL_of_eq (M := 𝕄) (S := Finset.univ.filter fun b : Ref sig .tc => b.isScoped)
    (Φ := fun b => iprop(∃ f : Buf (Elt F) (Thread.loc (c, Proc.tc) b), Thread.loc (c, Proc.tc) b ↦{fullShare} f))
    [cc0_stg0_0, cc0_stg1_0, cc0_stg1_1, cc0_stg2_0, cc0_scratch0, cc0_scratch1] (by decide) (by decide))

theorem scoped_sems : (Finset.univ.filter fun sm : SemLoc sig => sm.isScoped .tc)
    = insert (.dma xsem) (insert (.dma (wsem 0)) (insert (.dma (wsem 1)) (insert (.dma osem)
      ((Finset.univ.image fun j : Dev nD => (.dma (sendS j) : SemLoc sig)) ∪ Finset.univ.image fun j : Dev nD => (.dma (recvS j) : SemLoc sig))))) := by
  decide +kernel

theorem fresh_x : (.dma xsem : SemLoc sig) ∉ insert (.dma (wsem 0)) (insert (.dma (wsem 1)) (insert (.dma osem)
      ((Finset.univ.image fun j : Dev nD => (.dma (sendS j) : SemLoc sig)) ∪ Finset.univ.image fun j : Dev nD => (.dma (recvS j) : SemLoc sig)))) := by
  decide +kernel
theorem fresh_w0 : (.dma (wsem 0) : SemLoc sig) ∉ insert (.dma (wsem 1)) (insert (.dma osem)
      ((Finset.univ.image fun j : Dev nD => (.dma (sendS j) : SemLoc sig)) ∪ Finset.univ.image fun j : Dev nD => (.dma (recvS j) : SemLoc sig))) := by
  decide +kernel
theorem fresh_w1 : (.dma (wsem 1) : SemLoc sig) ∉ insert (.dma osem)
      ((Finset.univ.image fun j : Dev nD => (.dma (sendS j) : SemLoc sig)) ∪ Finset.univ.image fun j : Dev nD => (.dma (recvS j) : SemLoc sig)) := by
  decide +kernel
theorem fresh_o : (.dma osem : SemLoc sig) ∉
      (Finset.univ.image fun j : Dev nD => (.dma (sendS j) : SemLoc sig)) ∪ Finset.univ.image fun j : Dev nD => (.dma (recvS j) : SemLoc sig) := by
  decide +kernel
theorem fresh_sr : Disjoint (Finset.univ.image fun j : Dev nD => (.dma (sendS j) : SemLoc sig)) (Finset.univ.image fun j : Dev nD => (.dma (recvS j) : SemLoc sig)) := by
  decide +kernel

omit [FloatOps F] in
/-- The region's counters at zero: the windows', then a send and a receive counter per device. -/
theorem sems_split (c : Dev nD) : (scopedSems0 (c : Thread nD τ) : sProp 𝕄)
    = iprop(semVal ((c : Thread nD τ), .dma xsem) 0 ∗ semVal ((c : Thread nD τ), .dma (wsem 0)) 0 ∗ semVal ((c : Thread nD τ), .dma (wsem 1)) 0
      ∗ semVal ((c : Thread nD τ), .dma osem) 0 ∗ (semVal (sendCell c c) 0 ∗ bigSep (Finset.univ.erase c) fun j => semVal (sendCell c j) 0)
      ∗ (semVal (recvCell c c) 0 ∗ bigSep (Finset.univ.erase c) fun j => semVal (recvCell c j) 0)) := by
  have hs : Set.InjOn (fun j : Dev nD => (.dma (sendS j) : SemLoc sig)) (Finset.univ : Finset (Dev nD)) := fun i _ j _ h => send_inj (SemLoc.dma.inj h)
  have hr : Set.InjOn (fun j : Dev nD => (.dma (recvS j) : SemLoc sig)) (Finset.univ : Finset (Dev nD)) := fun i _ j _ h => recv_inj (SemLoc.dma.inj h)
  refine (scopedSems0_tc c).trans ?_
  rw [scoped_sems, bigSep_insert fresh_x, bigSep_insert fresh_w0, bigSep_insert fresh_w1, bigSep_insert fresh_o, bigSep_union fresh_sr,
    bigSep_image_of_injOn hs, bigSep_image_of_injOn hr, bigSep_erase (Finset.mem_univ c), bigSep_erase (Finset.mem_univ c)]
  rfl

/-! ## The cells of one device -/

theorem ne_of_erase {c j : Dev nD} (h : j ∈ Finset.univ.erase c) : c ≠ j := fun e => (Finset.mem_erase.mp h).1 e.symm

/-- The cells opened at the region's entry. -/
theorem open_recv (c : Dev nD) : iprop(invs m κ ∗ (bigSep (Finset.univ.erase c) fun j => openTok ER (recvCell c j))
      ∗ bigSep (Finset.univ.erase c) fun j => semVal (recvCell c j) 0)
    ⊢ (|={Set.univ}=> bigSep (Finset.univ.erase c) fun j => iprop(atPos ER (recvCell c j) 0 ∅ 0 ∗ reached ER (recvCell c j) 0) : sProp 𝕄) := by
  refine BIBase.Entails.trans ?_ (cells_open ER (sched m) (Finset.univ.erase c) (fun j => recvCell c j) (fun j => κ (recvCell c j)) fun _ _ => Set.mem_univ _)
  rw [bigSep_sep' _ (fun j => cellInv ER (sched m) (κ (recvCell c j)) (recvCell c j)) (fun j => openTok ER (recvCell c j))]
  iintro ⟨#HI, HT, HV⟩
  isplitl [HT]
  · isplitr; · iapply (bigSep_intro_persistent (R := invs m κ) fun j hj => inv_recv m κ (ne_of_erase hj)); iexact HI
    iexact HT
  iexact HV
theorem open_send (c : Dev nD) : iprop(invs m κ ∗ (bigSep (Finset.univ.erase c) fun j => openTok ER (sendCell c j))
      ∗ bigSep (Finset.univ.erase c) fun j => semVal (sendCell c j) 0)
    ⊢ (|={Set.univ}=> bigSep (Finset.univ.erase c) fun j => iprop(atPos ER (sendCell c j) 0 ∅ 0 ∗ reached ER (sendCell c j) 0) : sProp 𝕄) := by
  refine BIBase.Entails.trans ?_ (cells_open ER (sched m) (Finset.univ.erase c) (fun j => sendCell c j) (fun j => κ (sendCell c j)) fun _ _ => Set.mem_univ _)
  rw [bigSep_sep' _ (fun j => cellInv ER (sched m) (κ (sendCell c j)) (sendCell c j)) (fun j => openTok ER (sendCell c j))]
  iintro ⟨#HI, HT, HV⟩
  isplitl [HT]
  · isplitr; · iapply (bigSep_intro_persistent (R := invs m κ) fun j hj => inv_send m κ (ne_of_erase hj)); iexact HI
    iexact HT
  iexact HV

/-- The cells closed at its exit. -/
theorem close_recv (c : Dev nD) : iprop(invs m κ ∗ bigSep (Finset.univ.erase c) fun j => atPos ER (recvCell c j) 1 ∅ 0)
    ⊢ (|={Set.univ}=> bigSep (Finset.univ.erase c) fun j => semVal (recvCell c j) 0 : sProp 𝕄) := by
  refine BIBase.Entails.trans ?_ (cells_close ER (sched m) (Finset.univ.erase c) (fun j => recvCell c j) (fun j => κ (recvCell c j)) (fun _ _ => Set.mem_univ _)
    (fun _ _ => id) (fun _ => 1) fun j _ => duties_later m (recvCell c j))
  rw [bigSep_sep' _ (fun j => cellInv ER (sched m) (κ (recvCell c j)) (recvCell c j)) (fun j => atPos ER (recvCell c j) 1 ∅ 0)]
  iintro ⟨#HI, HT⟩
  isplitr; · iapply (bigSep_intro_persistent (R := invs m κ) fun j hj => inv_recv m κ (ne_of_erase hj)); iexact HI
  iexact HT
theorem close_send (c : Dev nD) : iprop(invs m κ ∗ bigSep (Finset.univ.erase c) fun j => atPos ER (sendCell c j) 1 ∅ 0)
    ⊢ (|={Set.univ}=> bigSep (Finset.univ.erase c) fun j => semVal (sendCell c j) 0 : sProp 𝕄) := by
  refine BIBase.Entails.trans ?_ (cells_close ER (sched m) (Finset.univ.erase c) (fun j => sendCell c j) (fun j => κ (sendCell c j)) (fun _ _ => Set.mem_univ _)
    (fun _ _ => id) (fun _ => 1) fun j _ => duties_later m (sendCell c j))
  rw [bigSep_sep' _ (fun j => cellInv ER (sched m) (κ (sendCell c j)) (sendCell c j)) (fun j => atPos ER (sendCell c j) 1 ∅ 0)]
  iintro ⟨#HI, HT⟩
  isplitr; · iapply (bigSep_intro_persistent (R := invs m κ) fun j hj => inv_send m κ (ne_of_erase hj)); iexact HI
  iexact HT
/-- A barrier cell closed. -/
theorem close_bar (c : Dev nD) : iprop(invs m κ ∗ atPos ER (barCell c) 1 ∅ 0) ⊢ (|={Set.univ}=> semVal (barCell c) 0 : sProp 𝕄) := by
  refine BIBase.Entails.trans ?_ (cell_close ER (sched m) (Set.mem_univ (κ (barCell c))) id (duties_later m (barCell c)))
  iintro ⟨#HI, HT⟩
  isplitr; · iapply (inv_bar m κ c); iexact HI
  iexact HT

/-- Device `c`'s ghost state at the region's entry: its barrier cell's position, its own counters still to open, the
    duties it discharges on the other devices, the credits it is owed, and what it owes. -/
def GH (c : Dev nD) : sProp 𝕄 :=
  iprop(atPos ER (barCell c) 0 ∅ 0
    ∗ ((bigSep (Finset.univ.erase c) fun j => openTok ER (recvCell c j)) ∗ bigSep (Finset.univ.erase c) fun j => openTok ER (sendCell c j))
    ∗ ((bigSep (Finset.univ.erase c) fun j => dutyTok ER (barCell j) 0 c) ∗ (bigSep (Finset.univ.erase c) fun j => dutyTok ER (recvCell j c) 0 c)
      ∗ bigSep (Finset.univ.erase c) fun j => dutyTok ER (sendCell c j) 0 j)
    ∗ cred (tallyAt (barCell c) () 31) ∗ (bigSep (Finset.univ.erase c) fun j => cred (tallyAt (recvCell c j) () N))
    ∗ ow c (O₀ c))

omit [FloatOps F] in
theorem make_SIG (c : Dev nD) : iprop((bigSep (Finset.univ.erase c) fun j => dutyTok ER (barCell j) 0 c)
      ∗ (bigSep (Finset.univ.erase c) fun r => iprop(∃ f, oPts c r f)) ∗ bigSep (Finset.univ.erase c) fun j => reached ER (recvCell c j) 0)
    ⊢ (SIG c 0 : sProp 𝕄) := by
  unfold SIG barPay
  rw [← Finset.range_eq_Ico, ← over_nth c (fun j => iprop(dutyTok ER (barCell j) 0 c ∗ ((∃ f, oPts c j f) ∗ reached ER (recvCell c j) 0))),
    bigSep_sep' _ (fun j => dutyTok ER (barCell j) 0 c) (fun j => iprop((∃ f, oPts c j f) ∗ reached ER (recvCell c j) 0)),
    bigSep_sep' _ (fun j => iprop(∃ f, oPts c j f)) (fun j => reached ER (recvCell c j) 0)]

omit [FloatOps F] in
theorem make_TOK (c : Dev nD) : iprop((bigSep (Finset.univ.erase c) fun j => dutyTok ER (sendCell c j) 0 j)
      ∗ (bigSep (Finset.univ.erase c) fun j => reached ER (sendCell c j) 0) ∗ bigSep (Finset.univ.erase c) fun j => dutyTok ER (recvCell j c) 0 c)
    ⊢ (TOK c : sProp 𝕄) := by
  unfold TOK
  rw [← Finset.range_eq_Ico, ← over_tgt c (fun j => iprop(dutyTok ER (sendCell c j) 0 j ∗ reached ER (sendCell c j) 0 ∗ dutyTok ER (recvCell j c) 0 c)),
    bigSep_sep' _ (fun j => dutyTok ER (sendCell c j) 0 j) (fun j => iprop(reached ER (sendCell c j) 0 ∗ dutyTok ER (recvCell j c) 0 c)),
    bigSep_sep' _ (fun j => reached ER (sendCell c j) 0) (fun j => dutyTok ER (recvCell j c) 0 c)]

omit [FloatOps F] in
theorem make_WT (c : Dev nD) : iprop((bigSep (Finset.univ.erase c) fun j => cred (tallyAt (recvCell c j) () N))
      ∗ (bigSep (Finset.univ.erase c) fun j => atPos ER (recvCell c j) 0 ∅ 0) ∗ bigSep (Finset.univ.erase c) fun j => atPos ER (sendCell c j) 0 ∅ 0)
    ⊢ (WT c : sProp 𝕄) := by
  unfold WT
  rw [bigSep_sep' _ (fun j => cred (tallyAt (recvCell c j) () N)) (fun j => atPos ER (recvCell c j) 0 ∅ 0)]
  iintro ⟨H1, H2, H3⟩
  isplitl [H1 H2]
  · isplitl [H1] <;> iassumption
  iexact H3

omit [FloatOps F] in
theorem make_rows (c : Dev nD) : iprop(∃ f, (c : Thread nD τ).loc cc0_stg2_0 ↦{fullShare} f)
    ⊢ (iprop((∃ f, oPts c c f) ∗ bigSep (Finset.univ.erase c) fun r => iprop(∃ f, oPts c r f)) : sProp 𝕄) := by
  iintro ⟨%f, H⟩
  ihave H := (Entails.of_eq (out_own c f)) $$ H
  icases H with ⟨H1, H2⟩
  isplitl [H1]; · iexists f; iexact H1
  iapply (show (bigSep (Finset.univ.erase c) (fun r => oPts c r f) : sProp 𝕄) ⊢ bigSep (Finset.univ.erase c) (fun r => iprop(∃ f, oPts c r f)) from
    bigSep_mono fun r _ => exists_intro (Φ := fun f => oPts c r f) f)
  iexact H2

omit [FloatOps F] in
theorem make_tiles (c : Dev nD) : iprop(∃ f, (c : Thread nD τ).loc cc0_scratch1 ↦{fullShare} f) ⊢ (tiles c 0 : sProp 𝕄) := by
  unfold tiles
  rw [Finset.filter_true_of_mem fun t _ => Nat.zero_le _]
  iintro ⟨%f, H⟩
  ihave H := (Entails.of_eq (y_split c f)) $$ H
  iapply (show (bigSep Finset.univ (fun t : Fin 8 => sPts c t f) : sProp 𝕄) ⊢ bigSep Finset.univ (fun t : Fin 8 => iprop(∃ f, sPts c t f)) from
    bigSep_mono fun t _ => exists_intro (Φ := fun f => sPts c t f) f)
  iexact H

theorem w_halves (c : Dev nD) : (((c : Thread nD τ).loc main_arg1 ↦{fullShare} wv m c) : sProp 𝕄)
    ⊣⊢ iprop(((c : Thread nD τ).loc main_arg1 ↦{half 0} wv m c) ∗ ((c : Thread nD τ).loc main_arg1 ↦{half 1} wv m c)) :=
  pointsTo_share (PosShare.mem_left_op_right fullShare)

end Cert.A2A

end
-- ==== Proof.Region.lean ====
/-
  The kernel's region on one device, from its call to its exit.
-/
module

public import proofs.«01_k».proof.Proof.Cells

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : GSem nD τ sig → ℕ)

/-- The whole loop. -/
theorem loop_all (c : Dev nD) {Q : PUnit → sProp 𝕄} :
    iprop(invs m κ ∗ levAts L lv
        ∗ (tblPts (F := F) c fullShare ∗ ((c : Thread nD τ).loc main_arg0 ↦{fullShare} xv m c)
          ∗ (∃ f, (c : Thread nD τ).loc cc0_stg0_0 ↦{fullShare} f) ∗ semVal ((c : Thread nD τ), .dma xsem) 0 ∗ FREE m c (sl 0) ∗ FREE m c (sl 1)
          ∗ (∃ f, (c : Thread nD τ).loc cc0_scratch0 ↦{fullShare} f) ∗ tiles c 0
          ∗ SIG c 0 ∗ cred (tallyAt (barCell c) () 31) ∗ atPos ER (barCell c) 0 ∅ 0 ∗ TOK c ∗ ow c (oweR c 0 + oweB c 0))
        ∗ WT c ∗ (∃ f, oPts c c f) ∗ (∃ f, (c : Thread nD τ).loc main_v11 ↦{fullShare} f) ∗ semVal ((c : Thread nD τ), .dma osem) 0)
      ⊢ iprop((iprop(END m c fullShare ∗ ((c : Thread nD τ).loc main_arg0 ↦{fullShare} xv m c) ∗ ((c : Thread nD τ).loc cc0_stg0_0 ↦{fullShare} xv m c)
          ∗ semVal ((c : Thread nD τ), .dma xsem) 0 ∗ atPos ER (barCell c) 1 ∅ 0) -∗ |={Set.univ}=> Q ⟨⟩) -∗ WpP c (bdAt 0) (iterA c 0) Q) := by
  iintro ⟨#HI, #Hlv, H, HW, Ho, Hv, Hos⟩ Hk
  iapply (loop_first m κ c fullShare) $$ [H]
  · isplitr; · iexact HI
    isplitr; · iexact Hlv
    iexact H
  iintro ⟨HS, Hx, Hxs, Hxv, Hat⟩
  iapply (loop_mids m κ c fullShare 6 1 (by decide) rfl) $$ [HS]
  · isplitr; · iexact HI
    isplitr; · iexact Hlv
    iexact HS
  iintro HS
  iapply (loop_last m κ c fullShare) $$ [HS HW Ho Hv Hos]
  · isplitr; · iexact HI
    isplitr; · iexact Hlv
    isplitl [HS]; · iexact HS
    isplitl [HW]; · iexact HW
    isplitl [Ho]; · iexact Ho
    isplitl [Hv] <;> iassumption
  iintro HE
  iapply Hk
  isplitl [HE]; · iexact HE
  isplitl [Hx]; · iexact Hx
  isplitl [Hxs]; · iexact Hxs
  isplitl [Hxv] <;> iassumption

/-- The call's entry: the table read, the loop called. -/
theorem enter (c : Dev nD) {Q : PUnit → sProp 𝕄} :
    (tblPts (F := F) c fullShare) ⊢ iprop((tblPts (F := F) c fullShare -∗ WpP c (bdAt 0) (iterA c 0) Q)
      -∗ WpP c (some (Sum.inr 11)) (Pipeline.prun (pcfgs (F := F)) 0) Q) := by
  iintro Ht Hk
  unfold Pipeline.prun
  ihave Hp := (Entails.of_eq (show (tblPts (F := F) c fullShare : sProp 𝕄) = Pipeline.prefHeld pre0 c (fun _ => fullShare) (tbl c) from by
    unfold Pipeline.prefHeld tblPts
    exact (bigSep_singleton (Φ := fun k : Fin 1 => (((c : Thread nD τ).loc (pre0.ref k)) ↦{fullShare} tbl (F := F) c k : sProp 𝕄)) (i := 0)).symm)) $$ Ht
  iapply (Pipeline.Prefetch.wp_readAll (Variants.lift 𝒱₀) (some (Sum.inr 11)) Set.univ pre0 c (fun _ => fullShare) (tbl c) _) $$ Hp
  iintro Hp
  ihave Ht := (Entails.of_eq (show (tblPts (F := F) c fullShare : sProp 𝕄) = Pipeline.prefHeld pre0 c (fun _ => fullShare) (tbl c) from by
    unfold Pipeline.prefHeld tblPts
    exact (bigSep_singleton (Φ := fun k : Fin 1 => (((c : Thread nD τ).loc (pre0.ref k)) ↦{fullShare} tbl (F := F) c k : sProp 𝕄)) (i := 0)).symm).symm) $$ Hp
  iapply (wp_assume (Variants.lift 𝒱₀) (c : Thread nD τ) (some (Sum.inr 11)) Set.univ (adm (F := F) c).2)
  have hN : (cfgA (F := F) c).N = 8 := N_0
  have e : (cfgA (F := F) c).runAt (0 : Fin 1) (adm (F := F) c) = again (F := F) c 0 := by
    unfold Pipeline.Cfg.runAt again
    rw [if_neg (by rw [hN]; decide), dif_neg (by rw [hN]; decide)]
  iapply (show WpP c (some (Sum.inr 11)) (again c 0) Q ⊢ WpP c (some (Sum.inr 11)) ((cfgA (F := F) c).runAt (0 : Fin 1) (adm (F := F) c)) Q from by rw [e])
  unfold again
  iapply (wp_call (Variants.lift 𝒱₀) (c : Thread nD τ) (some (Sum.inr 11)) Set.univ (Sum.inr 10)
    (fun u hu => by cases hu; exact Sum.Lex.inr (show 10 < 11 by omega)))
  iapply (show WpP c (bdAt 0) (iterA c 0) Q ⊢ _ from wp_mono _ _ _ fun x => by rw [wp_ret]; exact fupd_intro)
  iapply Hk
  iexact Ht

end Cert.A2A

end
-- ==== Proof.Call.lean ====
/-
  The kernel's call as an item of the program's run: from its arrays and the region's boundary back to both, its result
  written.
-/
module

public import proofs.«01_k».proof.Proof.Region

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : GSem nD τ sig → ℕ)

/-- A program of the whole machine on device `c`. -/
abbrev WpH (c : Dev nD) {β : Type} (p : Prog (TpuEff nD τ sig (Elt F) (Pipeline.Sig Λ₀ (Fin 1) fun p => (pcfgs (F := F) p).Adm) .tc) β) (K : β → sProp 𝕄) : sProp 𝕄 :=
  wp frame (wpE (Pipeline.defs (pcfgs (F := F)) (defs₀ (F := F))) (Variants.lift 𝒱₀) (c : Thread nD τ) none) Set.univ p K

/-- The four arrays the call works on, the result's at `g`. -/
def ARR (c : Dev nD) (g : Vec F S8192x128 .f32) : sProp 𝕄 :=
  iprop(((c : Thread nD τ).loc main_arg0 ↦{fullShare} xv m c) ∗ ((c : Thread nD τ).loc main_arg1 ↦{fullShare} wv m c)
    ∗ ((c : Thread nD τ).loc main_v10 ↦{fullShare} tblv (F := F) c) ∗ ((c : Thread nD τ).loc main_v11 ↦{fullShare} g))

/-- What is left of the loop: the region's buffers and the result, -/
theorem end_bufs (c : Dev nD) : iprop(END m c fullShare ∗ ((c : Thread nD τ).loc main_arg0 ↦{fullShare} xv m c)
      ∗ ((c : Thread nD τ).loc cc0_stg0_0 ↦{fullShare} xv m c))
    ⊢ iprop(scopedBufs (c : Thread nD τ) ∗ ARR m c (ov m c)
      ∗ (semVal ((c : Thread nD τ), .dma (wsem 0)) 0 ∗ semVal ((c : Thread nD τ), .dma (wsem 1)) 0 ∗ semVal ((c : Thread nD τ), .dma osem) 0)
      ∗ ((bigSep (Finset.univ.erase c) fun j => atPos ER (recvCell c j) 1 ∅ 0) ∗ bigSep (Finset.univ.erase c) fun j => atPos ER (sendCell c j) 1 ∅ 0)
      ∗ ow c 0) := by
  rw [bufs_split]
  unfold END FREE ARR tblPts
  iintro ⟨⟨Ht, Hsc, ⟨H0, Hw0, Hv0⟩, ⟨H1, Hw1, Hv1⟩, Hy, Ho, Hv, Hos, HR, HS, HO⟩, Hx, Hxs⟩
  isplitl [Hxs H0 H1 Ho Hsc Hy]
  · isplitl [Hxs]; · iexists _; iexact Hxs
    isplitl [H0]; · iexact H0
    isplitl [H1]; · iexact H1
    isplitl [Ho]; · iexact Ho
    isplitl [Hsc] <;> iassumption
  isplitl [Hx Ht Hw0 Hw1 Hv]
  · isplitl [Hx]; · iexact Hx
    isplitl [Hw0 Hw1]
    · iapply (w_halves m c).2
      isplitl [Hw0]; · iexact Hw0
      iexact Hw1
    isplitl [Ht] <;> iassumption
  isplitl [Hv0 Hv1 Hos]
  · isplitl [Hv0]; · iexact Hv0
    isplitl [Hv1]; · iexact Hv1
    iexact Hos
  isplitl [HR HS]
  · isplitl [HR] <;> iassumption
  iexact HO

/-- The call. -/
theorem region_run (c : Dev nD) {β : Type} (k : PUnit → Prog (TpuEff nD τ sig (Elt F) (Pipeline.Sig Λ₀ (Fin 1) fun p => (pcfgs (F := F) p).Adm) .tc) β) (K : β → sProp 𝕄) :
    iprop(invs m κ ∗ levAts L lv ∗ boundary (c : Thread nD τ) ∗ (∃ g, ARR m c g) ∗ GH c)
      ⊢ iprop((iprop(boundary (c : Thread nD τ) ∗ ARR m c (ov m c) ∗ atPos ER (barCell c) 1 ∅ 0 ∗ ow c 0) -∗ WpH c (k ⟨⟩) K)
        -∗ WpH c (.op (.customCall (Pipeline.entry 0) ()) k) K) := by
  unfold boundary GH
  rw [sems_split]
  iintro ⟨#HI, #Hlv, ⟨Hsb, ⟨Hxv, Hv0, Hv1, Hos, ⟨Hsself, Hsv⟩, ⟨Hrself, Hrv⟩⟩, Hid⟩, ⟨%g, HA⟩, ⟨Hat, ⟨HoR, HoS⟩, ⟨HdB, HdR, HdS⟩, HcB, HcR, HO⟩⟩ Hk
  imod (open_recv m κ c) $$ [HoR Hrv] with HR
  · isplitr; · iexact HI
    isplitl [HoR] <;> iassumption
  imod (open_send m κ c) $$ [HoS Hsv] with HS
  · isplitr; · iexact HI
    isplitl [HoS] <;> iassumption
  ihave HR := (Entails.of_eq (bigSep_sep' _ (fun j => atPos ER (recvCell c j) 0 ∅ 0) (fun j => reached ER (recvCell c j) 0))) $$ HR
  ihave HS := (Entails.of_eq (bigSep_sep' _ (fun j => atPos ER (sendCell c j) 0 ∅ 0) (fun j => reached ER (sendCell c j) 0))) $$ HS
  icases HR with ⟨HRa, HRr⟩
  icases HS with ⟨HSa, HSr⟩
  unfold ARR
  icases HA with ⟨Hx, Hw, Ht, Hv⟩
  ihave Hw := (w_halves m c).1 $$ Hw
  icases Hw with ⟨Hw0, Hw1⟩
  iapply (wp_customCall (Variants.lift 𝒱₀) (c : Thread nD τ) none Set.univ (ℓ := Pipeline.entry 0) (a := ()) (k := k) (Q := K) (Sum.inr 11) (fun u hu => by cases hu)) $$ Hsb
  iintro Hsb
  ihave Hsb := (Entails.of_eq (bufs_split c)) $$ Hsb
  icases Hsb with ⟨Hxs, H0, H1, Ho, Hsc, Hy⟩
  ihave Hti := (make_tiles c) $$ Hy
  ihave Ho := (make_rows c) $$ Ho
  icases Ho with ⟨Hoc, Hor⟩
  ihave HSIG := (make_SIG c) $$ [HdB Hor HRr]
  · isplitl [HdB]; · iexact HdB
    isplitl [Hor] <;> iassumption
  ihave HTOK := (make_TOK c) $$ [HdS HSr HdR]
  · isplitl [HdS]; · iexact HdS
    isplitl [HSr] <;> iassumption
  ihave HWT := (make_WT c) $$ [HcR HRa HSa]
  · isplitl [HcR]; · iexact HcR
    isplitl [HRa] <;> iassumption
  rw [Pipeline.defs_tc_entry]
  iapply (enter c) $$ [Ht]
  · unfold tblPts; iexact Ht
  iintro Ht
  iapply (loop_all m κ c) $$ [Ht Hx Hxs Hxv H0 H1 Hw0 Hw1 Hv0 Hv1 Hsc Hti HSIG HcB Hat HTOK HO HWT Hoc Hv Hos]
  · isplitr; · iexact HI
    isplitr; · iexact Hlv
    isplitl [Ht Hx Hxs Hxv H0 H1 Hw0 Hw1 Hv0 Hv1 Hsc Hti HSIG HcB Hat HTOK HO]
    · isplitl [Ht]; · iexact Ht
      isplitl [Hx]; · iexact Hx
      isplitl [Hxs]; · iexact Hxs
      isplitl [Hxv]; · iexact Hxv
      isplitl [H0 Hw0 Hv0]
      · unfold FREE
        isplitl [H0]; · iexact H0
        isplitl [Hw0]; · iexact Hw0
        iexact Hv0
      isplitl [H1 Hw1 Hv1]
      · unfold FREE
        isplitl [H1]; · iexact H1
        isplitl [Hw1]; · iexact Hw1
        iexact Hv1
      isplitl [Hsc]; · iexact Hsc
      isplitl [Hti]; · iexact Hti
      isplitl [HSIG]; · iexact HSIG
      isplitl [HcB]; · iexact HcB
      isplitl [Hat]; · iexact Hat
      isplitl [HTOK]; · iexact HTOK
      iexact HO
    isplitl [HWT]; · iexact HWT
    isplitl [Hoc]; · iexact Hoc
    isplitl [Hv]; · iexists g; iexact Hv
    iexact Hos
  iintro ⟨HE, Hx, Hxs, Hxv, Hat⟩
  ihave HE := (end_bufs m c) $$ [HE Hx Hxs]
  · isplitl [HE]; · iexact HE
    isplitl [Hx] <;> iassumption
  icases HE with ⟨Hsb, HA, ⟨Hv0, Hv1, Hos⟩, ⟨HR, HS⟩, HO⟩
  imod (close_recv m κ c) $$ [HR] with HR
  · isplitr; · iexact HI
    iexact HR
  imod (close_send m κ c) $$ [HS] with HS
  · isplitr; · iexact HI
    iexact HS
  rw [kernelExitSpec_apply, sems_split]
  imodintro
  isplitl [Hxv Hv0 Hv1 Hos HS HR Hsself Hrself]
  · isplitl [Hxv]; · iexact Hxv
    isplitl [Hv0]; · iexact Hv0
    isplitl [Hv1]; · iexact Hv1
    isplitl [Hos]; · iexact Hos
    isplitl [Hsself HS]
    · isplitl [Hsself] <;> iassumption
    isplitl [Hrself] <;> iassumption
  iintro Hss
  isplitl [Hsb]; · iexact Hsb
  iintro Hsb
  iapply Hk
  isplitl [Hsb Hss Hid]
  · isplitl [Hsb]; · iexact Hsb
    isplitl [Hss] <;> iassumption
  unfold ARR
  isplitl [HA]; · iexact HA
  isplitl [Hat] <;> iassumption

end Cert.A2A

end
-- ==== Proof.Launch.lean ====
/-
  What the launch hands out: the credits each device is owed, the protocol's tokens, and each device's state before the run.
-/
module

public import proofs.«01_k».proof.Proof.Call

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : GSem nD τ sig → ℕ)

/-! ## Credits -/

theorem cell_dev {c d : Dev nD} {x y : SemLoc sig} (h : (((c : Thread nD τ), x) : GSem nD τ sig) = ((d : Thread nD τ), y)) : c = d :=
  congrArg (fun g : GSem nD τ sig => g.1.1) h
theorem recv_cell_inj {c d i j : Dev nD} (h : recvCell c i = recvCell d j) : c = d ∧ i = j :=
  ⟨cell_dev h, recv_inj (SemLoc.dma.inj (congrArg Prod.snd h))⟩
theorem send_cell_inj {c d i j : Dev nD} (h : sendCell c i = sendCell d j) : c = d ∧ i = j :=
  ⟨cell_dev h, send_inj (SemLoc.dma.inj (congrArg Prod.snd h))⟩

theorem oweR_all (d : Dev nD) : oweR d 0 = ∑ e ∈ Finset.univ.erase d, tallyAt (recvCell e d) () N := by
  unfold oweR; rw [← Finset.range_eq_Ico, ← image_tgt d, Finset.sum_image (inj_tgt d)]
theorem oweB_all (d : Dev nD) : oweB d 0 = ∑ e ∈ Finset.univ.erase d, tallyAt (barCell e) () 1 := by
  unfold oweB; rw [← Finset.range_eq_Ico, ← image_nth d, Finset.sum_image (inj_nth d)]

/-- Device `d` owes each other device's barrier cell one unit, -/
theorem owe_bar (d c : Dev nD) : O₀ d (barCell c) () = if d ∈ Finset.univ.erase c then 1 else 0 := by
  unfold O₀
  rw [oweR_all, oweB_all, Pi.add_apply, Finsupp.add_apply, Finset.sum_apply, Finsupp.finset_sum_apply, Finset.sum_apply, Finsupp.finset_sum_apply,
    Finset.sum_eq_zero (fun e _ => by rw [tallyAt_apply]; exact if_neg fun h => dma_ne_bar _ (congrArg Prod.snd h.1).symm), Nat.zero_add]
  have h : ∀ e ∈ Finset.univ.erase d, (tallyAt (barCell e) () 1 : CellTallies nD τ sig Unit) (barCell c) () = if e = c then 1 else 0 := fun e _ => by
    rw [tallyAt_apply]
    by_cases h : e = c
    · subst h; rw [if_pos ⟨rfl, rfl⟩, if_pos rfl]
    · rw [if_neg fun h' => h (cell_dev h'.1).symm, if_neg h]
  rw [Finset.sum_congr rfl h, Finset.sum_ite_eq']
  exact if_congr (by simp only [Finset.mem_erase, Finset.mem_univ, and_true]; exact ne_comm) rfl rfl

/-- and the receive cell named by `d` on each other device a block's credit. -/
theorem owe_recv {c j : Dev nD} (hj : j ∈ Finset.univ.erase c) (d : Dev nD) : O₀ d (recvCell c j) () = if d = j then N else 0 := by
  unfold O₀
  rw [oweR_all, oweB_all, Pi.add_apply, Finsupp.add_apply, Finset.sum_apply, Finsupp.finset_sum_apply, Finset.sum_apply, Finsupp.finset_sum_apply,
    Finset.sum_eq_zero (s := Finset.univ.erase d) (f := fun e => (tallyAt (barCell e) () 1 : CellTallies nD τ sig Unit) (recvCell c j) ())
      (fun e _ => by rw [tallyAt_apply]; exact if_neg fun h => dma_ne_bar _ (congrArg Prod.snd h.1)), Nat.add_zero]
  by_cases h : d = j
  · subst h
    rw [if_pos rfl, Finset.sum_eq_single_of_mem c (Finset.mem_erase.mpr ⟨ne_of_erase hj, Finset.mem_univ _⟩)
      (fun e _ he => by rw [tallyAt_apply]; exact if_neg fun h' => he (cell_dev h'.1).symm), tallyAt_apply]
    exact if_pos ⟨rfl, rfl⟩
  · rw [if_neg h]
    exact Finset.sum_eq_zero fun e _ => by rw [tallyAt_apply]; exact if_neg fun h' => h (recv_cell_inj h'.1).2.symm

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owe_bar d c, Finset.sum_ite_mem, Finset.univ_inter,
    Finset.sum_const, Finset.card_erase_of_mem (Finset.mem_univ _)]
  rfl
theorem launch_recv {c j : Dev nD} (hj : j ∈ Finset.univ.erase c) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owe_recv hj d, Finset.sum_ite_eq' Finset.univ j fun _ => N,
    if_pos (Finset.mem_univ _)]

omit [FloatOps F] in
/-- A device's credits at launch: 31 barrier units, and a block's credit on the receive cell of each other device. -/
theorem creds (c : Dev nD) : (Pipeline.launchCred O₀ c : sProp 𝕄)
    ⊢ iprop(cred (tallyAt (barCell c) () 31) ∗ bigSep (Finset.univ.erase c) fun j => cred (tallyAt (recvCell c j) () N)) := by
  have hr : Set.InjOn (fun j : Dev nD => (.dma (recvS j) : SemLoc sig)) (Finset.univ.erase c : Finset (Dev nD)) := fun i _ j _ h => recv_inj (SemLoc.dma.inj h)
  have hn : (.reg barS : SemLoc sig) ∉ (Finset.univ.erase c).image fun j : Dev nD => (.dma (recvS j) : SemLoc sig) := fun h => by
    obtain ⟨j, _, hj⟩ := Finset.mem_image.mp h; exact dma_ne_bar _ hj
  unfold Pipeline.launchCred
  refine (bigSep_subset (Finset.subset_univ (insert (.reg barS : SemLoc sig) ((Finset.univ.erase c).image fun j : Dev nD => (.dma (recvS j) : SemLoc sig))))).trans ?_
  rw [bigSep_insert hn, bigSep_image_of_injOn hr]
  exact BIClass.sep_mono (Entails.of_eq (congrArg cred (launch_bar c)))
    (bigSep_mono fun j hj => Entails.of_eq (congrArg cred (launch_recv hj)))

/-! ## Tokens -/

omit [FloatOps F] in
/-- A pair of two devices is a device and another one. -/
theorem over_pairs (Φ : Dev nD → Dev nD → sProp 𝕄) :
    (bigSep pairs fun p => Φ p.1 p.2) = bigSep Finset.univ fun c : Dev nD => bigSep (Finset.univ.erase c) fun d => Φ c d := by
  unfold pairs
  rw [bigSep_filter, bigSep_univ_prod]
  refine congrArg _ (funext fun c => ?_)
  rw [show (Finset.univ.erase c : Finset (Dev nD)) = Finset.univ.filter fun d => c ≠ d from by
    ext d; simp only [Finset.mem_erase, Finset.mem_filter, Finset.mem_univ, and_true, true_and]; exact ne_comm, bigSep_filter]

omit [FloatOps F] in
theorem over_live (Φ : GSem nD τ sig → sProp 𝕄) : bigSep liveCells Φ = bigSep Finset.univ fun c : Dev nD => Φ (barCell c) := by
  unfold liveCells
  rw [bigSep_image_of_injOn fun c _ d _ h => cell_dev h]

omit [FloatOps F] in
theorem over_region (Φ : GSem nD τ sig → sProp 𝕄) : bigSep regionCells Φ
    = iprop((bigSep Finset.univ fun c : Dev nD => bigSep (Finset.univ.erase c) fun d => Φ (sendCell c d))
      ∗ bigSep Finset.univ fun c : Dev nD => bigSep (Finset.univ.erase c) fun d => Φ (recvCell c d)) := by
  unfold regionCells
  rw [bigSep_union, bigSep_image_of_injOn, bigSep_image_of_injOn, ← over_pairs (fun c d => Φ (sendCell c d)), ← over_pairs (fun c d => Φ (recvCell c d))]
  · rfl
  · exact fun p _ q _ h => Prod.ext (recv_cell_inj h).1 (recv_cell_inj h).2
  · exact fun p _ q _ h => Prod.ext (send_cell_inj h).1 (send_cell_inj h).2
  · refine Finset.disjoint_left.mpr fun g hs hr => ?_
    obtain ⟨p, _, rfl⟩ := Finset.mem_image.mp hs
    obtain ⟨q, _, hq⟩ := Finset.mem_image.mp hr
    exact send_ne_recv _ _ (SemLoc.dma.inj (congrArg Prod.snd hq)).symm

/-- The duties: each device's barrier unit on each other device, its block on that device's receive cell, and its own send cell. -/
@[irreducible] def duties : Finset (GSem nD τ sig × ℕ × Dev nD) :=
  (pairs.image fun p => (barCell p.2, 0, p.1)) ∪ ((pairs.image fun p => (recvCell p.2 p.1, 0, p.1)) ∪ pairs.image fun p => (sendCell p.1 p.2, 0, p.2))

omit [FloatOps F] in
theorem over_duties (Φ : GSem nD τ sig × ℕ × Dev nD → sProp 𝕄) : bigSep duties Φ
    = iprop((bigSep Finset.univ fun c : Dev nD => bigSep (Finset.univ.erase c) fun j => Φ (barCell j, 0, c))
      ∗ (bigSep Finset.univ fun c : Dev nD => bigSep (Finset.univ.erase c) fun j => Φ (recvCell j c, 0, c))
      ∗ bigSep Finset.univ fun c : Dev nD => bigSep (Finset.univ.erase c) fun j => Φ (sendCell c j, 0, j)) := by
  unfold duties
  rw [bigSep_union, bigSep_union, bigSep_image_of_injOn, bigSep_image_of_injOn, bigSep_image_of_injOn, ← over_pairs (fun c j => Φ (barCell j, 0, c)),
    ← over_pairs (fun c j => Φ (recvCell j c, 0, c)), ← over_pairs (fun c j => Φ (sendCell c j, 0, j))]
  · rfl
  · exact fun p _ q _ h => Prod.ext (send_cell_inj (congrArg Prod.fst h)).1 (send_cell_inj (congrArg Prod.fst h)).2
  · exact fun p _ q _ h => Prod.ext (recv_cell_inj (congrArg Prod.fst h)).2 (recv_cell_inj (congrArg Prod.fst h)).1
  · exact fun p _ q _ h => Prod.ext (congrArg (fun x : GSem nD τ sig × ℕ × Dev nD => x.2.2) h) (cell_dev (congrArg Prod.fst h))
  · refine Finset.disjoint_left.mpr fun g hs hr => ?_
    obtain ⟨p, _, rfl⟩ := Finset.mem_image.mp hs
    obtain ⟨q, _, hq⟩ := Finset.mem_image.mp hr
    exact send_ne_recv _ _ (SemLoc.dma.inj (congrArg (fun x : GSem nD τ sig × ℕ × Dev nD => x.1.2) hq))
  · refine Finset.disjoint_left.mpr fun g hs hr => ?_
    obtain ⟨p, _, rfl⟩ := Finset.mem_image.mp hs
    rcases Finset.mem_union.mp hr with hr | hr <;> obtain ⟨q, _, hq⟩ := Finset.mem_image.mp hr <;>
      exact dma_ne_bar _ (congrArg (fun x : GSem nD τ sig × ℕ × Dev nD => x.1.2) hq)

theorem live_region : Disjoint liveCells regionCells := by
  unfold liveCells regionCells
  refine Finset.disjoint_left.mpr fun g hs hr => ?_
  obtain ⟨p, _, rfl⟩ := Finset.mem_image.mp hs
  rcases Finset.mem_union.mp hr with hr | hr <;> obtain ⟨q, _, hq⟩ := Finset.mem_image.mp hr <;> exact dma_ne_bar _ (congrArg Prod.snd hq)

/-! ## The barrier's counter -/

theorem unscoped_sems : (Finset.univ.filter fun sm : SemLoc sig => ¬ sm.isScoped .tc) = {.reg barS} := by decide +kernel

omit [FloatOps F] in
theorem bar_counter (c : Dev nD) : (unscopedSems0 c : sProp 𝕄) = semVal (barCell c) 0 := by
  unfold unscopedSems0
  rw [unscoped_sems, bigSep_singleton]

/-! ## The state before the run -/

/-- The protocol's ghost state as allotted. -/
def seed : sProp 𝕄 := BI.own (ER (launchOf liveCells regionCells duties))

/-- A family of such states is a state of families. -/
theorem over_parts {M I : Type} [URA M] (s : Finset I) (A B C D E G H : I → sProp M) :
    bigSep s (fun c => iprop(A c ∗ (B c ∗ C c) ∗ (D c ∗ E c ∗ G c) ∗ H c))
      = iprop(bigSep s A ∗ (bigSep s B ∗ bigSep s C) ∗ (bigSep s D ∗ bigSep s E ∗ bigSep s G) ∗ bigSep s H) := by
  rw [bigSep_sep' s A, bigSep_sep' s (fun c => iprop(B c ∗ C c)), bigSep_sep' s B C, bigSep_sep' s (fun c => iprop(D c ∗ E c ∗ G c)) H,
    bigSep_sep' s D, bigSep_sep' s E G]

/-- A device's credits and what it owes. -/
def DUE (c : Dev nD) : sProp 𝕄 :=
  iprop(cred (tallyAt (barCell c) () 31) ∗ (bigSep (Finset.univ.erase c) fun j => cred (tallyAt (recvCell c j) () N)) ∗ ow c (O₀ c))

omit [FloatOps F] in
theorem due (c : Dev nD) : iprop(Pipeline.launchCred O₀ c ∗ owes (c : Thread nD τ) (O₀ c) ∅) ⊢ (DUE c : sProp 𝕄) := by
  unfold DUE
  iintro ⟨HC, HO⟩
  ihave HC := (creds c) $$ HC
  icases HC with ⟨HB, HR⟩
  isplitl [HB]; · iexact HB
  isplitl [HR]; · iexact HR
  iexists _; iexact HO

omit [FloatOps F] in
theorem over_GH : (bigSep Finset.univ fun c : Dev nD => (GH c : sProp 𝕄))
    = iprop((bigSep Finset.univ fun c : Dev nD => atPos ER (barCell c) 0 ∅ 0)
      ∗ ((bigSep Finset.univ fun c : Dev nD => bigSep (Finset.univ.erase c) fun j => openTok ER (recvCell c j))
        ∗ bigSep Finset.univ fun c : Dev nD => bigSep (Finset.univ.erase c) fun j => openTok ER (sendCell c j))
      ∗ ((bigSep Finset.univ fun c : Dev nD => bigSep (Finset.univ.erase c) fun j => dutyTok ER (barCell j) 0 c)
        ∗ (bigSep Finset.univ fun c : Dev nD => bigSep (Finset.univ.erase c) fun j => dutyTok ER (recvCell j c) 0 c)
        ∗ bigSep Finset.univ fun c : Dev nD => bigSep (Finset.univ.erase c) fun j => dutyTok ER (sendCell c j) 0 j)
      ∗ bigSep Finset.univ fun c : Dev nD => DUE c) :=
  over_parts Finset.univ (fun c : Dev nD => (atPos ER (barCell c) 0 ∅ 0 : sProp 𝕄))
    (fun c => bigSep (Finset.univ.erase c) fun j => openTok ER (recvCell c j)) (fun c => bigSep (Finset.univ.erase c) fun j => openTok ER (sendCell c j))
    (fun c => bigSep (Finset.univ.erase c) fun j => dutyTok ER (barCell j) 0 c) (fun c => bigSep (Finset.univ.erase c) fun j => dutyTok ER (recvCell j c) 0 c)
    (fun c => bigSep (Finset.univ.erase c) fun j => dutyTok ER (sendCell c j) 0 j) DUE

/-- What rides beside the arrays up to the call, -/
def Ebefore (c : Dev nD) : sProp 𝕄 := iprop(∃ κ : GSem nD τ sig → ℕ, invs m κ ∗ GH c)
/-- and after it. -/
def Eafter (c : Dev nD) : sProp 𝕄 := iprop(∃ κ : GSem nD τ sig → ℕ, invs m κ ∗ atPos ER (barCell c) 1 ∅ 0)

/-- The protocol's cells funded. -/
theorem funded : iprop((bigSep liveCells fun g => semVal g 0) ∗ seed)
    ⊢ (|={Set.univ}=> ∃ κ : GSem nD τ sig → ℕ, invs m κ ∗ (bigSep liveCells fun g => atPos ER g 0 ∅ 0) ∗ (bigSep regionCells fun g => openTok ER g)
      ∗ bigSep duties fun x => dutyTok ER x.1 x.2.1 x.2.2 : sProp 𝕄) := by
  refine BIBase.Entails.trans (fund_launch ER (sched m) live_region (fun _ _ => id) duties) (fupd_mono (exists_elim fun κ => ?_))
  refine BIBase.Entails.trans ?_ (exists_intro κ)
  unfold invs
  iintro ⟨%_, HI, Hr, Hrest⟩
  isplitl [HI Hr]
  · isplitl [HI]; · iexact HI
    iexact Hr
  iexact Hrest

omit [FloatOps F] in
theorem counters : (bigSep Finset.univ fun c : Dev nD => (unscopedSems0 c : sProp 𝕄)) = bigSep liveCells fun g => semVal g 0 :=
  (congrArg _ (funext fun c => bar_counter c)).trans (over_live fun g => semVal g 0).symm

omit [FloatOps F] in
theorem all_due : iprop((bigSep Finset.univ fun c : Dev nD => Pipeline.launchCred O₀ c) ∗ bigSep Finset.univ fun c : Dev nD => owes (c : Thread nD τ) (O₀ c) ∅)
    ⊢ (bigSep Finset.univ fun c : Dev nD => DUE c : sProp 𝕄) :=
  (Entails.of_eq (bigSep_sep' Finset.univ (fun c : Dev nD => Pipeline.launchCred O₀ c) (fun c : Dev nD => owes (c : Thread nD τ) (O₀ c) ∅)).symm).trans
    (bigSep_mono fun c _ => due c)

omit [FloatOps F] in
theorem all_GH : iprop((bigSep liveCells fun g => atPos ER g 0 ∅ 0) ∗ (bigSep regionCells fun g => openTok ER g)
      ∗ (bigSep duties fun x => dutyTok ER x.1 x.2.1 x.2.2) ∗ bigSep Finset.univ fun c : Dev nD => DUE c)
    ⊢ (bigSep Finset.univ fun c : Dev nD => GH c : sProp 𝕄) := by
  rw [over_GH, over_live fun g => atPos ER g 0 ∅ 0, over_region fun g => openTok ER g, over_duties fun x => dutyTok ER x.1 x.2.1 x.2.2]
  iintro ⟨Hat, ⟨HoS, HoR⟩, ⟨HdB, HdR, HdS⟩, HD⟩
  isplitl [Hat]; · iexact Hat
  isplitl [HoR HoS]
  · isplitl [HoR] <;> iassumption
  isplitl [HdB HdR HdS]
  · isplitl [HdB]; · iexact HdB
    isplitl [HdR] <;> iassumption
  iexact HD

theorem spread (κ : GSem nD τ sig → ℕ) : iprop(invs m κ ∗ bigSep Finset.univ fun c : Dev nD => GH c)
    ⊢ (bigSep Finset.univ fun c : Dev nD => Ebefore m c : sProp 𝕄) :=
  bigSep_with_persistent fun c _ => by
    unfold Ebefore
    iintro ⟨#HI, HG⟩
    iexists κ
    isplitr <;> iassumption

/-- The protocol started on every device at once. -/
theorem start : iprop((bigSep Finset.univ fun c : Dev nD => unscopedSems0 c) ∗ (bigSep Finset.univ fun c : Dev nD => owes (c : Thread nD τ) (O₀ c) ∅)
      ∗ (bigSep Finset.univ fun c : Dev nD => Pipeline.launchCred O₀ c) ∗ seed)
    ⊢ (|={Set.univ}=> bigSep Finset.univ fun c : Dev nD => Ebefore m c : sProp 𝕄) := by
  rw [counters]
  iintro ⟨HV, HO, HC, HS⟩
  imod (funded m) $$ [HV HS] with ⟨%κ, HI, Hat, Hop, Hdu⟩
  · isplitl [HV] <;> iassumption
  ihave HD := (all_due) $$ [HC HO]
  · isplitl [HC] <;> iassumption
  imodintro
  iapply (spread m κ)
  isplitl [HI]; · iexact HI
  iapply (all_GH)
  isplitl [Hat]; · iexact Hat
  isplitl [Hop]; · iexact Hop
  isplitl [Hdu] <;> iassumption

end Cert.A2A

end
-- ==== Proof.TableVal.lean ====
/-
  The table the program computes on each device before the call.
-/
module

public import proofs.«01_k».proof.Proof.Parts
public import proofs.«01_k».proof.Proof.Gen.KernelIdeal.Regions
public import Idealize.ShloMosaic.Lib.StableHlo.ReadAt

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : GSem nD τ sig → ℕ)

/-- The program's division that rounds down, on words, -/
def fdiv (a b : BitVec 32) : BitVec 32 :=
  Scalar.select
    (IntOp.andi
      (IntOp.cmpi .ne (if a = 0 then 0 else if a.msb = true then -1 else 1 : BitVec 32) (if b = 0 then 0 else if b.msb = true then -1 else 1))
      (IntOp.cmpi .ne (IntOp.remsi .host a b) 0#32))
    (IntOp.subi (IntOp.divsi .host a b) 1#32) (IntOp.divsi .host a b)
/-- the divisor its remainder takes (one for zero), -/
def fden (b : BitVec 32) : BitVec 32 := Scalar.select (IntOp.cmpi .eq b 0#32) 1#32 b
/-- and the remainder. -/
def frem (a b : BitVec 32) : BitVec 32 :=
  Scalar.select
    (IntOp.andi (IntOp.cmpi .ne (IntOp.cmpi .slt (IntOp.remsi .host a (fden b)) 0#32) (IntOp.cmpi .slt (fden b) 0#32))
      (IntOp.cmpi .ne (IntOp.remsi .host a (fden b)) 0#32))
    (IntOp.addi (IntOp.remsi .host a (fden b)) (fden b)) (IntOp.remsi .host a (fden b))

theorem v4_at (X : Valuation τ sig (Elt F)) (c : Dev nD) (i : S_.Idx) :
    (StableHlo.after (hostOps0 (F := F) c) X main_v4 : IVec S_ 32) i = IntOp.remui .host (IntOp.divui .host (Dev.word c) 1#32) 32#32 := by
  after_reads_at
  rfl
theorem c1_at (X : Valuation τ sig (Elt F)) (c : Dev nD) (i : S_.Idx) :
    (StableHlo.after (hostOps0 (F := F) c) X main_c_1 : IVec S_ 32) i = 4#32 := by
  after_reads_at
theorem v5_at (X : Valuation τ sig (Elt F)) (i : S_.Idx) :
    (StableHlo.after (hostOps0_1 (F := F)) X main_v5 : IVec S_ 32) i = fdiv ((X main_v4 : IVec S_ 32) i) ((X main_c_1 : IVec S_ 32) i) := by
  after_reads_at
  rfl
theorem v9_at (X : Valuation τ sig (Elt F)) (i : S8.Idx) :
    (StableHlo.after (hostOps0_2 (F := F)) X main_v9 : IVec S8 32) i
      = IntOp.addi (IntOp.addi ((X main_v5 : IVec S_ 32) Idealize.ShloMosaic.ix0) 1#32) (BitVec.ofNat 32 (i 0).val) := by
  after_reads_at
theorem c3_at (X : Valuation τ sig (Elt F)) (i : S_.Idx) :
    (StableHlo.after (hostOps0_2 (F := F)) X main_c_3 : IVec S_ 32) i = 8#32 := by
  after_reads_at
theorem v10_at (X : Valuation τ sig (Elt F)) (i : S8.Idx) :
    (StableHlo.after (hostOps0_3 (F := F)) X main_v10 : IVec S8 32) i
      = frem ((X main_v9 : IVec S8 32) i) ((X main_c_3 : IVec S_ 32) Idealize.ShloMosaic.ix0) := by
  after_reads_at
  rfl

/-- On words: device `c`'s entry `s` is its `s`-th group. -/
theorem word_tbl : ∀ (c : Dev nD) (s : Fin 8),
    frem (IntOp.addi (IntOp.addi (fdiv (IntOp.remui .host (IntOp.divui .host (Dev.word c) 1#32) 32#32) 4#32) 1#32) (BitVec.ofNat 32 s.val)) 8#32 = gw c s.val := by
  decide +kernel

/-- The table at the call. -/
theorem table_eq (m : (ℓ : Loc nD τ sig) → Buf (Elt F) ℓ) (c : Dev nD) : V4 m c main_v10 = tblv (F := F) c := by
  funext i
  have h5 := (v5_at (V1 m c) Idealize.ShloMosaic.ix0).trans
    (congrArg₂ fdiv (v4_at (V0 m c) c Idealize.ShloMosaic.ix0) (c1_at (V0 m c) c Idealize.ShloMosaic.ix0))
  refine (v10_at (V3 m c) i).trans ((congrArg₂ frem (v9_at (V2 m c) i) (c3_at (V2 m c) _)).trans ?_)
  exact (congrArg (fun w => frem (IntOp.addi (IntOp.addi w 1#32) (BitVec.ofNat 32 (i 0).val)) 8#32) h5).trans (word_tbl c (i 0))

end Cert.A2A

end
-- ==== Proof.Run.lean ====
/-
  The program's run on the whole mesh: every execution ends, each device's arguments as launched, its result the gathered
  block, and every counter of the machine at zero.
-/
module

public import proofs.«01_k».proof.Proof.Launch
public import proofs.«01_k».proof.Proof.TableVal
public import Idealize.ShloMosaic.Lib.Quiescent
public import Idealize.ShloMosaic.Lib.Pipeline.CollectiveSegs

@[expose] public section

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (κ : GSem nD τ sig → ℕ)

open Idealize.ShloMosaic.Pipeline (HostSeg Seg Dat)

/-! ## The call as an item of the run -/

/-- A device's buffers after the call: the result written. -/
def VE (c : Dev nD) : Valuation τ sig (Elt F) := Function.update (V4 m c) (Proc.devRef .tc main_v11) (ov m c)

theorem VE_result (c : Dev nD) : VE m c (Proc.devRef .tc main_v11) = ov m c := Function.update_self _ _ _
theorem VE_of (c : Dev nD) (b : DevRef τ sig) (h : b ≠ Proc.devRef .tc main_v11) : VE m c b = V4 m c b := Function.update_of_ne h _ _

theorem V4_arg0 (c : Dev nD) : V4 m c main_arg0 = xv m c :=
  (V4_of m c main_arg0 (by decide)).trans <| (V3_of m c main_arg0 (by decide)).trans <| (V2_of m c main_arg0 (by decide)).trans <| (V1_of m c main_arg0 (by decide)).trans rfl
theorem V4_arg1 (c : Dev nD) : V4 m c main_arg1 = wv m c :=
  (V4_of m c main_arg1 (by decide)).trans <| (V3_of m c main_arg1 (by decide)).trans <| (V2_of m c main_arg1 (by decide)).trans <| (V1_of m c main_arg1 (by decide)).trans rfl

/-- The call's four arrays. -/
def arrs : Finset (DevRef τ sig) := {Proc.devRef .tc main_arg0, Proc.devRef .tc main_arg1, Proc.devRef .tc main_v10, Proc.devRef .tc main_v11}

theorem arrs_sub : arrs ⊆ Pipeline.ucRefs τ sig := by decide +kernel
theorem arrs_1 : Proc.devRef .tc main_arg0 ∉ ({Proc.devRef .tc main_arg1, Proc.devRef .tc main_v10, Proc.devRef .tc main_v11} : Finset (DevRef τ sig)) := by decide +kernel
theorem arrs_2 : Proc.devRef .tc main_arg1 ∉ ({Proc.devRef .tc main_v10, Proc.devRef .tc main_v11} : Finset (DevRef τ sig)) := by decide +kernel
theorem arrs_3 : Proc.devRef .tc main_v10 ∉ ({Proc.devRef .tc main_v11} : Finset (DevRef τ sig)) := by decide +kernel

omit [FloatOps F] in
/-- They are held one by one. -/
theorem held_arrs (c : Dev nD) (V : Valuation τ sig (Elt F)) : (StableHlo.held (c : Thread nD τ) arrs V : sProp 𝕄)
    = iprop(((c : Thread nD τ).loc main_arg0 ↦{fullShare} V main_arg0) ∗ ((c : Thread nD τ).loc main_arg1 ↦{fullShare} V main_arg1)
      ∗ ((c : Thread nD τ).loc main_v10 ↦{fullShare} V main_v10) ∗ ((c : Thread nD τ).loc main_v11 ↦{fullShare} V main_v11)) := by
  unfold StableHlo.held arrs
  rw [bigSep_insert arrs_1, bigSep_insert arrs_2, bigSep_insert arrs_3, bigSep_singleton]
  rfl

theorem arrs_before (c : Dev nD) : (StableHlo.held (c : Thread nD τ) arrs (V4 m c) : sProp 𝕄) ⊢ iprop(∃ g, ARR m c g) := by
  refine BIBase.Entails.trans ?_ (exists_intro (V4 m c main_v11))
  rw [held_arrs, V4_arg0, V4_arg1, table_eq]
  unfold ARR
  exact .rfl
theorem arrs_after (c : Dev nD) : ARR m c (ov m c) ⊢ (StableHlo.held (c : Thread nD τ) arrs (VE m c) : sProp 𝕄) := by
  rw [held_arrs, VE_of m c (Proc.devRef .tc main_arg0) (by decide), VE_of m c (Proc.devRef .tc main_arg1) (by decide), VE_of m c (Proc.devRef .tc main_v10) (by decide),
    VE_result, V4_arg0, V4_arg1, table_eq]
  unfold ARR
  exact .rfl

theorem rest_same (c : Dev nD) : (StableHlo.held (c : Thread nD τ) (Pipeline.ucRefs τ sig \ arrs) (V4 m c) : sProp 𝕄)
    = StableHlo.held (c : Thread nD τ) (Pipeline.ucRefs τ sig \ arrs) (VE m c) :=
  StableHlo.held_congr (c : Thread nD τ) fun b hb => (VE_of m c b fun h => (Finset.mem_sdiff.mp hb).2 (by rw [h]; decide +kernel)).symm

/-- The call, as an item. -/
def callSeg : HostSeg (Ix := Unit) (Name := ℕ) (U := UU) (Lvl := ℕ) (pcfgs (F := F)) defs₀ 𝒱₀ L lv where
  prog := Prog.lift (.customCall (Pipeline.entry 0) ())
  pre c := iprop(StableHlo.held (c : Thread nD τ) (Pipeline.ucRefs τ sig) (V4 m c) ∗ Ebefore m c)
  post c := iprop((StableHlo.held (c : Thread nD τ) (Pipeline.ucRefs τ sig) (VE m c) ∗ Eafter m c) ∗ ow c 0)
  run c {β} k K := by
    show iprop((iprop(boundary (c : Thread nD τ) ∗ (StableHlo.held (c : Thread nD τ) (Pipeline.ucRefs τ sig) (VE m c) ∗ Eafter m c) ∗ ow c 0) -∗ WpH c (k ⟨⟩) K)
        ∗ boundary (c : Thread nD τ) ∗ (StableHlo.held (c : Thread nD τ) (Pipeline.ucRefs τ sig) (V4 m c) ∗ Ebefore m c) ∗ levAts L lv)
      ⊢ WpH c (.op (.customCall (Pipeline.entry 0) ()) k) K
    rw [StableHlo.held_sub_split (c : Thread nD τ) arrs_sub (V4 m c), StableHlo.held_sub_split (c : Thread nD τ) arrs_sub (VE m c), rest_same]
    unfold Ebefore
    iintro ⟨Hk, Hb, ⟨⟨HA, HR⟩, ⟨%κ, #HI, HG⟩⟩, #Hlv⟩
    ihave HA := (arrs_before m c) $$ HA
    iapply (region_run m κ c k K) $$ [Hb HA HG]
    · isplitr; · iexact HI
      isplitr; · iexact Hlv
      isplitl [Hb]; · iexact Hb
      isplitl [HA] <;> iassumption
    iintro ⟨Hb, HA, Hat, HO⟩
    iapply Hk
    isplitl [Hb]; · iexact Hb
    isplitr [HO]
    · isplitl [HA HR]
      · isplitl [HA]; · iapply (arrs_after m c); iexact HA
        iexact HR
      unfold Eafter
      iexists κ
      isplitr; · iexact HI
      iexact Hat
    iexact HO

/-! ## The launch -/

/-- Any admissible table and any record of the region's windows serve: the call's run does not go through them. -/
def tabs : (p : Fin 1) → (pcfgs (F := F) p).Adm := fun | 0 => adm 0 | ⟨_ + 1, h⟩ => absurd h (Nat.not_lt.2 (Nat.le_add_left _ _))
def dats (m : (ℓ : Loc nD τ sig) → Buf (Elt F) ℓ) (p : Fin 1) (c : Dev nD) : Dat τ (Elt F) Unit ℕ UU ℕ (Pipeline.pin (pcfgs (F := F)) tabs p) c where
  A _ := m _
  after := Dat.unnamed
  Φ _ := iprop(emp)
  q _ := fullShare
  owed _ := 0

def u₀ : UU := (initOf (Pipeline.cells (Pipeline.pin (pcfgs (F := F)) tabs) (cellOf_inj tabs)) (Pipeline.launchToks (Pipeline.pin (pcfgs (F := F)) tabs) (cellOf_inj tabs)),
  (launchOf liveCells regionCells duties, (1 : Counters)))

/-- The protocol's ghost state, at one device. -/
def G (c : Dev nD) : sProp 𝕄 := if c = 0 then seed else iprop(emp)

omit [FloatOps F] in
theorem all_G : (bigSep Finset.univ fun c : Dev nD => (G c : sProp 𝕄)) = seed := by
  unfold G
  exact (bigSep_filter Finset.univ (· = (0 : Dev nD)) (fun _ => seed)).symm.trans
    (by rw [Finset.filter_eq', if_pos (Finset.mem_univ _), bigSep_singleton])

/-- The program's items on device `c`. -/
def items (c : Dev nD) : List (Seg (pcfgs (F := F)) tabs (dats m) () defs₀ 𝒱₀ L lv) :=
  [.host (seg0 m 𝒱₀ L lv (fun _ => Ebefore m) c), .host (seg1 m 𝒱₀ L lv fun _ => Ebefore m), .host (seg2 m 𝒱₀ L lv fun _ => Ebefore m),
    .host (seg3 m 𝒱₀ L lv fun _ => Ebefore m), .host (callSeg m)]

/-- At the end: the buffers, and what rides beside them. -/
def Tend (c : Dev nD) : sProp 𝕄 := iprop(StableHlo.held (c : Thread nD τ) (Pipeline.ucRefs τ sig) (VE m c) ∗ Eafter m c)

/-- What a device's memory reads at the end. -/
def Read (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ s.mem ((c : Thread nD τ).loc main_v11) = ov m c) ∧ ∀ sm : SemLoc sig, sm.isScoped .tc = false → s.sem ((c : Thread nD τ), sm) = 0

theorem bar_end (c : Dev nD) : Eafter m c ⊢ (|={Set.univ}=> unscopedSems0 c : sProp 𝕄) := by
  unfold Eafter
  rw [bar_counter]
  exact exists_elim fun κ => close_bar m κ c

theorem bar_read (c : Dev nD) (s' : Phys nD τ sig (Elt F)) : iprop(Eafter m c ∗ SI s')
    ⊢ (|={Set.univ}=> iprop(⌜∀ sm : SemLoc sig, sm.isScoped .tc = false → s'.mem.sem ((c : Thread nD τ), sm) = 0⌝ ∗ SI s') : sProp 𝕄) :=
  Pipeline.unscopedSems0_read (bar_end m c) s'

theorem finish (c : Dev nD) (s' : Phys nD τ sig (Elt F)) : iprop(Tend m c ∗ SI s') ⊢ (|={Set.univ}=> iprop(⌜Read m c s'.mem⌝ ∗ SI s') : sProp 𝕄) := by
  unfold Tend StableHlo.held
  iintro ⟨⟨Hh, HE⟩, HSI⟩
  ihave Hr := (pointsTo_read_all (Pipeline.ucRefs τ sig) (fun b => ((c : Thread nD τ).1, b)) (VE m c) s') $$ [Hh HSI]
  · isplitl [Hh] <;> iassumption
  icases Hr with ⟨%h, HSI⟩
  imod (bar_read m c s') $$ [HE HSI] with ⟨%hs, HSI⟩
  · isplitl [HE] <;> iassumption
  imodintro
  isplitr
  · ipureintro
    exact ⟨⟨(h (Proc.devRef .tc main_arg0) (Finset.mem_filter.mpr ⟨StableHlo.devRef_mem_tcRefs main_arg0, by decide⟩)).trans ((VE_of m c _ (by decide)).trans (V4_arg0 m c)),
      (h (Proc.devRef .tc main_arg1) (Finset.mem_filter.mpr ⟨StableHlo.devRef_mem_tcRefs main_arg1, by decide⟩)).trans ((VE_of m c _ (by decide)).trans (V4_arg1 m c)),
      (h (Proc.devRef .tc main_v11) (Finset.mem_filter.mpr ⟨StableHlo.devRef_mem_tcRefs main_v11, by decide⟩)).trans (VE_result m c)⟩, hs⟩
  · iexact HSI

theorem split_u₀ : (ownU (u₀ (F := F)) : sProp 𝕄)
    ⊢ |={Set.univ}=> iprop(BI.own (EP (initOf (Pipeline.cells (Pipeline.pin (pcfgs (F := F)) tabs) (cellOf_inj tabs))
        (Pipeline.launchToks (Pipeline.pin (pcfgs (F := F)) tabs) (cellOf_inj tabs)))) ∗ bigSep Finset.univ fun c : Dev nD => G c) := by
  rw [all_G]
  unfold u₀ seed
  exact (ownU_pair _ _).trans fupd_intro

/-- The state each device starts in. -/
def Tstart (c : Dev nD) : sProp 𝕄 := iprop(StableHlo.held (c : Thread nD τ) (Pipeline.ucRefs τ sig) (V0 m c) ∗ Ebefore m c)

theorem spread_start (ρ : Dev nD → PrngReg) : iprop((bigSep Finset.univ fun c : Dev nD => iprop(unscopedBufs c (fun b => m ((c : Thread nD τ).loc b)) ∗ unscopedSems0 c
      ∗ owes (c : Thread nD τ) (O₀ c) ∅ ∗ Pipeline.launchCred O₀ c ∗ prngReg c (ρ c) ∗ G c)) ∗ levAts L lv)
    ⊢ (|={Set.univ}=> bigSep Finset.univ fun c : Dev nD => Tstart m c : sProp 𝕄) := by
  unfold Tstart
  rw [bigSep_sep' Finset.univ (fun c : Dev nD => StableHlo.held (c : Thread nD τ) (Pipeline.ucRefs τ sig) (V0 m c)) (fun c => Ebefore m c),
    bigSep_sep' Finset.univ (fun c : Dev nD => unscopedBufs c (fun b => m ((c : Thread nD τ).loc b))), bigSep_sep' Finset.univ (fun c : Dev nD => unscopedSems0 c),
    bigSep_sep' Finset.univ (fun c : Dev nD => owes (c : Thread nD τ) (O₀ c) ∅), bigSep_sep' Finset.univ (fun c : Dev nD => Pipeline.launchCred O₀ c),
    bigSep_sep' Finset.univ (fun c : Dev nD => prngReg c (ρ c)), all_G]
  iintro ⟨⟨HB, HV, HO, HC, HP, HS⟩, Hlv⟩
  imod (start m) $$ [HV HO HC HS] with HE
  · isplitl [HV]; · iexact HV
    isplitl [HO]; · iexact HO
    isplitl [HC]; · iexact HC
    iexact HS
  imodintro
  isplitl [HB]
  · iapply (show (bigSep Finset.univ fun c : Dev nD => unscopedBufs c (fun b => m ((c : Thread nD τ).loc b)))
        ⊢ (bigSep Finset.univ fun c : Dev nD => StableHlo.held (c : Thread nD τ) (Pipeline.ucRefs τ sig) (V0 m c) : sProp 𝕄) from
      bigSep_mono fun c _ => by
        rw [← Pipeline.unscopedBufs_held (Ix := Unit) (Name := ℕ) (U := UU) (Lvl := ℕ) c (V0 m c)]; exact BI.Entails.refl _)
    iexact HB
  iexact HE

theorem chain_items (c : Dev nD) : Seg.ChainsAt c (Tstart m) (items m c) fun c => iprop(Tend m c ∗ ow c 0) := by
  unfold items Tstart Tend
  exact ⟨.rfl, .rfl, .rfl, .rfl, .rfl, .rfl⟩

set_option backward.isDefEq.respectTransparency.types false in
/-- Every execution of the program ends, with each device's arguments unchanged, its result `ov`, and every counter at zero. -/
theorem run_main (ρ : Dev nD → PrngReg) : θ_run defs (onTc (τ := τ) (main (F := F))) ⟨m, fun _ => 0, ρ⟩ (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v11) = ov m c) ∧ r.2.sem = fun _ => 0) :=
  Pipeline.θ_run_regions_kit_dev_sems (pcfgs (F := F)) tabs (dats m) () (cellOf_inj tabs) EP defs₀ 𝒱₀ L lv m ρ main (items m)
    (fun c Q => by
      rewrite [main_chain c, Seg.run_eq_chain,
        show (items m c).map Seg.prog = [StableHlo.seq (hostOps0 c), StableHlo.seq hostOps0_1, StableHlo.seq hostOps0_2, StableHlo.seq hostOps0_3,
          Prog.lift (.customCall (Pipeline.entry 0) ())] from rfl]
      dsimp (config := { failIfUnchanged := false }) only
      exact .rfl)
    (fun c => by unfold items; simp only [Seg.pipes_host, Seg.pipes_nil]; decide) O₀ L_of_ne G (u₀ (F := F)) (split_u₀ (F := F))
    (T₀ := Tstart m) (Tₙ := Tend m) (chain_items m) (spread_start m ρ) (Read m) (finish m)
    (hQ := fun s h hs => ⟨fun c => (h c).1, sem_eq_zero hs fun c sm hsm => (h c).2 sm hsm⟩)

end Cert.A2A

end
-- ==== Proof.Value.lean ====
module

public import proofs.«01_k».proof.Proof.Run
public import proofs.«01_k».proof.Proof.Gen.ReferenceIdeal.Run
public import Idealize.ShloMosaic.Lib.KernelVsHost
public import Idealize.ShloMosaic.Lib.StackMember
public import Idealize.ShloMosaic.Lib.Layout

@[expose] public section

noncomputable section

namespace Cert.A2A

open Cert.KernelIdeal Cert.KernelIdeal.Gen
open Idealize.ShloMosaic hiding ix2 ix3
open Idealize.ShloMosaic.TcCoe
open Idealize.ShloMosaic.ValueIdx
open Idealize.ShloMosaic.StackMember

/-! # The values, over the extended reals

What the kernel leaves on device `d` and what the reference returns are, entry by entry, the same activation of the
same row-by-column sum. -/

/-- The four constants of the activation, as extended reals. -/
def kHalf : Ideal .f32 := FloatOps.ofBits (F := Ideal) .f32 0x3F000000#32
def kOne : Ideal .f32 := FloatOps.ofBits (F := Ideal) .f32 0x3F800000#32
def kCube : Ideal .f32 := FloatOps.ofBits (F := Ideal) .f32 0x3D372713#32
def kScale : Ideal .f32 := FloatOps.ofBits (F := Ideal) .f32 0x3F4C422A#32

/-- The activation, its cube grouped as the kernel groups it; -/
def geluK (y : EReal) : EReal := (kHalf * y) * (kOne + Ideal.tanh (kScale * (y + ((kCube * y) * y) * y)))

/-- and as the reference groups it. -/
def geluR (y : EReal) : EReal := (kHalf * y) * (kOne + Ideal.tanh (kScale * (y + kCube * ((y * y) * y))))

/-- The two are one function: multiplication of extended reals is associative. -/
theorem geluK_eq (y : EReal) : geluK y = geluR y := by
  unfold geluK geluR
  rw [mul_assoc (kCube * y : EReal) y y, mul_assoc (kCube : EReal) y (y * y), ← mul_assoc y y y]

/-! ## The kernel's tile -/

/-- The kernel's activation of a vector, read at an entry. -/
theorem actK_apply {s : Shape} (D : FVec Ideal s .f32) (i : s.Idx) :
    mulf (mulf (broadcast s (Scalar.ofBits (F := Ideal) .f32 0x3F000000#32)) D)
      (addf (broadcast s (Scalar.ofBits (F := Ideal) .f32 0x3F800000#32))
        (tanh (mulf (broadcast s (Scalar.ofBits (F := Ideal) .f32 0x3F4C422A#32))
          (addf D (mulf (mulf (mulf (broadcast s (Scalar.ofBits (F := Ideal) .f32 0x3D372713#32)) D) D) D))))) i
      = geluK (D i) := rfl

/-- Entry `(r, j)` of the tile computed from `x` rows `x` and weight columns `w`. -/
theorem pay_apply (x : Vec Ideal S256x8192 .f32) (w : Vec Ideal S8192x512 .f32) (r : Fin 256) (j : Fin 512) :
    k0_pay3 (F := Ideal) (k0_pay2 x) w (ix3 (0 : Fin 1) r j)
      = geluK (∑ k : Fin 8192, (x (ix2 r k) : EReal) * w (ix2 k j)) := by
  have hd : ∀ (a : FVec Ideal S256x8192 .bf16) (b : FVec Ideal S8192x512 .bf16),
      matmul dot_S256x8192_S8192x512_S256x512_1_0_0_1_n_n none a b (constant S256x512 .f32 0x00000000#32) (ix2 r j)
        = ∑ k : Fin 8192, (a (ix2 r k) : EReal) * b (ix2 k j) := fun a b =>
    (congrFun (matmul_zero_eq_dotGeneral _ none a b) (ix2 r j)).trans (dotGeneral_plain_apply none a b r j)
  have h2 : k0_pay2 (F := Ideal) x = truncf .bf16 x bitsLt_bf16_f32 := by
    unfold k0_pay2
    simp only [shapeCast_self]
  rw [h2]
  unfold k0_pay3
  simp only [shapeCast_self]
  have hi : (fun a : Fin 2 => (ix3 (0 : Fin 1) r j) (Fin.succ a) : S256x512.Idx) = ix2 r j := by
    funext a; fin_cases a <;> rfl
  refine (shapeCast_addUnit_apply ![256, 512] _ _ (ix3 (0 : Fin 1) r j)).trans ?_
  refine (congrArg _ hi).trans ?_
  refine (actK_apply _ (ix2 r j)).trans ?_
  exact congrArg geluK (hd _ _)

variable (m : (ℓ : Loc nD τ sig) → Buf (Elt Ideal) ℓ)

/-- Column `j` of group `g`'s weights is column `512 g + j` of the weights. -/
theorem wtile_apply (c : Dev nD) (g : Fin 8) (k : Fin 8192) (j : Fin 512) :
    wtile m c g (ix2 k j) = wv m c (ix2 k (⟨512 * g.val + j.val, by omega⟩ : Fin 4096)) := by
  unfold wtile
  refine congrArg (wv m c) ?_
  funext a
  refine Fin.ext ?_
  fin_cases a
  · show 0 + 1 * k.val = k.val
    omega
  · show 512 * g.val + 1 * j.val = 512 * g.val + j.val
    omega

/-- Entry `(r, j)` of device `c`'s tile of group `g`. -/
theorem ytile_apply (c : Dev nD) (g : Fin 8) (r : Fin 256) (j : Fin 512) :
    ytile m c g (ix3 (0 : Fin 1) r j)
      = geluK (∑ k : Fin 8192, (xv m c (ix2 r k) : EReal)
          * wv m c (ix2 k (⟨512 * g.val + j.val, by omega⟩ : Fin 4096))) := by
  unfold ytile
  rw [pay_apply]
  simp only [wtile_apply]

/-! ## The reference's result -/

/-- The reference's result as one array of its two arguments. -/
def refv (X : Vec Ideal Cert.ReferenceIdeal.S8192x8192 .f32) (W : Vec Ideal Cert.ReferenceIdeal.S8192x4096 .f32) :
    Vec Ideal Cert.ReferenceIdeal.S8192x4096 .f32 :=
  fun i => geluR (∑ k : Fin 8192, (X (ix2 (i 0 : Fin 8192) k) : EReal) * W (ix2 k (i 1 : Fin 4096)))

/-- The reference's composed term of its arguments is that array. -/
theorem refv_eq (X : Vec Ideal Cert.ReferenceIdeal.S8192x8192 .f32) (W : Vec Ideal Cert.ReferenceIdeal.S8192x4096 .f32)
    (D : FVec Ideal Cert.ReferenceIdeal.S8192x4096 .f32)
    (hD : D = Host.dotGeneral (F := Ideal) (φ₁ := .f32) (φ₂ := .f32)
      Cert.ReferenceIdeal.dot_S8192x8192_S8192x4096_S8192x4096_1_0_0_1_n_n none X W)
    (b : BitVec 32 → FVec Ideal Cert.ReferenceIdeal.S8192x4096 .f32)
    (hb : ∀ w i, b w i = FloatOps.ofBits (F := Ideal) .f32 w) :
    (mulf (mulf (b 0x3F000000#32) D) (addf (b 0x3F800000#32) (Host.tanh (mulf (b 0x3F4C422A#32)
      (addf D (mulf (b 0x3D372713#32) (mulf (mulf D D) D)))))) : FVec Ideal Cert.ReferenceIdeal.S8192x4096 .f32)
      = refv X W := by
  funext i
  have hi : i = ix2 (i 0 : Fin 8192) (i 1 : Fin 4096) := by
    funext a; fin_cases a <;> rfl
  have hd : D i = ∑ k : Fin 8192, (X (ix2 (i 0 : Fin 8192) k) : EReal) * W (ix2 k (i 1 : Fin 4096)) := by
    rw [hD, hi]
    exact dotGeneral_plain_apply (φ₁ := .f32) (φ₂ := .f32) none X W (i 0 : Fin 8192) (i 1 : Fin 4096)
  unfold refv
  rw [← hd]
  show (b 0x3F000000#32 i * D i : EReal) * (b 0x3F800000#32 i + Ideal.tanh (b 0x3F4C422A#32 i
    * (D i + b 0x3D372713#32 i * ((D i * D i) * D i)))) = _
  rw [hb, hb, hb, hb]
  rfl

/-! ## The two agree -/

/-- Where every device holds its rows of `X` and all of `W`, device `d`'s output block is its columns of the
    reference's result. -/
theorem ov_eq (X : Vec Ideal Cert.ReferenceIdeal.S8192x8192 .f32) (W : Vec Ideal Cert.ReferenceIdeal.S8192x4096 .f32)
    (hx : ∀ c : Dev nD, xv m c = Layout.block ⟨2, ![256, 8192]⟩ ⟨2, ![8192, 8192]⟩ 0 32 c X)
    (hw : ∀ c : Dev nD, wv m c = W) (d : Dev nD) :
    ov m d = Layout.block ⟨2, ![8192, 128]⟩ ⟨2, ![8192, 4096]⟩ 1 32 d (refv X W) := by
  funext i
  have hr : (i 0).val < 8192 := (i 0).isLt
  have hl : (i 1).val < 128 := (i 1).isLt
  have hdv : d.val < 32 := d.isLt
  rw [Layout.block_apply]
  unfold ov refv
  rw [ytile_apply, geluK_eq]
  refine congrArg geluR (Finset.sum_congr rfl fun k _ => ?_)
  rw [hx, hw, Layout.block_apply]
  refine congrArg₂ (fun a b : EReal => a * b) (congrArg X ?_) (congrArg W ?_)
  · funext a
    refine Fin.ext ?_
    fin_cases a
    · show (i 0).val / 256 * 256 + (i 0).val % 256 = (i 0).val
      omega
    · rfl
  · funext a
    refine Fin.ext ?_
    fin_cases a
    · rfl
    · show 512 * (d.val / 4) + (128 * (d.val % 4) + (i 1).val) = d.val * 128 + (i 1).val
      omega

end Cert.A2A

end
-- ==== Proof.Same.lean ====
module

public import proofs.«01_k».proof.Proof.Gen.Kernel
public import proofs.«01_k».proof.Proof.Gen.KernelIdeal
public import Idealize.ShloMosaic.Adequacy

@[expose] public section

noncomputable section

namespace Cert.A2A

open Idealize.ShloMosaic Idealize.SL.Sem

/-! # The two programs are one text

`Kernel` and `KernelIdeal` are printed of one module with no rewrite between them, so a run of the one is a run of the
other at the same float values. -/

variable {F : FTy → Type} [FloatOps F]

set_option maxHeartbeats 4000000 in
/-- The two tables of kernel bodies agree, at the one label there is. -/
theorem bodies_eq : Cert.Kernel.defs₀ (F := F) = Cert.KernelIdeal.defs₀ (F := F) := by
  funext p ℓ a
  cases p with
  | tc =>
    obtain ⟨n, hn⟩ := ℓ
    obtain rfl : n = 0 := by
      have h : n < 1 := hn
      omega
    obtain ⟨t, s⟩ := a
    exact id rfl
  | scScalar _ => exact id rfl
  | scVector _ _ => exact id rfl

set_option maxHeartbeats 4000000 in
/-- So do the tables with the pipelines' labels added. -/
theorem defs_eq : Cert.Kernel.defs (F := F) = Cert.KernelIdeal.defs (F := F) :=
  congrArg (Pipeline.defs (Cert.KernelIdeal.pcfgs (F := F))) bodies_eq

set_option maxHeartbeats 4000000 in
/-- The two entry programs agree. -/
theorem main_eq : Cert.Kernel.main (F := F) = Cert.KernelIdeal.main (F := F) := id rfl

/-- A run under equal tables, of equal programs. -/
theorem run_congr {nD : Nat} {τ : Topo} {sig : RefSig} {Val : EltTy → Type} {Λ : Labels} {D D' : Defs nD τ sig Val Λ}
    {P P' : Dev nD → Prog (TpuEff nD τ sig Val Λ .tc) PUnit} (hD : D' = D) (hP : P' = P) {s : MemSt nD τ sig Val}
    {Q : PUnit × MemSt nD τ sig Val → Prop} (h : θ_run D (onTc (τ := τ) P) s Q) : θ_run D' (onTc (τ := τ) P') s Q := by
  subst hD
  subst hP
  exact h

end Cert.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.Run
public import proofs.«01_k».proof.Proof.Value
public import proofs.«01_k».proof.Proof.Same
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The run, its result dropped: at any float values the program ends from any memory with its arguments kept and every
    counter zero. -/
theorem frame_run {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r => (∀ c : Dev Cert.KernelIdeal.nD,
        r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
          = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => ⟨(h.1 c).1, (h.1 c).2.1⟩, h.2⟩)
    (Cert.A2A.run_main (F := F) m ρ)

/-- The extended reals' frame. -/
theorem frame_kernelIdeal : Cert.quiescent_KernelIdeal := fun m ρ _ => frame_run (F := Ideal) m ρ

set_option maxHeartbeats 8000000 in
/-- The kernel at bit patterns: its text is the one the run is proved of, so the run at bit patterns is its run. -/
theorem frame_kernel : Cert.quiescent_Kernel := fun m ρ _ =>
  Cert.A2A.run_congr Cert.A2A.defs_eq Cert.A2A.main_eq (frame_run (F := Bits) m ρ)

/-- The reference runs to the end and keeps its arguments; it has no counters. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems rfl r.2⟩)
    (Cert.ReferenceIdeal.Value.run (F := Ideal) m ρ)

/-- Every device's output is its columns of what the reference returns of the whole arrays. -/
theorem algebraic : Cert.algebraic_KernelIdeal_ReferenceIdeal := fun m ρ m' ρ' _ hin =>
  ⟨Cert.A2A.refv (m' (((0 : Dev Cert.ReferenceIdeal.nD).tc : Thread Cert.ReferenceIdeal.nD Cert.ReferenceIdeal.τ).loc
      Cert.ReferenceIdeal.main_arg0))
    (m' (((0 : Dev Cert.ReferenceIdeal.nD).tc : Thread Cert.ReferenceIdeal.nD Cert.ReferenceIdeal.τ).loc
      Cert.ReferenceIdeal.main_arg1)),
    (θ_run Cert.KernelIdeal.defs _ _).mono
      (fun _ h c => ⟨(h.1 c).2.2.trans (Cert.A2A.ov_eq m _ _ (fun d => (hin d).1) (fun d => (hin d).2) c),
        (h.1 c).1, (h.1 c).2.1⟩)
      (Cert.A2A.run_main (F := Ideal) m ρ),
    (θ_run Cert.ReferenceIdeal.defs _ _).mono
      (fun _ h => ⟨(h 0).1.trans (Cert.A2A.refv_eq _ _ _ rfl
          (fun w => broadcastInDim Cert.ReferenceIdeal.S8192x4096 ![] Cert.ReferenceIdeal.Facts₀.bcast_S_S8192x4096
            (constant Cert.ReferenceIdeal.S_ .f32 w)) (fun _ _ => rfl)),
        (h 0).2.1, (h 0).2.2⟩)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_reference, trivial, algebraic⟩

end Cert.Proof

end
